-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_some_denominator [hPre_some_denominator : Cert.Pre_some_denominator.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_some_denominator.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_some_denominator [hPre_some_denominator : Cert.Pre_some_denominator.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_some_denominator.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_some_denominator_sample [hPre_some_denominator_sample : Cert.Pre_some_denominator_sample.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_some_denominator_sample.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18)) (m ((c.tc : Thread Cert.Kernel4Ideal.nD Cert.Kernel4Ideal.τ).loc Cert.Kernel4Ideal.main_arg19)) (m ((c.tc : Thread Cert.Kernel4Ideal.nD Cert.Kernel4Ideal.τ).loc Cert.Kernel4Ideal.main_arg20))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_some_denominator_sample [hPre_some_denominator_sample : Cert.Pre_some_denominator_sample.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_some_denominator_sample.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18)) (m ((c.tc : Thread Cert.Reference4Ideal.nD Cert.Reference4Ideal.τ).loc Cert.Reference4Ideal.main_arg19)) (m ((c.tc : Thread Cert.Reference4Ideal.nD Cert.Reference4Ideal.τ).loc Cert.Reference4Ideal.main_arg20))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Kernel2Ideal_pre_some_denominator [hKernel2Ideal : Cert.Kernel2Ideal.Facts] [hPre_some_denominator : Cert.Pre_some_denominator.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_some_denominator m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def quiescent_Reference2Ideal_pre_some_denominator [hReference2Ideal : Cert.Reference2Ideal.Facts] [hPre_some_denominator : Cert.Pre_some_denominator.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_some_denominator m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20))
      ∧ r.2.sem = fun _ => 0)

def quiescent_Kernel4Ideal_pre_some_denominator_sample [hKernel4Ideal : Cert.Kernel4Ideal.Facts] [hPre_some_denominator_sample : Cert.Pre_some_denominator_sample.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_some_denominator_sample m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20))
      ∧ r.2.sem = fun _ => 0)

def quiescent_Reference4Ideal_pre_some_denominator_sample [hReference4Ideal : Cert.Reference4Ideal.Facts] [hPre_some_denominator_sample : Cert.Pre_some_denominator_sample.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_some_denominator_sample m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel2_Kernel2Ideal : Prop :=
  True

def algebraic_Kernel2Ideal_Reference2Ideal_pre_some_denominator [hKernel2Ideal : Cert.Kernel2Ideal.Facts] [hReference2Ideal : Cert.Reference2Ideal.Facts] [hPre_some_denominator : Cert.Pre_some_denominator.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_some_denominator m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)) →
    ∃ (v0 : (c : Dev Cert.Kernel2Ideal.nD) → Buf (Elt Ideal) ((c.tc : Thread Cert.Kernel2Ideal.nD Cert.Kernel2Ideal.τ).loc Cert.Kernel2Ideal.main_v33)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v102) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v10)) (v1 : (c : Dev Cert.Kernel3Ideal.nD) → Buf (Elt Ideal) ((c.tc : Thread Cert.Kernel3Ideal.nD Cert.Kernel3Ideal.τ).loc Cert.Kernel3Ideal.main_v17)) (v2 : (c : Dev Cert.Kernel3Ideal.nD) → Buf (Elt Ideal) ((c.tc : Thread Cert.Kernel3Ideal.nD Cert.Kernel3Ideal.τ).loc Cert.Kernel3Ideal.main_v24)) (v3 : (c : Dev Cert.Kernel3Ideal.nD) → Buf (Elt Ideal) ((c.tc : Thread Cert.Kernel3Ideal.nD Cert.Kernel3Ideal.τ).loc Cert.Kernel3Ideal.main_v70)) (v4 : (c : Dev Cert.Kernel3Ideal.nD) → Buf (Elt Ideal) ((c.tc : Thread Cert.Kernel3Ideal.nD Cert.Kernel3Ideal.τ).loc Cert.Kernel3Ideal.main_v3_10)) (v5 : (c : Dev Cert.Kernel3Ideal.nD) → Buf (Elt Ideal) ((c.tc : Thread Cert.Kernel3Ideal.nD Cert.Kernel3Ideal.τ).loc Cert.Kernel3Ideal.main_v39)) (v6 : (c : Dev Cert.Kernel3Ideal.nD) → Buf (Elt Ideal) ((c.tc : Thread Cert.Kernel3Ideal.nD Cert.Kernel3Ideal.τ).loc Cert.Kernel3Ideal.main_v54)) (v7 : (c : Dev Cert.Kernel3Ideal.nD) → Buf (Elt Ideal) ((c.tc : Thread Cert.Kernel3Ideal.nD Cert.Kernel3Ideal.τ).loc Cert.Kernel3Ideal.main_v69)) (v8 : (c : Dev Cert.Kernel3Ideal.nD) → Buf (Elt Ideal) ((c.tc : Thread Cert.Kernel3Ideal.nD Cert.Kernel3Ideal.τ).loc Cert.Kernel3Ideal.main_v71)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_v17) = v1 c
          ∧ r.2.mem ((c.tc : Thread Cert.Kernel3Ideal.nD Cert.Kernel3Ideal.τ).loc Cert.Kernel3Ideal.main_v24) = v2 c
          ∧ r.2.mem ((c.tc : Thread Cert.Kernel3Ideal.nD Cert.Kernel3Ideal.τ).loc Cert.Kernel3Ideal.main_v70) = v3 c
          ∧ r.2.mem ((c.tc : Thread Cert.Kernel3Ideal.nD Cert.Kernel3Ideal.τ).loc Cert.Kernel3Ideal.main_v3_10) = v4 c
          ∧ r.2.mem ((c.tc : Thread Cert.Kernel3Ideal.nD Cert.Kernel3Ideal.τ).loc Cert.Kernel3Ideal.main_v39) = v5 c
          ∧ r.2.mem ((c.tc : Thread Cert.Kernel3Ideal.nD Cert.Kernel3Ideal.τ).loc Cert.Kernel3Ideal.main_v54) = v6 c
          ∧ r.2.mem ((c.tc : Thread Cert.Kernel3Ideal.nD Cert.Kernel3Ideal.τ).loc Cert.Kernel3Ideal.main_v69) = v7 c
          ∧ r.2.mem ((c.tc : Thread Cert.Kernel3Ideal.nD Cert.Kernel3Ideal.τ).loc Cert.Kernel3Ideal.main_v71) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_v44) = v3 c
          ∧ r.2.mem ((c.tc : Thread Cert.Reference3Ideal.nD Cert.Reference3Ideal.τ).loc Cert.Reference3Ideal.main_v56) = v4 c
          ∧ r.2.mem ((c.tc : Thread Cert.Reference3Ideal.nD Cert.Reference3Ideal.τ).loc Cert.Reference3Ideal.main_v25) = v5 c
          ∧ r.2.mem ((c.tc : Thread Cert.Reference3Ideal.nD Cert.Reference3Ideal.τ).loc Cert.Reference3Ideal.main_v30) = v6 c
          ∧ r.2.mem ((c.tc : Thread Cert.Reference3Ideal.nD Cert.Reference3Ideal.τ).loc Cert.Reference3Ideal.main_v35) = v7 c
          ∧ r.2.mem ((c.tc : Thread Cert.Reference3Ideal.nD Cert.Reference3Ideal.τ).loc Cert.Reference3Ideal.main_v57) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_some_denominator_sample [hKernel4Ideal : Cert.Kernel4Ideal.Facts] [hReference4Ideal : Cert.Reference4Ideal.Facts] [hPre_some_denominator_sample : Cert.Pre_some_denominator_sample.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_some_denominator_sample m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)) →
    ∃ (v0 : (c : Dev Cert.Kernel4Ideal.nD) → Buf (Elt Ideal) ((c.tc : Thread Cert.Kernel4Ideal.nD Cert.Kernel4Ideal.τ).loc Cert.Kernel4Ideal.main_v33)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v33) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v102) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v18)) (v1 : (c : Dev Cert.Kernel5Ideal.nD) → Buf (Elt Ideal) ((c.tc : Thread Cert.Kernel5Ideal.nD Cert.Kernel5Ideal.τ).loc Cert.Kernel5Ideal.main_v20)) (v2 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_v20) = v1 c
          ∧ r.2.mem ((c.tc : Thread Cert.Kernel5Ideal.nD Cert.Kernel5Ideal.τ).loc Cert.Kernel5Ideal.main_v22) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v38) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v6) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_some_denominator : Cert.Pre_some_denominator.Facts) (hPre_some_denominator_sample : Cert.Pre_some_denominator_sample.Facts),
    quiescent_Kernel2 (hKernel2 := hKernel2)
    ∧ quiescent_Kernel2Ideal (hKernel2Ideal := hKernel2Ideal)
    ∧ quiescent_Kernel2Ideal_pre_some_denominator (hKernel2Ideal := hKernel2Ideal) (hPre_some_denominator := hPre_some_denominator)
    ∧ quiescent_Reference2Ideal (hReference2Ideal := hReference2Ideal)
    ∧ quiescent_Reference2Ideal_pre_some_denominator (hReference2Ideal := hReference2Ideal) (hPre_some_denominator := hPre_some_denominator)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_some_denominator_sample (hKernel4Ideal := hKernel4Ideal) (hPre_some_denominator_sample := hPre_some_denominator_sample)
    ∧ quiescent_Reference4Ideal (hReference4Ideal := hReference4Ideal)
    ∧ quiescent_Reference4Ideal_pre_some_denominator_sample (hReference4Ideal := hReference4Ideal) (hPre_some_denominator_sample := hPre_some_denominator_sample)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel2_Kernel2Ideal
    ∧ algebraic_Kernel2Ideal_Reference2Ideal_pre_some_denominator (hKernel2Ideal := hKernel2Ideal) (hReference2Ideal := hReference2Ideal) (hPre_some_denominator := hPre_some_denominator)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_some_denominator_sample (hKernel4Ideal := hKernel4Ideal) (hReference4Ideal := hReference4Ideal) (hPre_some_denominator_sample := hPre_some_denominator_sample)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_some_denominator.lean ====
abbrev S2x8192x1024 : Shape := ⟨3, ![2, 8192, 1024]⟩
abbrev S2x8192x4x64 : Shape := ⟨4, ![2, 8192, 4, 64]⟩
abbrev S2x8192x4 : Shape := ⟨3, ![2, 8192, 4]⟩
abbrev S2x8192x2048 : Shape := ⟨3, ![2, 8192, 2048]⟩
abbrev S2x8192x256 : Shape := ⟨3, ![2, 8192, 256]⟩
abbrev S256x1024 : Shape := ⟨2, ![256, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2x8192x4 : S_.BroadcastsInDim S2x8192x4 (![] : Fin 0 → Fin S2x8192x4.rank)

variable [Facts]

def fn {F : FTy → Type} [FloatOps F] (main_arg0 : FVec F S2x8192x1024 .f32) (main_arg1 : FVec F S2x8192x4x64 .f32) (main_arg2 : FVec F S2x8192x4x64 .f32) (main_arg3 : FVec F S2x8192x4x64 .f32) (main_arg4 : FVec F S2x8192x4 .f32) (main_arg5 : FVec F S2x8192x4 .f32) (main_arg6 : FVec F S2x8192x4 .f32) (main_arg7 : FVec F S2x8192x1024 .f32) (main_arg8 : FVec F S2x8192x2048 .f32) (main_arg9 : FVec F S2x8192x256 .f32) (main_arg10 : FVec F S256x1024 .f32) (main_arg11 : FVec F S1024x1024 .f32) (main_arg12 : FVec F S1024x1024 .f32) (main_arg13 : FVec F S1024 .f32) (main_arg14 : FVec F S1024 .f32) (main_arg15 : FVec F S1024x5632 .f32) (main_arg16 : FVec F S2816x1024 .f32) (main_arg17 : FVec F S1024 .f32) (main_arg18 : FVec F S1024 .f32) (main_arg19 : FVec F S1024x1024 .f32) (main_arg20 : FVec F S256x1024 .f32) : IVec S2x8192x4 1 :=
  let main_v0 : FVec F S2x8192x4 .f32 := maximumf main_arg4 main_arg5
  let main_v1 : FVec F S2x8192x4 .f32 := maximumf main_v0 main_arg6
  let main_cst : FVec F S_ .f32 := constant S_ .f32 0xFF800000#32
  let main_v2 : FVec F S2x8192x4 .f32 := broadcastInDim S2x8192x4 ![] bcast_S_S2x8192x4 main_cst
  let main_v3 : IVec S2x8192x4 1 := cmpf .ogt main_v1 main_v2
  let main_cst_0 : FVec F S_ .f32 := constant S_ .f32 0x7F800000#32
  let main_v4 : FVec F S2x8192x4 .f32 := broadcastInDim S2x8192x4 ![] bcast_S_S2x8192x4 main_cst_0
  let main_v5 : IVec S2x8192x4 1 := cmpf .olt main_v1 main_v4
  let main_v6 : IVec S2x8192x4 1 := andi main_v3 main_v5
  main_v6
-- ==== Pre_some_denominator_sample.lean ====
abbrev S128x1x1024 : Shape := ⟨3, ![128, 1, 1024]⟩
abbrev S128x1x4x64 : Shape := ⟨4, ![128, 1, 4, 64]⟩
abbrev S128x1x4 : Shape := ⟨3, ![128, 1, 4]⟩
abbrev S128x1x2048 : Shape := ⟨3, ![128, 1, 2048]⟩
abbrev S128x1x256 : Shape := ⟨3, ![128, 1, 256]⟩
abbrev S256x1024 : Shape := ⟨2, ![256, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S128x1x4 : S_.BroadcastsInDim S128x1x4 (![] : Fin 0 → Fin S128x1x4.rank)

variable [Facts]

def fn {F : FTy → Type} [FloatOps F] (main_arg0 : FVec F S128x1x1024 .f32) (main_arg1 : FVec F S128x1x4x64 .f32) (main_arg2 : FVec F S128x1x4x64 .f32) (main_arg3 : FVec F S128x1x4x64 .f32) (main_arg4 : FVec F S128x1x4 .f32) (main_arg5 : FVec F S128x1x4 .f32) (main_arg6 : FVec F S128x1x4 .f32) (main_arg7 : FVec F S128x1x1024 .f32) (main_arg8 : FVec F S128x1x2048 .f32) (main_arg9 : FVec F S128x1x256 .f32) (main_arg10 : FVec F S256x1024 .f32) (main_arg11 : FVec F S1024x1024 .f32) (main_arg12 : FVec F S1024x1024 .f32) (main_arg13 : FVec F S1024 .f32) (main_arg14 : FVec F S1024 .f32) (main_arg15 : FVec F S1024x5632 .f32) (main_arg16 : FVec F S2816x1024 .f32) (main_arg17 : FVec F S1024 .f32) (main_arg18 : FVec F S1024 .f32) (main_arg19 : FVec F S1024x1024 .f32) (main_arg20 : FVec F S256x1024 .f32) : IVec S128x1x4 1 :=
  let main_v0 : FVec F S128x1x4 .f32 := maximumf main_arg4 main_arg5
  let main_v1 : FVec F S128x1x4 .f32 := maximumf main_v0 main_arg6
  let main_cst : FVec F S_ .f32 := constant S_ .f32 0xFF800000#32
  let main_v2 : FVec F S128x1x4 .f32 := broadcastInDim S128x1x4 ![] bcast_S_S128x1x4 main_cst
  let main_v3 : IVec S128x1x4 1 := cmpf .ogt main_v1 main_v2
  let main_cst_0 : FVec F S_ .f32 := constant S_ .f32 0x7F800000#32
  let main_v4 : FVec F S128x1x4 .f32 := broadcastInDim S128x1x4 ![] bcast_S_S128x1x4 main_cst_0
  let main_v5 : IVec S128x1x4 1 := cmpf .olt main_v1 main_v4
  let main_v6 : IVec S128x1x4 1 := andi main_v3 main_v5
  main_v6
-- ==== Kernel2.lean ====
abbrev S2x8192x1024 : Shape := ⟨3, ![2, 8192, 1024]⟩
abbrev S2x8192x4x64 : Shape := ⟨4, ![2, 8192, 4, 64]⟩
abbrev S2x8192x4 : Shape := ⟨3, ![2, 8192, 4]⟩
abbrev S2x8192x2048 : Shape := ⟨3, ![2, 8192, 2048]⟩
abbrev S2x8192x256 : Shape := ⟨3, ![2, 8192, 256]⟩
abbrev S256x1024 : Shape := ⟨2, ![256, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S16384x1024 : Shape := ⟨2, ![16384, 1024]⟩
abbrev S16384x2x128 : Shape := ⟨3, ![16384, 2, 128]⟩
abbrev S2x16384x128 : Shape := ⟨3, ![2, 16384, 128]⟩
abbrev S2x8192x4x1 : Shape := ⟨4, ![2, 8192, 4, 1]⟩
abbrev S16384x2048 : Shape := ⟨2, ![16384, 2048]⟩
abbrev S16384x256 : Shape := ⟨2, ![16384, 256]⟩
abbrev S2x256x128 : Shape := ⟨3, ![2, 256, 128]⟩
abbrev S256x2048 : Shape := ⟨2, ![256, 2048]⟩
abbrev S256x256 : Shape := ⟨2, ![256, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 55
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S2x8192x4x64, .f32⟩
  | .hbm, ⟨2, _⟩ => ⟨S2x8192x4x64, .f32⟩
  | .hbm, ⟨3, _⟩ => ⟨S2x8192x4x64, .f32⟩
  | .hbm, ⟨4, _⟩ => ⟨S2x8192x4, .f32⟩
  | .hbm, ⟨5, _⟩ => ⟨S2x8192x4, .f32⟩
  | .hbm, ⟨6, _⟩ => ⟨S2x8192x4, .f32⟩
  | .hbm, ⟨7, _⟩ => ⟨S2x8192x1024, .f32⟩
  | .hbm, ⟨8, _⟩ => ⟨S2x8192x2048, .f32⟩
  | .hbm, ⟨9, _⟩ => ⟨S2x8192x256, .f32⟩
  | .hbm, ⟨10, _⟩ => ⟨S256x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x5632, .f32⟩
  | .hbm, ⟨16, _⟩ => ⟨S2816x1024, .f32⟩
  | .hbm, ⟨17, _⟩ => ⟨S1024, .f32⟩
  | .hbm, ⟨18, _⟩ => ⟨S1024, .f32⟩
  | .hbm, ⟨19, _⟩ => ⟨S1024x1024, .f32⟩
  | .hbm, ⟨20, _⟩ => ⟨S256x1024, .f32⟩
  | .hbm, ⟨21, _⟩ => ⟨S256x1024, .bf16⟩
  | .hbm, ⟨22, _⟩ => ⟨S1024x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1024x5632, .bf16⟩
  | .hbm, ⟨27, _⟩ => ⟨S2816x1024, .bf16⟩
  | .hbm, ⟨28, _⟩ => ⟨S1x1024, .f32⟩
  | .hbm, ⟨29, _⟩ => ⟨S1x1024, .f32⟩
  | .hbm, ⟨30, _⟩ => ⟨S1024x1024, .bf16⟩
  | .hbm, ⟨31, _⟩ => ⟨S256x1024, .bf16⟩
  | .hbm, ⟨32, _⟩ => ⟨S16384x1024, .f32⟩
  | .hbm, ⟨33, _⟩ => ⟨S16384x2x128, .f32⟩
  | .hbm, ⟨34, _⟩ => ⟨S2x16384x128, .f32⟩
  | .hbm, ⟨35, _⟩ => ⟨S16384x2x128, .f32⟩
  | .hbm, ⟨36, _⟩ => ⟨S2x16384x128, .f32⟩
  | .hbm, ⟨37, _⟩ => ⟨S16384x2x128, .f32⟩
  | .hbm, ⟨38, _⟩ => ⟨S2x16384x128, .f32⟩
  | .hbm, ⟨39, _⟩ => ⟨S2x8192x4x1, .f32⟩
  | .hbm, ⟨40, _⟩ => ⟨S2x8192x4x64, .f32⟩
  | .hbm, ⟨41, _⟩ => ⟨S16384x2x128, .f32⟩
  | .hbm, ⟨42, _⟩ => ⟨S2x16384x128, .f32⟩
  | .hbm, ⟨43, _⟩ => ⟨S2x8192x4x1, .f32⟩
  | .hbm, ⟨44, _⟩ => ⟨S2x8192x4x64, .f32⟩
  | .hbm, ⟨45, _⟩ => ⟨S16384x2x128, .f32⟩
  | .hbm, ⟨46, _⟩ => ⟨S2x16384x128, .f32⟩
  | .hbm, ⟨47, _⟩ => ⟨S2x8192x4x1, .f32⟩
  | .hbm, ⟨48, _⟩ => ⟨S2x8192x4x64, .f32⟩
  | .hbm, ⟨49, _⟩ => ⟨S16384x2x128, .f32⟩
  | .hbm, ⟨50, _⟩ => ⟨S2x16384x128, .f32⟩
  | .hbm, ⟨51, _⟩ => ⟨S16384x1024, .f32⟩
  | .hbm, ⟨52, _⟩ => ⟨S16384x2048, .f32⟩
  | .hbm, ⟨53, _⟩ => ⟨S16384x256, .f32⟩
  | .hbm, ⟨54, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S2x256x128, .f32⟩
  | .local _ .vmem, ⟨3, _⟩ => ⟨S2x256x128, .f32⟩
  | .local _ .vmem, ⟨4, _⟩ => ⟨S2x256x128, .f32⟩
  | .local _ .vmem, ⟨5, _⟩ => ⟨S2x256x128, .f32⟩
  | .local _ .vmem, ⟨6, _⟩ => ⟨S2x256x128, .f32⟩
  | .local _ .vmem, ⟨7, _⟩ => ⟨S2x256x128, .f32⟩
  | .local _ .vmem, ⟨8, _⟩ => ⟨S2x256x128, .f32⟩
  | .local _ .vmem, ⟨9, _⟩ => ⟨S2x256x128, .f32⟩
  | .local _ .vmem, ⟨10, _⟩ => ⟨S2x256x128, .f32⟩
  | .local _ .vmem, ⟨11, _⟩ => ⟨S2x256x128, .f32⟩
  | .local _ .vmem, ⟨12, _⟩ => ⟨S2x256x128, .f32⟩
  | .local _ .vmem, ⟨13, _⟩ => ⟨S2x256x128, .f32⟩
  | .local _ .vmem, ⟨14, _⟩ => ⟨S256x1024, .f32⟩
  | .local _ .vmem, ⟨15, _⟩ => ⟨S256x1024, .f32⟩
  | .local _ .vmem, ⟨16, _⟩ => ⟨S256x2048, .f32⟩
  | .local _ .vmem, ⟨17, _⟩ => ⟨S256x2048, .f32⟩
  | .local _ .vmem, ⟨18, _⟩ => ⟨S256x256, .f32⟩
  | .local _ .vmem, ⟨19, _⟩ => ⟨S256x256, .f32⟩
  | .local _ .vmem, ⟨20, _⟩ => ⟨S256x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S1024x5632, .bf16⟩
  | .local _ .vmem, ⟨26, _⟩ => ⟨S2816x1024, .bf16⟩
  | .local _ .vmem, ⟨27, _⟩ => ⟨S1x1024, .f32⟩
  | .local _ .vmem, ⟨28, _⟩ => ⟨S1x1024, .f32⟩
  | .local _ .vmem, ⟨29, _⟩ => ⟨S1024x1024, .bf16⟩
  | .local _ .vmem, ⟨30, _⟩ => ⟨S256x1024, .bf16⟩
  | .local _ .vmem, ⟨31, _⟩ => ⟨S256x1024, .f32⟩
  | .local _ .vmem, ⟨32, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S2x8192x1024 : Shape := ⟨3, ![2, 8192, 1024]⟩
abbrev S2x8192x4x64 : Shape := ⟨4, ![2, 8192, 4, 64]⟩
abbrev S2x8192x4 : Shape := ⟨3, ![2, 8192, 4]⟩
abbrev S2x8192x2048 : Shape := ⟨3, ![2, 8192, 2048]⟩
abbrev S2x8192x256 : Shape := ⟨3, ![2, 8192, 256]⟩
abbrev S256x1024 : Shape := ⟨2, ![256, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x2x8192x4 : Shape := ⟨4, ![1, 2, 8192, 4]⟩
abbrev S3x2x8192x4 : Shape := ⟨4, ![3, 2, 8192, 4]⟩
abbrev S_ : Shape := ⟨0, ![]⟩
abbrev S1x2x8192x4x64 : Shape := ⟨5, ![1, 2, 8192, 4, 64]⟩
abbrev S3x2x8192x4x64 : Shape := ⟨5, ![3, 2, 8192, 4, 64]⟩
abbrev S2x8192x2x1024 : Shape := ⟨4, ![2, 8192, 2, 1024]⟩
abbrev S2x8192x1x1024 : Shape := ⟨4, ![2, 8192, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 149
  | .vmem => 0
  | .smem => 0
  | _ => 0

abbrev hbmTy0_0 (i : Nat) : BufTy := match i % 128 with
  | 0 => ⟨S2x8192x1024, .f32⟩
  | 1 => ⟨S2x8192x4x64, .f32⟩
  | 2 => ⟨S2x8192x4x64, .f32⟩
  | 3 => ⟨S2x8192x4x64, .f32⟩
  | 4 => ⟨S2x8192x4, .f32⟩
  | 5 => ⟨S2x8192x4, .f32⟩
  | 6 => ⟨S2x8192x4, .f32⟩
  | 7 => ⟨S2x8192x1024, .f32⟩
  | 8 => ⟨S2x8192x2048, .f32⟩
  | 9 => ⟨S2x8192x256, .f32⟩
  | 10 => ⟨S256x1024, .f32⟩
  | 11 => ⟨S1024x1024, .f32⟩
  | 12 => ⟨S1024x1024, .f32⟩
  | 13 => ⟨S1024, .f32⟩
  | 14 => ⟨S1024, .f32⟩
  | 15 => ⟨S1024x5632, .f32⟩
  | 16 => ⟨S2816x1024, .f32⟩
  | 17 => ⟨S1024, .f32⟩
  | 18 => ⟨S1024, .f32⟩
  | 19 => ⟨S1024x1024, .f32⟩
  | 20 => ⟨S256x1024, .f32⟩
  | 21 => ⟨S1x2x8192x4, .f32⟩
  | 22 => ⟨S1x2x8192x4, .f32⟩
  | 23 => ⟨S1x2x8192x4, .f32⟩
  | 24 => ⟨S3x2x8192x4, .f32⟩
  | 25 => ⟨S_, .f32⟩
  | 26 => ⟨S2x8192x4, .f32⟩
  | 27 => ⟨S_, .f32⟩
  | 28 => ⟨S2x8192x4, .f32⟩
  | 29 => ⟨S2x8192x4, .f32⟩
  | 30 => ⟨S1x2x8192x4, .f32⟩
  | 31 => ⟨S3x2x8192x4, .f32⟩
  | 32 => ⟨S3x2x8192x4, .f32⟩
  | 33 => ⟨S3x2x8192x4, .f32⟩
  | 34 => ⟨S_, .f32⟩
  | 35 => ⟨S2x8192x4, .f32⟩
  | 36 => ⟨S1x2x8192x4, .f32⟩
  | 37 => ⟨S3x2x8192x4, .f32⟩
  | 38 => ⟨S3x2x8192x4, .f32⟩
  | 39 => ⟨S1x2x8192x4x64, .f32⟩
  | 40 => ⟨S1x2x8192x4x64, .f32⟩
  | 41 => ⟨S1x2x8192x4x64, .f32⟩
  | 42 => ⟨S3x2x8192x4x64, .f32⟩
  | 43 => ⟨S2x8192x4x64, .f32⟩
  | 44 => ⟨S2x8192x256, .f32⟩
  | 45 => ⟨S2x8192x1024, .f32⟩
  | 46 => ⟨S2x8192x1024, .f32⟩
  | 47 => ⟨S2x8192x2x1024, .f32⟩
  | 48 => ⟨S2x8192x1x1024, .f32⟩
  | 49 => ⟨S2x8192x1024, .f32⟩
  | 50 => ⟨S2x8192x1024, .f32⟩
  | 51 => ⟨S2x8192x1x1024, .f32⟩
  | 52 => ⟨S2x8192x1024, .f32⟩
  | 53 => ⟨S2x8192x1024, .f32⟩
  | 54 => ⟨S2x8192x1024, .f32⟩
  | 55 => ⟨S2x8192x1024, .f32⟩
  | 56 => ⟨S2x8192x1024, .f32⟩
  | 57 => ⟨S_, .f32⟩
  | 58 => ⟨S2x8192, .f32⟩
  | 59 => ⟨S2x8192x1, .f32⟩
  | 60 => ⟨S_, .f32⟩
  | 61 => ⟨S2x8192x1, .f32⟩
  | 62 => ⟨S2x8192x1, .f32⟩
  | 63 => ⟨S_, .f32⟩
  | 64 => ⟨S2x8192x1, .f32⟩
  | 65 => ⟨S2x8192x1, .f32⟩
  | 66 => ⟨S2x8192x1, .f32⟩
  | 67 => ⟨S2x8192x1024, .f32⟩
  | 68 => ⟨S2x8192x1024, .f32⟩
  | 69 => ⟨S1x1x1024, .f32⟩
  | 70 => ⟨S2x8192x1024, .f32⟩
  | 71 => ⟨S2x8192x1024, .f32⟩
  | 72 => ⟨S2x8192x1024, .f32⟩
  | 73 => ⟨S2x8192x1024, .f32⟩
  | 74 => ⟨S_, .f32⟩
  | 75 => ⟨S2x8192, .f32⟩
  | 76 => ⟨S2x8192x1, .f32⟩
  | 77 => ⟨S_, .f32⟩
  | 78 => ⟨S2x8192x1, .f32⟩
  | 79 => ⟨S2x8192x1, .f32⟩
  | 80 => ⟨S_, .f32⟩
  | 81 => ⟨S2x8192x1, .f32⟩
  | 82 => ⟨S2x8192x1, .f32⟩
  | 83 => ⟨S2x8192x1, .f32⟩
  | 84 => ⟨S2x8192x1024, .f32⟩
  | 85 => ⟨S2x8192x1024, .f32⟩
  | 86 => ⟨S1x1x1024, .f32⟩
  | 87 => ⟨S2x8192x1024, .f32⟩
  | 88 => ⟨S2x8192x1024, .f32⟩
  | 89 => ⟨S2x8192x5632, .f32⟩
  | 90 => ⟨S2x8192x2816, .f32⟩
  | 91 => ⟨S2x8192x2816, .f32⟩
  | 92 => ⟨S2x8192x2816, .f32⟩
  | 93 => ⟨S2x8192x2816, .f32⟩
  | 94 => ⟨S_, .f32⟩
  | 95 => ⟨S2x8192x2816, .f32⟩
  | 96 => ⟨S2x8192x2816, .f32⟩
  | 97 => ⟨S_, .f32⟩
  | 98 => ⟨S2x8192x2816, .f32⟩
  | 99 => ⟨S2x8192x2816, .f32⟩
  | 100 => ⟨S2x8192x2816, .f32⟩
  | 101 => ⟨S2x8192x2816, .f32⟩
  | 102 => ⟨S2x8192x1024, .f32⟩
  | 103 => ⟨S2x8192x1024, .f32⟩
  | 104 => ⟨S_, .f32⟩
  | 105 => ⟨S2x8192, .f32⟩
  | 106 => ⟨S2x8192x1, .f32⟩
  | 107 => ⟨S_, .f32⟩
  | 108 => ⟨S2x8192x1, .f32⟩
  | 109 => ⟨S2x8192x1, .f32⟩
  | 110 => ⟨S_, .f32⟩
  | 111 => ⟨S2x8192x1, .f32⟩
  | 112 => ⟨S2x8192x1, .f32⟩
  | 113 => ⟨S2x8192x1, .f32⟩
  | 114 => ⟨S2x8192x1024, .f32⟩
  | 115 => ⟨S2x8192x1024, .f32⟩
  | 116 => ⟨S1x1x1024, .f32⟩
  | 117 => ⟨S2x8192x1024, .f32⟩
  | 118 => ⟨S2x8192x1024, .f32⟩
  | 119 => ⟨S2x8192x1024, .f32⟩
  | 120 => ⟨S2x8192x1024, .f32⟩
  | 121 => ⟨S_, .f32⟩
  | 122 => ⟨S2x8192, .f32⟩
  | 123 => ⟨S2x8192x1, .f32⟩
  | 124 => ⟨S_, .f32⟩
  | 125 => ⟨S2x8192x1, .f32⟩
  | 126 => ⟨S2x8192x1, .f32⟩
  | 127 => ⟨S_, .f32⟩
  | _ => ⟨S2x8192x1024, .f32⟩

abbrev hbmTy0_1 (i : Nat) : BufTy := match i % 128 with
  | 0 => ⟨S2x8192x1, .f32⟩
  | 1 => ⟨S2x8192x1, .f32⟩
  | 2 => ⟨S2x8192x1, .f32⟩
  | 3 => ⟨S2x8192x1024, .f32⟩
  | 4 => ⟨S2x8192x1024, .f32⟩
  | 5 => ⟨S1x1x1024, .f32⟩
  | 6 => ⟨S2x8192x1024, .f32⟩
  | 7 => ⟨S2x8192x1024, .f32⟩
  | 8 => ⟨S2x8192x1024, .f32⟩
  | 9 => ⟨S2x8192x1024, .f32⟩
  | 10 => ⟨S2x8192x1024, .f32⟩
  | 11 => ⟨S_, .f32⟩
  | 12 => ⟨S2x8192x1024, .f32⟩
  | 13 => ⟨S2x8192x1024, .f32⟩
  | 14 => ⟨S_, .f32⟩
  | 15 => ⟨S2x8192x1024, .f32⟩
  | 16 => ⟨S2x8192x1024, .f32⟩
  | 17 => ⟨S2x8192x1024, .f32⟩
  | 18 => ⟨S2x8192x1024, .f32⟩
  | 19 => ⟨S2x8192x1024, .f32⟩
  | 20 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_2 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call0_v0 : Ref sig .tc := ⟨.hbm, 92, rfl⟩
abbrev main_call0_v1 : Ref sig .tc := ⟨.hbm, 93, rfl⟩
abbrev main_call0_cst : Ref sig .tc := ⟨.hbm, 94, rfl⟩
abbrev main_call0_v2 : Ref sig .tc := ⟨.hbm, 95, rfl⟩
abbrev main_call0_v3 : Ref sig .tc := ⟨.hbm, 96, rfl⟩
abbrev main_call0_cst_0 : Ref sig .tc := ⟨.hbm, 97, rfl⟩
abbrev main_call0_v4 : Ref sig .tc := ⟨.hbm, 98, rfl⟩
abbrev main_call0_v5 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_8 : Ref sig .tc := ⟨.hbm, 104, rfl⟩
abbrev main_v66 : Ref sig .tc := ⟨.hbm, 105, rfl⟩
abbrev main_v67 : Ref sig .tc := ⟨.hbm, 106, rfl⟩
abbrev main_cst_9 : Ref sig .tc := ⟨.hbm, 107, rfl⟩
abbrev main_v68 : Ref sig .tc := ⟨.hbm, 108, rfl⟩
abbrev main_v69 : Ref sig .tc := ⟨.hbm, 109, rfl⟩
abbrev main_cst_10 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_11 : Ref sig .tc := ⟨.hbm, 121, rfl⟩
abbrev main_v80 : Ref sig .tc := ⟨.hbm, 122, rfl⟩
abbrev main_v81 : Ref sig .tc := ⟨.hbm, 123, rfl⟩
abbrev main_cst_12 : Ref sig .tc := ⟨.hbm, 124, rfl⟩
abbrev main_v82 : Ref sig .tc := ⟨.hbm, 125, rfl⟩
abbrev main_v83 : Ref sig .tc := ⟨.hbm, 126, rfl⟩
abbrev main_cst_13 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_14 : Ref sig .tc := ⟨.hbm, 139, rfl⟩
abbrev main_v95 : Ref sig .tc := ⟨.hbm, 140, rfl⟩
abbrev main_v96 : Ref sig .tc := ⟨.hbm, 141, rfl⟩
abbrev main_cst_15 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x6400 : Shape := ⟨2, ![1024, 6400]⟩
abbrev S16384x1024 : Shape := ⟨2, ![16384, 1024]⟩
abbrev S1x1024 : Shape := ⟨2, ![1, 1024]⟩
abbrev S2x16384x128 : Shape := ⟨3, ![2, 16384, 128]⟩
abbrev S16384x2048 : Shape := ⟨2, ![16384, 2048]⟩
abbrev S512x1024 : Shape := ⟨2, ![512, 1024]⟩
abbrev S2x512x128 : Shape := ⟨3, ![2, 512, 128]⟩
abbrev S512x2048 : Shape := ⟨2, ![512, 2048]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S512x128 : Shape := ⟨2, ![512, 128]⟩
abbrev S1x512x128 : Shape := ⟨3, ![1, 512, 128]⟩
abbrev S1024x1024 : Shape := ⟨2, ![1024, 1024]⟩
abbrev S1024x2048 : Shape := ⟨2, ![1024, 2048]⟩
abbrev S16384x2x128 : Shape := ⟨3, ![16384, 2, 128]⟩
abbrev S16384x256 : Shape := ⟨2, ![16384, 256]⟩
abbrev S16384x768 : Shape := ⟨2, ![16384, 768]⟩
abbrev S2x2x8192x128 : Shape := ⟨4, ![2, 2, 8192, 128]⟩
abbrev S2x2x128x128 : Shape := ⟨4, ![2, 2, 128, 128]⟩
abbrev S2x256x128 : Shape := ⟨3, ![2, 256, 128]⟩
abbrev S256x2x128 : Shape := ⟨3, ![256, 2, 128]⟩
abbrev S256x256 : Shape := ⟨2, ![256, 256]⟩
abbrev S2x128x4x64 : Shape := ⟨4, ![2, 128, 4, 64]⟩
abbrev S2x128x1x4x64 : Shape := ⟨5, ![2, 128, 1, 4, 64]⟩
abbrev S2x128x2x4x64 : Shape := ⟨5, ![2, 128, 2, 4, 64]⟩
abbrev S2x2x512x128 : Shape := ⟨4, ![2, 2, 512, 128]⟩
abbrev S2x1024x128 : Shape := ⟨3, ![2, 1024, 128]⟩
abbrev S1024x2x128 : Shape := ⟨3, ![1024, 2, 128]⟩
abbrev S1024x256 : Shape := ⟨2, ![1024, 256]⟩
abbrev S2x512x4x64 : Shape := ⟨4, ![2, 512, 4, 64]⟩
abbrev S2x512x1x4x64 : Shape := ⟨5, ![2, 512, 1, 4, 64]⟩
abbrev S2x512x2x4x64 : Shape := ⟨5, ![2, 512, 2, 4, 64]⟩
abbrev S2x2x2048x128 : Shape := ⟨4, ![2, 2, 2048, 128]⟩
abbrev S2x4096x128 : Shape := ⟨3, ![2, 4096, 128]⟩
abbrev S4096x2x128 : Shape := ⟨3, ![4096, 2, 128]⟩
abbrev S4096x256 : Shape := ⟨2, ![4096, 256]⟩
abbrev S2x2048x4x64 : Shape := ⟨4, ![2, 2048, 4, 64]⟩
abbrev S2x2048x1x4x64 : Shape := ⟨5, ![2, 2048, 1, 4, 64]⟩
abbrev S2x2048x2x4x64 : Shape := ⟨5, ![2, 2048, 2, 4, 64]⟩
abbrev S2x30x1024 : Shape := ⟨3, ![2, 30, 1024]⟩

abbrev nBuf : Space → Nat
  | .hbm => 85
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x6400, .f32⟩
  | .hbm, ⟨3, _⟩ => ⟨S1024x6400, .bf16⟩
  | .hbm, ⟨4, _⟩ => ⟨S16384x1024, .f32⟩
  | .hbm, ⟨5, _⟩ => ⟨S1x1024, .f32⟩
  | .hbm, ⟨6, _⟩ => ⟨S2x16384x128, .f32⟩
  | .hbm, ⟨7, _⟩ => ⟨S2x16384x128, .f32⟩
  | .hbm, ⟨8, _⟩ => ⟨S2x16384x128, .f32⟩
  | .hbm, ⟨9, _⟩ => ⟨S2x16384x128, .f32⟩
  | .hbm, ⟨10, _⟩ => ⟨S2x16384x128, .f32⟩
  | .hbm, ⟨11, _⟩ => ⟨S2x16384x128, .f32⟩
  | .hbm, ⟨12, _⟩ => ⟨S2x16384x128, .f32⟩
  | .hbm, ⟨13, _⟩ => ⟨S2x16384x128, .f32⟩
  | .hbm, ⟨14, _⟩ => ⟨S2x16384x128, .f32⟩
  | .hbm, ⟨15, _⟩ => ⟨S16384x1024, .f32⟩
  | .hbm, ⟨16, _⟩ => ⟨S16384x2048, .f32⟩
  | .hbm, ⟨17, _⟩ => ⟨S16384x2x128, .f32⟩
  | .hbm, ⟨18, _⟩ => ⟨S16384x256, .f32⟩
  | .hbm, ⟨19, _⟩ => ⟨S16384x2x128, .f32⟩
  | .hbm, ⟨20, _⟩ => ⟨S16384x256, .f32⟩
  | .hbm, ⟨21, _⟩ => ⟨S16384x2x128, .f32⟩
  | .hbm, ⟨22, _⟩ => ⟨S16384x256, .f32⟩
  | .hbm, ⟨23, _⟩ => ⟨S16384x768, .f32⟩
  | .hbm, ⟨24, _⟩ => ⟨S16384x2x128, .f32⟩
  | .hbm, ⟨25, _⟩ => ⟨S16384x256, .f32⟩
  | .hbm, ⟨26, _⟩ => ⟨S16384x2x128, .f32⟩
  | .hbm, ⟨27, _⟩ => ⟨S16384x256, .f32⟩
  | .hbm, ⟨28, _⟩ => ⟨S16384x2x128, .f32⟩
  | .hbm, ⟨29, _⟩ => ⟨S16384x256, .f32⟩
  | .hbm, ⟨30, _⟩ => ⟨S16384x768, .f32⟩
  | .hbm, ⟨31, _⟩ => ⟨S16384x2x128, .f32⟩
  | .hbm, ⟨32, _⟩ => ⟨S16384x256, .f32⟩
  | .hbm, ⟨33, _⟩ => ⟨S16384x2x128, .f32⟩
  | .hbm, ⟨34, _⟩ => ⟨S16384x256, .f32⟩
  | .hbm, ⟨35, _⟩ => ⟨S16384x2x128, .f32⟩
  | .hbm, ⟨36, _⟩ => ⟨S16384x256, .f32⟩
  | .hbm, ⟨37, _⟩ => ⟨S16384x768, .f32⟩
  | .hbm, ⟨38, _⟩ => ⟨S2x2x8192x128, .f32⟩
  | .hbm, ⟨39, _⟩ => ⟨S2x2x128x128, .f32⟩
  | .hbm, ⟨40, _⟩ => ⟨S2x256x128, .f32⟩
  | .hbm, ⟨41, _⟩ => ⟨S256x2x128, .f32⟩
  | .hbm, ⟨42, _⟩ => ⟨S256x256, .f32⟩
  | .hbm, ⟨43, _⟩ => ⟨S2x128x4x64, .f32⟩
  | .hbm, ⟨44, _⟩ => ⟨S2x2x8192x128, .f32⟩
  | .hbm, ⟨45, _⟩ => ⟨S2x2x128x128, .f32⟩
  | .hbm, ⟨46, _⟩ => ⟨S2x256x128, .f32⟩
  | .hbm, ⟨47, _⟩ => ⟨S256x2x128, .f32⟩
  | .hbm, ⟨48, _⟩ => ⟨S256x256, .f32⟩
  | .hbm, ⟨49, _⟩ => ⟨S2x128x4x64, .f32⟩
  | .hbm, ⟨50, _⟩ => ⟨S2x128x1x4x64, .f32⟩
  | .hbm, ⟨51, _⟩ => ⟨S2x128x1x4x64, .f32⟩
  | .hbm, ⟨52, _⟩ => ⟨S2x128x2x4x64, .f32⟩
  | .hbm, ⟨53, _⟩ => ⟨S2x2x8192x128, .f32⟩
  | .hbm, ⟨54, _⟩ => ⟨S2x2x512x128, .f32⟩
  | .hbm, ⟨55, _⟩ => ⟨S2x1024x128, .f32⟩
  | .hbm, ⟨56, _⟩ => ⟨S1024x2x128, .f32⟩
  | .hbm, ⟨57, _⟩ => ⟨S1024x256, .f32⟩
  | .hbm, ⟨58, _⟩ => ⟨S2x512x4x64, .f32⟩
  | .hbm, ⟨59, _⟩ => ⟨S2x2x8192x128, .f32⟩
  | .hbm, ⟨60, _⟩ => ⟨S2x2x512x128, .f32⟩
  | .hbm, ⟨61, _⟩ => ⟨S2x1024x128, .f32⟩
  | .hbm, ⟨62, _⟩ => ⟨S1024x2x128, .f32⟩
  | .hbm, ⟨63, _⟩ => ⟨S1024x256, .f32⟩
  | .hbm, ⟨64, _⟩ => ⟨S2x512x4x64, .f32⟩
  | .hbm, ⟨65, _⟩ => ⟨S2x512x1x4x64, .f32⟩
  | .hbm, ⟨66, _⟩ => ⟨S2x512x1x4x64, .f32⟩
  | .hbm, ⟨67, _⟩ => ⟨S2x512x2x4x64, .f32⟩
  | .hbm, ⟨68, _⟩ => ⟨S2x2x8192x128, .f32⟩
  | .hbm, ⟨69, _⟩ => ⟨S2x2x2048x128, .f32⟩
  | .hbm, ⟨70, _⟩ => ⟨S2x4096x128, .f32⟩
  | .hbm, ⟨71, _⟩ => ⟨S4096x2x128, .f32⟩
  | .hbm, ⟨72, _⟩ => ⟨S4096x256, .f32⟩
  | .hbm, ⟨73, _⟩ => ⟨S2x2048x4x64, .f32⟩
  | .hbm, ⟨74, _⟩ => ⟨S2x2x8192x128, .f32⟩
  | .hbm, ⟨75, _⟩ => ⟨S2x2x2048x128, .f32⟩
  | .hbm, ⟨76, _⟩ => ⟨S2x4096x128, .f32⟩
  | .hbm, ⟨77, _⟩ => ⟨S4096x2x128, .f32⟩
  | .hbm, ⟨78, _⟩ => ⟨S4096x256, .f32⟩
  | .hbm, ⟨79, _⟩ => ⟨S2x2048x4x64, .f32⟩
  | .hbm, ⟨80, _⟩ => ⟨S2x2048x1x4x64, .f32⟩
  | .hbm, ⟨81, _⟩ => ⟨S2x2048x1x4x64, .f32⟩
  | .hbm, ⟨82, _⟩ => ⟨S2x2048x2x4x64, .f32⟩
  | .hbm, ⟨83, _⟩ => ⟨S2x8192x1024, .f32⟩
  | .hbm, ⟨84, _⟩ => ⟨S2x30x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6400, .bf16⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S2x512x128, .f32⟩
  | .local _ .vmem, ⟨15, _⟩ => ⟨S2x512x128, .f32⟩
  | .local _ .vmem, ⟨16, _⟩ => ⟨S2x512x128, .f32⟩
  | .local _ .vmem, ⟨17, _⟩ => ⟨S2x512x128, .f32⟩
  | .local _ .vmem, ⟨18, _⟩ => ⟨S2x512x128, .f32⟩
  | .local _ .vmem, ⟨19, _⟩ => ⟨S2x512x128, .f32⟩
  | .local _ .vmem, ⟨20, _⟩ => ⟨S2x512x128, .f32⟩
  | .local _ .vmem, ⟨21, _⟩ => ⟨S2x512x128, .f32⟩
  | .local _ .vmem, ⟨22, _⟩ => ⟨S512x1024, .f32⟩
  | .local _ .vmem, ⟨23, _⟩ => ⟨S512x1024, .f32⟩
  | .local _ .vmem, ⟨24, _⟩ => ⟨S512x2048, .f32⟩
  | .local _ .vmem, ⟨25, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v3_8 : Ref sig .tc := ⟨.hbm, 14, rfl⟩
abbrev main_v3_9 : Ref sig .tc := ⟨.hbm, 15, rfl⟩
abbrev main_v3_10 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S2x8192x1024 : Shape := ⟨3, ![2, 8192, 1024]⟩
abbrev S1024 : Shape := ⟨1, ![1024]⟩
abbrev S1024x6400 : Shape := ⟨2, ![1024, 6400]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6400 : Shape := ⟨3, ![2, 8192, 6400]⟩
abbrev S2x8192x768 : Shape := ⟨3, ![2, 8192, 768]⟩
abbrev S2x8192x2048 : Shape := ⟨3, ![2, 8192, 2048]⟩
abbrev S2x8192x12x64 : Shape := ⟨4, ![2, 8192, 12, 64]⟩
abbrev S2x128x4x64 : Shape := ⟨4, ![2, 128, 4, 64]⟩
abbrev S2x128x1x4x64 : Shape := ⟨5, ![2, 128, 1, 4, 64]⟩
abbrev S2x128x2x4x64 : Shape := ⟨5, ![2, 128, 2, 4, 64]⟩
abbrev S2x512x4x64 : Shape := ⟨4, ![2, 512, 4, 64]⟩
abbrev S2x512x1x4x64 : Shape := ⟨5, ![2, 512, 1, 4, 64]⟩
abbrev S2x512x2x4x64 : Shape := ⟨5, ![2, 512, 2, 4, 64]⟩
abbrev S2x2048x4x64 : Shape := ⟨4, ![2, 2048, 4, 64]⟩
abbrev S2x2048x1x4x64 : Shape := ⟨5, ![2, 2048, 1, 4, 64]⟩
abbrev S2x2048x2x4x64 : Shape := ⟨5, ![2, 2048, 2, 4, 64]⟩
abbrev S16384x768 : Shape := ⟨2, ![16384, 768]⟩
abbrev S16384x2048 : Shape := ⟨2, ![16384, 2048]⟩
abbrev S2x30x1024 : Shape := ⟨3, ![2, 30, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x6400, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x6400, .f32⟩
  | .hbm, ⟨20, _⟩ => ⟨S2x8192x768, .f32⟩
  | .hbm, ⟨21, _⟩ => ⟨S2x8192x768, .f32⟩
  | .hbm, ⟨22, _⟩ => ⟨S2x8192x768, .f32⟩
  | .hbm, ⟨23, _⟩ => ⟨S2x8192x2048, .f32⟩
  | .hbm, ⟨24, _⟩ => ⟨S2x8192x2048, .f32⟩
  | .hbm, ⟨25, _⟩ => ⟨S2x8192x12x64, .f32⟩
  | .hbm, ⟨26, _⟩ => ⟨S2x8192x12x64, .f32⟩
  | .hbm, ⟨27, _⟩ => ⟨S2x128x4x64, .f32⟩
  | .hbm, ⟨28, _⟩ => ⟨S2x128x4x64, .f32⟩
  | .hbm, ⟨29, _⟩ => ⟨S2x128x1x4x64, .f32⟩
  | .hbm, ⟨30, _⟩ => ⟨S2x128x1x4x64, .f32⟩
  | .hbm, ⟨31, _⟩ => ⟨S2x128x2x4x64, .f32⟩
  | .hbm, ⟨32, _⟩ => ⟨S2x512x4x64, .f32⟩
  | .hbm, ⟨33, _⟩ => ⟨S2x512x4x64, .f32⟩
  | .hbm, ⟨34, _⟩ => ⟨S2x512x1x4x64, .f32⟩
  | .hbm, ⟨35, _⟩ => ⟨S2x512x1x4x64, .f32⟩
  | .hbm, ⟨36, _⟩ => ⟨S2x512x2x4x64, .f32⟩
  | .hbm, ⟨37, _⟩ => ⟨S2x2048x4x64, .f32⟩
  | .hbm, ⟨38, _⟩ => ⟨S2x2048x4x64, .f32⟩
  | .hbm, ⟨39, _⟩ => ⟨S2x2048x1x4x64, .f32⟩
  | .hbm, ⟨40, _⟩ => ⟨S2x2048x1x4x64, .f32⟩
  | .hbm, ⟨41, _⟩ => ⟨S2x2048x2x4x64, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S_, .f32⟩
  | .hbm, ⟨54, _⟩ => ⟨S2x8192x768, .f32⟩
  | .hbm, ⟨55, _⟩ => ⟨S2x8192x768, .f32⟩
  | .hbm, ⟨56, _⟩ => ⟨S16384x768, .f32⟩
  | .hbm, ⟨57, _⟩ => ⟨S16384x768, .f32⟩
  | .hbm, ⟨58, _⟩ => ⟨S16384x768, .f32⟩
  | .hbm, ⟨59, _⟩ => ⟨S2x8192x2048, .f32⟩
  | .hbm, ⟨60, _⟩ => ⟨S2x8192x2048, .f32⟩
  | .hbm, ⟨61, _⟩ => ⟨S_, .f32⟩
  | .hbm, ⟨62, _⟩ => ⟨S2x8192x2048, .f32⟩
  | .hbm, ⟨63, _⟩ => ⟨S2x8192x2048, .f32⟩
  | .hbm, ⟨64, _⟩ => ⟨S_, .f32⟩
  | .hbm, ⟨65, _⟩ => ⟨S2x8192x2048, .f32⟩
  | .hbm, ⟨66, _⟩ => ⟨S2x8192x2048, .f32⟩
  | .hbm, ⟨67, _⟩ => ⟨S16384x2048, .f32⟩
  | .hbm, ⟨68, _⟩ => ⟨S2x30x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩

abbrev nD : Nat := 1
abbrev τ : Topo := Topo.v7x

variable {F : FTy → Type} [FloatOps F]
-- ==== Kernel4.lean ====
abbrev S128x1x1024 : Shape := ⟨3, ![128, 1, 1024]⟩
abbrev S128x1x4x64 : Shape := ⟨4, ![128, 1, 4, 64]⟩
abbrev S128x1x4 : Shape := ⟨3, ![128, 1, 4]⟩
abbrev S128x1x2048 : Shape := ⟨3, ![128, 1, 2048]⟩
abbrev S128x1x256 : Shape := ⟨3, ![128, 1, 256]⟩
abbrev S256x1024 : Shape := ⟨2, ![256, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S128x1024 : Shape := ⟨2, ![128, 1024]⟩
abbrev S128x2x128 : Shape := ⟨3, ![128, 2, 128]⟩
abbrev S2x128x128 : Shape := ⟨3, ![2, 128, 128]⟩
abbrev S128x1x4x1 : Shape := ⟨4, ![128, 1, 4, 1]⟩
abbrev S128x2048 : Shape := ⟨2, ![128, 2048]⟩
abbrev S128x256 : Shape := ⟨2, ![128, 256]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩

abbrev nBuf : Space → Nat
  | .hbm => 55
  | .vmem => 22
  | .smem => 0
  | _ => 0

abbrev bufTy : (tb : Table) → Fin (tcTables nBuf tb) → BufTy
  | .hbm, ⟨0, _⟩ => ⟨S128x1x1024, .f32⟩
  | .hbm, ⟨1, _⟩ => ⟨S128x1x4x64, .f32⟩
  | .hbm, ⟨2, _⟩ => ⟨S128x1x4x64, .f32⟩
  | .hbm, ⟨3, _⟩ => ⟨S128x1x4x64, .f32⟩
  | .hbm, ⟨4, _⟩ => ⟨S128x1x4, .f32⟩
  | .hbm, ⟨5, _⟩ => ⟨S128x1x4, .f32⟩
  | .hbm, ⟨6, _⟩ => ⟨S128x1x4, .f32⟩
  | .hbm, ⟨7, _⟩ => ⟨S128x1x1024, .f32⟩
  | .hbm, ⟨8, _⟩ => ⟨S128x1x2048, .f32⟩
  | .hbm, ⟨9, _⟩ => ⟨S128x1x256, .f32⟩
  | .hbm, ⟨10, _⟩ => ⟨S256x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x5632, .f32⟩
  | .hbm, ⟨16, _⟩ => ⟨S2816x1024, .f32⟩
  | .hbm, ⟨17, _⟩ => ⟨S1024, .f32⟩
  | .hbm, ⟨18, _⟩ => ⟨S1024, .f32⟩
  | .hbm, ⟨19, _⟩ => ⟨S1024x1024, .f32⟩
  | .hbm, ⟨20, _⟩ => ⟨S256x1024, .f32⟩
  | .hbm, ⟨21, _⟩ => ⟨S256x1024, .bf16⟩
  | .hbm, ⟨22, _⟩ => ⟨S1024x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1024x5632, .bf16⟩
  | .hbm, ⟨27, _⟩ => ⟨S2816x1024, .bf16⟩
  | .hbm, ⟨28, _⟩ => ⟨S1x1024, .f32⟩
  | .hbm, ⟨29, _⟩ => ⟨S1x1024, .f32⟩
  | .hbm, ⟨30, _⟩ => ⟨S1024x1024, .bf16⟩
  | .hbm, ⟨31, _⟩ => ⟨S256x1024, .bf16⟩
  | .hbm, ⟨32, _⟩ => ⟨S128x1024, .f32⟩
  | .hbm, ⟨33, _⟩ => ⟨S128x2x128, .f32⟩
  | .hbm, ⟨34, _⟩ => ⟨S2x128x128, .f32⟩
  | .hbm, ⟨35, _⟩ => ⟨S128x2x128, .f32⟩
  | .hbm, ⟨36, _⟩ => ⟨S2x128x128, .f32⟩
  | .hbm, ⟨37, _⟩ => ⟨S128x2x128, .f32⟩
  | .hbm, ⟨38, _⟩ => ⟨S2x128x128, .f32⟩
  | .hbm, ⟨39, _⟩ => ⟨S128x1x4x1, .f32⟩
  | .hbm, ⟨40, _⟩ => ⟨S128x1x4x64, .f32⟩
  | .hbm, ⟨41, _⟩ => ⟨S128x2x128, .f32⟩
  | .hbm, ⟨42, _⟩ => ⟨S2x128x128, .f32⟩
  | .hbm, ⟨43, _⟩ => ⟨S128x1x4x1, .f32⟩
  | .hbm, ⟨44, _⟩ => ⟨S128x1x4x64, .f32⟩
  | .hbm, ⟨45, _⟩ => ⟨S128x2x128, .f32⟩
  | .hbm, ⟨46, _⟩ => ⟨S2x128x128, .f32⟩
  | .hbm, ⟨47, _⟩ => ⟨S128x1x4x1, .f32⟩
  | .hbm, ⟨48, _⟩ => ⟨S128x1x4x64, .f32⟩
  | .hbm, ⟨49, _⟩ => ⟨S128x2x128, .f32⟩
  | .hbm, ⟨50, _⟩ => ⟨S2x128x128, .f32⟩
  | .hbm, ⟨51, _⟩ => ⟨S128x1024, .f32⟩
  | .hbm, ⟨52, _⟩ => ⟨S128x2048, .f32⟩
  | .hbm, ⟨53, _⟩ => ⟨S128x256, .f32⟩
  | .hbm, ⟨54, _⟩ => ⟨S128x1024, .f32⟩
  | .local _ .vmem, ⟨0, _⟩ => ⟨S128x1024, .f32⟩
  | .local _ .vmem, ⟨1, _⟩ => ⟨S2x128x128, .f32⟩
  | .local _ .vmem, ⟨2, _⟩ => ⟨S2x128x128, .f32⟩
  | .local _ .vmem, ⟨3, _⟩ => ⟨S2x128x128, .f32⟩
  | .local _ .vmem, ⟨4, _⟩ => ⟨S2x128x128, .f32⟩
  | .local _ .vmem, ⟨5, _⟩ => ⟨S2x128x128, .f32⟩
  | .local _ .vmem, ⟨6, _⟩ => ⟨S2x128x128, .f32⟩
  | .local _ .vmem, ⟨7, _⟩ => ⟨S128x1024, .f32⟩
  | .local _ .vmem, ⟨8, _⟩ => ⟨S128x2048, .f32⟩
  | .local _ .vmem, ⟨9, _⟩ => ⟨S128x256, .f32⟩
  | .local _ .vmem, ⟨10, _⟩ => ⟨S256x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x5632, .bf16⟩
  | .local _ .vmem, ⟨16, _⟩ => ⟨S2816x1024, .bf16⟩
  | .local _ .vmem, ⟨17, _⟩ => ⟨S1x1024, .f32⟩
  | .local _ .vmem, ⟨18, _⟩ => ⟨S1x1024, .f32⟩
  | .local _ .vmem, ⟨19, _⟩ => ⟨S1024x1024, .bf16⟩
  | .local _ .vmem, ⟨20, _⟩ => ⟨S256x1024, .bf16⟩
  | .local _ .vmem, ⟨21, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]
-- ==== Reference4Ideal.lean ====
abbrev S128x1x1024 : Shape := ⟨3, ![128, 1, 1024]⟩
abbrev S128x1x4x64 : Shape := ⟨4, ![128, 1, 4, 64]⟩
abbrev S128x1x4 : Shape := ⟨3, ![128, 1, 4]⟩
abbrev S128x1x2048 : Shape := ⟨3, ![128, 1, 2048]⟩
abbrev S128x1x256 : Shape := ⟨3, ![128, 1, 256]⟩
abbrev S256x1024 : Shape := ⟨2, ![256, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x128x1x4 : Shape := ⟨4, ![1, 128, 1, 4]⟩
abbrev S3x128x1x4 : Shape := ⟨4, ![3, 128, 1, 4]⟩
abbrev S_ : Shape := ⟨0, ![]⟩
abbrev S1x128x1x4x64 : Shape := ⟨5, ![1, 128, 1, 4, 64]⟩
abbrev S3x128x1x4x64 : Shape := ⟨5, ![3, 128, 1, 4, 64]⟩
abbrev S128x1x2x1024 : Shape := ⟨4, ![128, 1, 2, 1024]⟩
abbrev S128x1x1x1024 : Shape := ⟨4, ![128, 1, 1, 1024]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x1x2816 : Shape := ⟨3, ![128, 1, 2816]⟩
abbrev S128x1024 : Shape := ⟨2, ![128, 1024]⟩

abbrev nBuf : Space → Nat
  | .hbm => 149
  | .vmem => 0
  | .smem => 0
  | _ => 0

abbrev hbmTy0_0 (i : Nat) : BufTy := match i % 128 with
  | 0 => ⟨S128x1x1024, .f32⟩
  | 1 => ⟨S128x1x4x64, .f32⟩
  | 2 => ⟨S128x1x4x64, .f32⟩
  | 3 => ⟨S128x1x4x64, .f32⟩
  | 4 => ⟨S128x1x4, .f32⟩
  | 5 => ⟨S128x1x4, .f32⟩
  | 6 => ⟨S128x1x4, .f32⟩
  | 7 => ⟨S128x1x1024, .f32⟩
  | 8 => ⟨S128x1x2048, .f32⟩
  | 9 => ⟨S128x1x256, .f32⟩
  | 10 => ⟨S256x1024, .f32⟩
  | 11 => ⟨S1024x1024, .f32⟩
  | 12 => ⟨S1024x1024, .f32⟩
  | 13 => ⟨S1024, .f32⟩
  | 14 => ⟨S1024, .f32⟩
  | 15 => ⟨S1024x5632, .f32⟩
  | 16 => ⟨S2816x1024, .f32⟩
  | 17 => ⟨S1024, .f32⟩
  | 18 => ⟨S1024, .f32⟩
  | 19 => ⟨S1024x1024, .f32⟩
  | 20 => ⟨S256x1024, .f32⟩
  | 21 => ⟨S1x128x1x4, .f32⟩
  | 22 => ⟨S1x128x1x4, .f32⟩
  | 23 => ⟨S1x128x1x4, .f32⟩
  | 24 => ⟨S3x128x1x4, .f32⟩
  | 25 => ⟨S_, .f32⟩
  | 26 => ⟨S128x1x4, .f32⟩
  | 27 => ⟨S_, .f32⟩
  | 28 => ⟨S128x1x4, .f32⟩
  | 29 => ⟨S128x1x4, .f32⟩
  | 30 => ⟨S1x128x1x4, .f32⟩
  | 31 => ⟨S3x128x1x4, .f32⟩
  | 32 => ⟨S3x128x1x4, .f32⟩
  | 33 => ⟨S3x128x1x4, .f32⟩
  | 34 => ⟨S_, .f32⟩
  | 35 => ⟨S128x1x4, .f32⟩
  | 36 => ⟨S1x128x1x4, .f32⟩
  | 37 => ⟨S3x128x1x4, .f32⟩
  | 38 => ⟨S3x128x1x4, .f32⟩
  | 39 => ⟨S1x128x1x4x64, .f32⟩
  | 40 => ⟨S1x128x1x4x64, .f32⟩
  | 41 => ⟨S1x128x1x4x64, .f32⟩
  | 42 => ⟨S3x128x1x4x64, .f32⟩
  | 43 => ⟨S128x1x4x64, .f32⟩
  | 44 => ⟨S128x1x256, .f32⟩
  | 45 => ⟨S128x1x1024, .f32⟩
  | 46 => ⟨S128x1x1024, .f32⟩
  | 47 => ⟨S128x1x2x1024, .f32⟩
  | 48 => ⟨S128x1x1x1024, .f32⟩
  | 49 => ⟨S128x1x1024, .f32⟩
  | 50 => ⟨S128x1x1024, .f32⟩
  | 51 => ⟨S128x1x1x1024, .f32⟩
  | 52 => ⟨S128x1x1024, .f32⟩
  | 53 => ⟨S128x1x1024, .f32⟩
  | 54 => ⟨S128x1x1024, .f32⟩
  | 55 => ⟨S128x1x1024, .f32⟩
  | 56 => ⟨S128x1x1024, .f32⟩
  | 57 => ⟨S_, .f32⟩
  | 58 => ⟨S128x1, .f32⟩
  | 59 => ⟨S128x1x1, .f32⟩
  | 60 => ⟨S_, .f32⟩
  | 61 => ⟨S128x1x1, .f32⟩
  | 62 => ⟨S128x1x1, .f32⟩
  | 63 => ⟨S_, .f32⟩
  | 64 => ⟨S128x1x1, .f32⟩
  | 65 => ⟨S128x1x1, .f32⟩
  | 66 => ⟨S128x1x1, .f32⟩
  | 67 => ⟨S128x1x1024, .f32⟩
  | 68 => ⟨S128x1x1024, .f32⟩
  | 69 => ⟨S1x1x1024, .f32⟩
  | 70 => ⟨S128x1x1024, .f32⟩
  | 71 => ⟨S128x1x1024, .f32⟩
  | 72 => ⟨S128x1x1024, .f32⟩
  | 73 => ⟨S128x1x1024, .f32⟩
  | 74 => ⟨S_, .f32⟩
  | 75 => ⟨S128x1, .f32⟩
  | 76 => ⟨S128x1x1, .f32⟩
  | 77 => ⟨S_, .f32⟩
  | 78 => ⟨S128x1x1, .f32⟩
  | 79 => ⟨S128x1x1, .f32⟩
  | 80 => ⟨S_, .f32⟩
  | 81 => ⟨S128x1x1, .f32⟩
  | 82 => ⟨S128x1x1, .f32⟩
  | 83 => ⟨S128x1x1, .f32⟩
  | 84 => ⟨S128x1x1024, .f32⟩
  | 85 => ⟨S128x1x1024, .f32⟩
  | 86 => ⟨S1x1x1024, .f32⟩
  | 87 => ⟨S128x1x1024, .f32⟩
  | 88 => ⟨S128x1x1024, .f32⟩
  | 89 => ⟨S128x1x5632, .f32⟩
  | 90 => ⟨S128x1x2816, .f32⟩
  | 91 => ⟨S128x1x2816, .f32⟩
  | 92 => ⟨S128x1x2816, .f32⟩
  | 93 => ⟨S128x1x2816, .f32⟩
  | 94 => ⟨S_, .f32⟩
  | 95 => ⟨S128x1x2816, .f32⟩
  | 96 => ⟨S128x1x2816, .f32⟩
  | 97 => ⟨S_, .f32⟩
  | 98 => ⟨S128x1x2816, .f32⟩
  | 99 => ⟨S128x1x2816, .f32⟩
  | 100 => ⟨S128x1x2816, .f32⟩
  | 101 => ⟨S128x1x2816, .f32⟩
  | 102 => ⟨S128x1x1024, .f32⟩
  | 103 => ⟨S128x1x1024, .f32⟩
  | 104 => ⟨S_, .f32⟩
  | 105 => ⟨S128x1, .f32⟩
  | 106 => ⟨S128x1x1, .f32⟩
  | 107 => ⟨S_, .f32⟩
  | 108 => ⟨S128x1x1, .f32⟩
  | 109 => ⟨S128x1x1, .f32⟩
  | 110 => ⟨S_, .f32⟩
  | 111 => ⟨S128x1x1, .f32⟩
  | 112 => ⟨S128x1x1, .f32⟩
  | 113 => ⟨S128x1x1, .f32⟩
  | 114 => ⟨S128x1x1024, .f32⟩
  | 115 => ⟨S128x1x1024, .f32⟩
  | 116 => ⟨S1x1x1024, .f32⟩
  | 117 => ⟨S128x1x1024, .f32⟩
  | 118 => ⟨S128x1x1024, .f32⟩
  | 119 => ⟨S128x1x1024, .f32⟩
  | 120 => ⟨S128x1x1024, .f32⟩
  | 121 => ⟨S_, .f32⟩
  | 122 => ⟨S128x1, .f32⟩
  | 123 => ⟨S128x1x1, .f32⟩
  | 124 => ⟨S_, .f32⟩
  | 125 => ⟨S128x1x1, .f32⟩
  | 126 => ⟨S128x1x1, .f32⟩
  | 127 => ⟨S_, .f32⟩
  | _ => ⟨S128x1x1024, .f32⟩

abbrev hbmTy0_1 (i : Nat) : BufTy := match i % 128 with
  | 0 => ⟨S128x1x1, .f32⟩
  | 1 => ⟨S128x1x1, .f32⟩
  | 2 => ⟨S128x1x1, .f32⟩
  | 3 => ⟨S128x1x1024, .f32⟩
  | 4 => ⟨S128x1x1024, .f32⟩
  | 5 => ⟨S1x1x1024, .f32⟩
  | 6 => ⟨S128x1x1024, .f32⟩
  | 7 => ⟨S128x1x1024, .f32⟩
  | 8 => ⟨S128x1x1024, .f32⟩
  | 9 => ⟨S128x1x1024, .f32⟩
  | 10 => ⟨S128x1x1024, .f32⟩
  | 11 => ⟨S_, .f32⟩
  | 12 => ⟨S128x1x1024, .f32⟩
  | 13 => ⟨S128x1x1024, .f32⟩
  | 14 => ⟨S_, .f32⟩
  | 15 => ⟨S128x1x1024, .f32⟩
  | 16 => ⟨S128x1x1024, .f32⟩
  | 17 => ⟨S128x1x1024, .f32⟩
  | 18 => ⟨S128x1x1024, .f32⟩
  | 19 => ⟨S128x1x1024, .f32⟩
  | 20 => ⟨S128x1024, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_2 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call0_v0 : Ref sig .tc := ⟨.hbm, 92, rfl⟩
abbrev main_call0_v1 : Ref sig .tc := ⟨.hbm, 93, rfl⟩
abbrev main_call0_cst : Ref sig .tc := ⟨.hbm, 94, rfl⟩
abbrev main_call0_v2 : Ref sig .tc := ⟨.hbm, 95, rfl⟩
abbrev main_call0_v3 : Ref sig .tc := ⟨.hbm, 96, rfl⟩
abbrev main_call0_cst_0 : Ref sig .tc := ⟨.hbm, 97, rfl⟩
abbrev main_call0_v4 : Ref sig .tc := ⟨.hbm, 98, rfl⟩
abbrev main_call0_v5 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_8 : Ref sig .tc := ⟨.hbm, 104, rfl⟩
abbrev main_v66 : Ref sig .tc := ⟨.hbm, 105, rfl⟩
abbrev main_v67 : Ref sig .tc := ⟨.hbm, 106, rfl⟩
abbrev main_cst_9 : Ref sig .tc := ⟨.hbm, 107, rfl⟩
abbrev main_v68 : Ref sig .tc := ⟨.hbm, 108, rfl⟩
abbrev main_v69 : Ref sig .tc := ⟨.hbm, 109, rfl⟩
abbrev main_cst_10 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_11 : Ref sig .tc := ⟨.hbm, 121, rfl⟩
abbrev main_v80 : Ref sig .tc := ⟨.hbm, 122, rfl⟩
abbrev main_v81 : Ref sig .tc := ⟨.hbm, 123, rfl⟩
abbrev main_cst_12 : Ref sig .tc := ⟨.hbm, 124, rfl⟩
abbrev main_v82 : Ref sig .tc := ⟨.hbm, 125, rfl⟩
abbrev main_v83 : Ref sig .tc := ⟨.hbm, 126, rfl⟩
abbrev main_cst_13 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_14 : Ref sig .tc := ⟨.hbm, 139, rfl⟩
abbrev main_v95 : Ref sig .tc := ⟨.hbm, 140, rfl⟩
abbrev main_v96 : Ref sig .tc := ⟨.hbm, 141, rfl⟩
abbrev main_cst_15 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩

abbrev nD : Nat := 1
abbrev τ : Topo := Topo.v7x

variable {F : FTy → Type} [FloatOps F]
-- ==== Kernel5.lean ====
abbrev S128x1x12x64 : Shape := ⟨4, ![128, 1, 12, 64]⟩
abbrev S128x128x2x4x64 : Shape := ⟨5, ![128, 128, 2, 4, 64]⟩
abbrev S128x512x2x4x64 : Shape := ⟨5, ![128, 512, 2, 4, 64]⟩
abbrev S128x2048x2x4x64 : Shape := ⟨5, ![128, 2048, 2, 4, 64]⟩
abbrev S8x128 : Shape := ⟨2, ![8, 128]⟩
abbrev S8x512 : Shape := ⟨2, ![8, 512]⟩
abbrev S8x2048 : Shape := ⟨2, ![8, 2048]⟩
abbrev S3x8x1 : Shape := ⟨3, ![3, 8, 1]⟩
abbrev S128x768 : Shape := ⟨2, ![128, 768]⟩
abbrev S_ : Shape := ⟨0, ![]⟩
abbrev S128x2x4x64x128 : Shape := ⟨5, ![128, 2, 4, 64, 128]⟩
abbrev S128x2x256x128 : Shape := ⟨4, ![128, 2, 256, 128]⟩
abbrev S128x2x4x64x512 : Shape := ⟨5, ![128, 2, 4, 64, 512]⟩
abbrev S128x2x256x512 : Shape := ⟨4, ![128, 2, 256, 512]⟩
abbrev S128x2x4x64x2048 : Shape := ⟨5, ![128, 2, 4, 64, 2048]⟩
abbrev S128x2x256x2048 : Shape := ⟨4, ![128, 2, 256, 2048]⟩
abbrev S128x1x768 : Shape := ⟨3, ![128, 1, 768]⟩
abbrev S768x128 : Shape := ⟨2, ![768, 128]⟩
abbrev S1x1x768 : Shape := ⟨3, ![1, 1, 768]⟩
abbrev S1x2x256x128 : Shape := ⟨4, ![1, 2, 256, 128]⟩
abbrev S1x2x256x512 : Shape := ⟨4, ![1, 2, 256, 512]⟩
abbrev S1x2x256x2048 : Shape := ⟨4, ![1, 2, 256, 2048]⟩
abbrev S8x256 : Shape := ⟨2, ![8, 256]⟩
abbrev S1x128 : Shape := ⟨2, ![1, 128]⟩
abbrev S1x1x256x128 : Shape := ⟨4, ![1, 1, 256, 128]⟩
abbrev S256x128 : Shape := ⟨2, ![256, 128]⟩
abbrev S1x1x256 : Shape := ⟨3, ![1, 1, 256]⟩
abbrev S1x256 : Shape := ⟨2, ![1, 256]⟩
abbrev S8 : Shape := ⟨1, ![8]⟩
abbrev S8x1 : Shape := ⟨2, ![8, 1]⟩
abbrev S1x8x1 : Shape := ⟨3, ![1, 8, 1]⟩
abbrev S256 : Shape := ⟨1, ![256]⟩
abbrev S256x1 : Shape := ⟨2, ![256, 1]⟩
abbrev S1x1x256x512 : Shape := ⟨4, ![1, 1, 256, 512]⟩
abbrev S256x512 : Shape := ⟨2, ![256, 512]⟩
abbrev S1x512 : Shape := ⟨2, ![1, 512]⟩
abbrev S1x1x256x2048 : Shape := ⟨4, ![1, 1, 256, 2048]⟩
abbrev S256x2048 : Shape := ⟨2, ![256, 2048]⟩
abbrev S1x2048 : Shape := ⟨2, ![1, 2048]⟩

abbrev nBuf : Space → Nat
  | .hbm => 38
  | .vmem => 28
  | .smem => 0
  | _ => 0

abbrev bufTy : (tb : Table) → Fin (tcTables nBuf tb) → BufTy
  | .hbm, ⟨0, _⟩ => ⟨S128x1x12x64, .f32⟩
  | .hbm, ⟨1, _⟩ => ⟨S128x1x12x64, .f32⟩
  | .hbm, ⟨2, _⟩ => ⟨S128x1x12x64, .f32⟩
  | .hbm, ⟨3, _⟩ => ⟨S128x128x2x4x64, .f32⟩
  | .hbm, ⟨4, _⟩ => ⟨S128x512x2x4x64, .f32⟩
  | .hbm, ⟨5, _⟩ => ⟨S128x2048x2x4x64, .f32⟩
  | .hbm, ⟨6, _⟩ => ⟨S8x128, .f32⟩
  | .hbm, ⟨7, _⟩ => ⟨S8x512, .f32⟩
  | .hbm, ⟨8, _⟩ => ⟨S8x2048, .f32⟩
  | .hbm, ⟨9, _⟩ => ⟨S3x8x1, .f32⟩
  | .hbm, ⟨10, _⟩ => ⟨S128x768, .f32⟩
  | .hbm, ⟨11, _⟩ => ⟨S_, .f32⟩
  | .hbm, ⟨12, _⟩ => ⟨S128x768, .f32⟩
  | .hbm, ⟨13, _⟩ => ⟨S128x768, .f32⟩
  | .hbm, ⟨14, _⟩ => ⟨S128x768, .f32⟩
  | .hbm, ⟨15, _⟩ => ⟨S128x768, .f32⟩
  | .hbm, ⟨16, _⟩ => ⟨S128x2x4x64x128, .f32⟩
  | .hbm, ⟨17, _⟩ => ⟨S128x2x256x128, .f32⟩
  | .hbm, ⟨18, _⟩ => ⟨S128x2x4x64x512, .f32⟩
  | .hbm, ⟨19, _⟩ => ⟨S128x2x256x512, .f32⟩
  | .hbm, ⟨20, _⟩ => ⟨S128x2x4x64x2048, .f32⟩
  | .hbm, ⟨21, _⟩ => ⟨S128x2x256x2048, .f32⟩
  | .hbm, ⟨22, _⟩ => ⟨S128x1x768, .f32⟩
  | .hbm, ⟨23, _⟩ => ⟨S128x1x768, .f32⟩
  | .hbm, ⟨24, _⟩ => ⟨S128x1x768, .f32⟩
  | .hbm, ⟨25, _⟩ => ⟨S768x128, .f32⟩
  | .hbm, ⟨26, _⟩ => ⟨S768x128, .f32⟩
  | .hbm, ⟨27, _⟩ => ⟨S128x1x768, .f32⟩
  | .hbm, ⟨28, _⟩ => ⟨S128x1x768, .f32⟩
  | .hbm, ⟨29, _⟩ => ⟨S128x2x256x128, .f32⟩
  | .hbm, ⟨30, _⟩ => ⟨S128x2x256x512, .f32⟩
  | .hbm, ⟨31, _⟩ => ⟨S128x2x256x2048, .f32⟩
  | .hbm, ⟨32, _⟩ => ⟨S128x2x4x64x128, .f32⟩
  | .hbm, ⟨33, _⟩ => ⟨S128x128x2x4x64, .f32⟩
  | .hbm, ⟨34, _⟩ => ⟨S128x2x4x64x512, .f32⟩
  | .hbm, ⟨35, _⟩ => ⟨S128x512x2x4x64, .f32⟩
  | .hbm, ⟨36, _⟩ => ⟨S128x2x4x64x2048, .f32⟩
  | .hbm, ⟨37, _⟩ => ⟨S128x2048x2x4x64, .f32⟩
  | .local _ .vmem, ⟨0, _⟩ => ⟨S1x1x768, .f32⟩
  | .local _ .vmem, ⟨1, _⟩ => ⟨S1x1x768, .f32⟩
  | .local _ .vmem, ⟨2, _⟩ => ⟨S1x1x768, .f32⟩
  | .local _ .vmem, ⟨3, _⟩ => ⟨S1x1x768, .f32⟩
  | .local _ .vmem, ⟨4, _⟩ => ⟨S1x1x768, .f32⟩
  | .local _ .vmem, ⟨5, _⟩ => ⟨S1x1x768, .f32⟩
  | .local _ .vmem, ⟨6, _⟩ => ⟨S768x128, .f32⟩
  | .local _ .vmem, ⟨7, _⟩ => ⟨S768x128, .f32⟩
  | .local _ .vmem, ⟨8, _⟩ => ⟨S1x2x256x128, .f32⟩
  | .local _ .vmem, ⟨9, _⟩ => ⟨S1x2x256x128, .f32⟩
  | .local _ .vmem, ⟨10, _⟩ => ⟨S1x2x256x512, .f32⟩
  | .local _ .vmem, ⟨11, _⟩ => ⟨S1x2x256x512, .f32⟩
  | .local _ .vmem, ⟨12, _⟩ => ⟨S1x2x256x2048, .f32⟩
  | .local _ .vmem, ⟨13, _⟩ => ⟨S1x2x256x2048, .f32⟩
  | .local _ .vmem, ⟨14, _⟩ => ⟨S8x128, .f32⟩
  | .local _ .vmem, ⟨15, _⟩ => ⟨S8x512, .f32⟩
  | .local _ .vmem, ⟨16, _⟩ => ⟨S8x2048, .f32⟩
  | .local _ .vmem, ⟨17, _⟩ => ⟨S3x8x1, .f32⟩
  | .local _ .vmem, ⟨18, _⟩ => ⟨S1x1x768, .f32⟩
  | .local _ .vmem, ⟨19, _⟩ => ⟨S1x1x768, .f32⟩
  | .local _ .vmem, ⟨20, _⟩ => ⟨S1x1x768, .f32⟩
  | .local _ .vmem, ⟨21, _⟩ => ⟨S1x1x768, .f32⟩
  | .local _ .vmem, ⟨22, _⟩ => ⟨S1x2x256x128, .f32⟩
  | .local _ .vmem, ⟨23, _⟩ => ⟨S1x2x256x128, .f32⟩
  | .local _ .vmem, ⟨24, _⟩ => ⟨S1x2x256x512, .f32⟩
  | .local _ .vmem, ⟨25, _⟩ => ⟨S1x2x256x512, .f32⟩
  | .local _ .vmem, ⟨26, _⟩ => ⟨S1x2x256x2048, .f32⟩
  | .local _ .vmem, ⟨27, _⟩ => ⟨S1x2x256x2048, .f32⟩
  | _, _ => ⟨S128x1x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x8x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S128x1x12x64 : Shape := ⟨4, ![128, 1, 12, 64]⟩
abbrev S128x128x2x4x64 : Shape := ⟨5, ![128, 128, 2, 4, 64]⟩
abbrev S128x512x2x4x64 : Shape := ⟨5, ![128, 512, 2, 4, 64]⟩
abbrev S128x2048x2x4x64 : Shape := ⟨5, ![128, 2048, 2, 4, 64]⟩
abbrev S8x128 : Shape := ⟨2, ![8, 128]⟩
abbrev S8x512 : Shape := ⟨2, ![8, 512]⟩
abbrev S8x2048 : Shape := ⟨2, ![8, 2048]⟩
abbrev S3x8x1 : Shape := ⟨3, ![3, 8, 1]⟩
abbrev S128x128x1x4x64 : Shape := ⟨5, ![128, 128, 1, 4, 64]⟩
abbrev S128x128x4x64 : Shape := ⟨4, ![128, 128, 4, 64]⟩
abbrev S128x1x4x64 : Shape := ⟨4, ![128, 1, 4, 64]⟩
abbrev S128x129x4x64 : Shape := ⟨4, ![128, 129, 4, 64]⟩
abbrev S128x512x1x4x64 : Shape := ⟨5, ![128, 512, 1, 4, 64]⟩
abbrev S128x512x4x64 : Shape := ⟨4, ![128, 512, 4, 64]⟩
abbrev S128x513x4x64 : Shape := ⟨4, ![128, 513, 4, 64]⟩
abbrev S128x2048x1x4x64 : Shape := ⟨5, ![128, 2048, 1, 4, 64]⟩
abbrev S128x2048x4x64 : Shape := ⟨4, ![128, 2048, 4, 64]⟩
abbrev S128x2049x4x64 : Shape := ⟨4, ![128, 2049, 4, 64]⟩

abbrev nBuf : Space → Nat
  | .hbm => 49
  | .vmem => 0
  | .smem => 0
  | _ => 0

abbrev bufTy : (tb : Table) → Fin (tcTables nBuf tb) → BufTy
  | .hbm, ⟨0, _⟩ => ⟨S128x1x12x64, .f32⟩
  | .hbm, ⟨1, _⟩ => ⟨S128x1x12x64, .f32⟩
  | .hbm, ⟨2, _⟩ => ⟨S128x1x12x64, .f32⟩
  | .hbm, ⟨3, _⟩ => ⟨S128x128x2x4x64, .f32⟩
  | .hbm, ⟨4, _⟩ => ⟨S128x512x2x4x64, .f32⟩
  | .hbm, ⟨5, _⟩ => ⟨S128x2048x2x4x64, .f32⟩
  | .hbm, ⟨6, _⟩ => ⟨S8x128, .f32⟩
  | .hbm, ⟨7, _⟩ => ⟨S8x512, .f32⟩
  | .hbm, ⟨8, _⟩ => ⟨S8x2048, .f32⟩
  | .hbm, ⟨9, _⟩ => ⟨S3x8x1, .f32⟩
  | .hbm, ⟨10, _⟩ => ⟨S128x128x1x4x64, .f32⟩
  | .hbm, ⟨11, _⟩ => ⟨S128x128x4x64, .f32⟩
  | .hbm, ⟨12, _⟩ => ⟨S128x1x4x64, .f32⟩
  | .hbm, ⟨13, _⟩ => ⟨S128x129x4x64, .f32⟩
  | .hbm, ⟨14, _⟩ => ⟨S128x128x1x4x64, .f32⟩
  | .hbm, ⟨15, _⟩ => ⟨S128x128x4x64, .f32⟩
  | .hbm, ⟨16, _⟩ => ⟨S128x1x4x64, .f32⟩
  | .hbm, ⟨17, _⟩ => ⟨S128x129x4x64, .f32⟩
  | .hbm, ⟨18, _⟩ => ⟨S128x128x4x64, .f32⟩
  | .hbm, ⟨19, _⟩ => ⟨S128x128x4x64, .f32⟩
  | .hbm, ⟨20, _⟩ => ⟨S128x128x1x4x64, .f32⟩
  | .hbm, ⟨21, _⟩ => ⟨S128x128x1x4x64, .f32⟩
  | .hbm, ⟨22, _⟩ => ⟨S128x128x2x4x64, .f32⟩
  | .hbm, ⟨23, _⟩ => ⟨S128x512x1x4x64, .f32⟩
  | .hbm, ⟨24, _⟩ => ⟨S128x512x4x64, .f32⟩
  | .hbm, ⟨25, _⟩ => ⟨S128x1x4x64, .f32⟩
  | .hbm, ⟨26, _⟩ => ⟨S128x513x4x64, .f32⟩
  | .hbm, ⟨27, _⟩ => ⟨S128x512x1x4x64, .f32⟩
  | .hbm, ⟨28, _⟩ => ⟨S128x512x4x64, .f32⟩
  | .hbm, ⟨29, _⟩ => ⟨S128x1x4x64, .f32⟩
  | .hbm, ⟨30, _⟩ => ⟨S128x513x4x64, .f32⟩
  | .hbm, ⟨31, _⟩ => ⟨S128x512x4x64, .f32⟩
  | .hbm, ⟨32, _⟩ => ⟨S128x512x4x64, .f32⟩
  | .hbm, ⟨33, _⟩ => ⟨S128x512x1x4x64, .f32⟩
  | .hbm, ⟨34, _⟩ => ⟨S128x512x1x4x64, .f32⟩
  | .hbm, ⟨35, _⟩ => ⟨S128x512x2x4x64, .f32⟩
  | .hbm, ⟨36, _⟩ => ⟨S128x2048x1x4x64, .f32⟩
  | .hbm, ⟨37, _⟩ => ⟨S128x2048x4x64, .f32⟩
  | .hbm, ⟨38, _⟩ => ⟨S128x1x4x64, .f32⟩
  | .hbm, ⟨39, _⟩ => ⟨S128x2049x4x64, .f32⟩
  | .hbm, ⟨40, _⟩ => ⟨S128x2048x1x4x64, .f32⟩
  | .hbm, ⟨41, _⟩ => ⟨S128x2048x4x64, .f32⟩
  | .hbm, ⟨42, _⟩ => ⟨S128x1x4x64, .f32⟩
  | .hbm, ⟨43, _⟩ => ⟨S128x2049x4x64, .f32⟩
  | .hbm, ⟨44, _⟩ => ⟨S128x2048x4x64, .f32⟩
  | .hbm, ⟨45, _⟩ => ⟨S128x2048x4x64, .f32⟩
  | .hbm, ⟨46, _⟩ => ⟨S128x2048x1x4x64, .f32⟩
  | .hbm, ⟨47, _⟩ => ⟨S128x2048x1x4x64, .f32⟩
  | .hbm, ⟨48, _⟩ => ⟨S128x2048x2x4x64, .f32⟩
  | _, _ => ⟨S128x1x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel6.lean ====
abbrev S128x30x1024 : Shape := ⟨3, ![128, 30, 1024]⟩
abbrev S128x1x1024 : Shape := ⟨3, ![128, 1, 1024]⟩
abbrev S31x1024 : Shape := ⟨2, ![31, 1024]⟩
abbrev S1024 : Shape := ⟨1, ![1024]⟩
abbrev S30x128x1024 : Shape := ⟨3, ![30, 128, 1024]⟩
abbrev S128x1024 : Shape := ⟨2, ![128, 1024]⟩
abbrev S1x1024 : Shape := ⟨2, ![1, 1024]⟩
abbrev S30x32x1024 : Shape := ⟨3, ![30, 32, 1024]⟩
abbrev S32x1024 : Shape := ⟨2, ![32, 1024]⟩
abbrev S1x32x1024 : Shape := ⟨3, ![1, 32, 1024]⟩
abbrev S32 : Shape := ⟨1, ![32]⟩
abbrev S32x1 : Shape := ⟨2, ![32, 1]⟩
abbrev S29x32x1024 : Shape := ⟨3, ![29, 32, 1024]⟩

abbrev nBuf : Space → Nat
  | .hbm => 14
  | .vmem => 12
  | .smem => 0
  | _ => 0

abbrev bufTy : (tb : Table) → Fin (tcTables nBuf tb) → BufTy
  | .hbm, ⟨0, _⟩ => ⟨S128x30x1024, .f32⟩
  | .hbm, ⟨1, _⟩ => ⟨S128x1x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S30x128x1024, .f32⟩
  | .hbm, ⟨7, _⟩ => ⟨S128x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S128x1024, .f32⟩
  | .hbm, ⟨12, _⟩ => ⟨S30x128x1024, .f32⟩
  | .hbm, ⟨13, _⟩ => ⟨S128x30x1024, .f32⟩
  | .local _ .vmem, ⟨0, _⟩ => ⟨S30x32x1024, .f32⟩
  | .local _ .vmem, ⟨1, _⟩ => ⟨S30x32x1024, .f32⟩
  | .local _ .vmem, ⟨2, _⟩ => ⟨S32x1024, .f32⟩
  | .local _ .vmem, ⟨3, _⟩ => ⟨S32x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S32x1024, .f32⟩
  | .local _ .vmem, ⟨9, _⟩ => ⟨S32x1024, .f32⟩
  | .local _ .vmem, ⟨10, _⟩ => ⟨S30x32x1024, .f32⟩
  | .local _ .vmem, ⟨11, _⟩ => ⟨S30x32x1024, .f32⟩
  | _, _ => ⟨S128x30x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S30x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S30x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S128x30x1024 : Shape := ⟨3, ![128, 30, 1024]⟩
abbrev S128x1x1024 : Shape := ⟨3, ![128, 1, 1024]⟩
abbrev S31x1024 : Shape := ⟨2, ![31, 1024]⟩
abbrev S1024 : Shape := ⟨1, ![1024]⟩
abbrev S128x31x1024 : Shape := ⟨3, ![128, 31, 1024]⟩
abbrev S1x31x1024 : Shape := ⟨3, ![1, 31, 1024]⟩
abbrev S_ : Shape := ⟨0, ![]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩

abbrev nBuf : Space → Nat
  | .hbm => 52
  | .vmem => 0
  | .smem => 0
  | _ => 0

abbrev bufTy : (tb : Table) → Fin (tcTables nBuf tb) → BufTy
  | .hbm, ⟨0, _⟩ => ⟨S128x30x1024, .f32⟩
  | .hbm, ⟨1, _⟩ => ⟨S128x1x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S128x31x1024, .f32⟩
  | .hbm, ⟨7, _⟩ => ⟨S1x31x1024, .f32⟩
  | .hbm, ⟨8, _⟩ => ⟨S128x31x1024, .f32⟩
  | .hbm, ⟨9, _⟩ => ⟨S128x31x1024, .f32⟩
  | .hbm, ⟨10, _⟩ => ⟨S_, .f32⟩
  | .hbm, ⟨11, _⟩ => ⟨S128x1024, .f32⟩
  | .hbm, ⟨12, _⟩ => ⟨S1x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x1024, .f32⟩
  | .hbm, ⟨35, _⟩ => ⟨S128x1024, .f32⟩
  | .hbm, ⟨36, _⟩ => ⟨S1x1024, .f32⟩
  | .hbm, ⟨37, _⟩ => ⟨S128x1024, .f32⟩
  | .hbm, ⟨38, _⟩ => ⟨S128x1024, .f32⟩
  | .hbm, ⟨39, _⟩ => ⟨S1x1024, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S128x30x1024, .f32⟩
  | _, _ => ⟨S128x30x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proof.Rows.lean ====
/- One row of the layer, as functions of row vectors and weight tables over the extended reals. -/
module

public import Idealize.ShloMosaic.Lib.Pointwise
public import Idealize.ShloMosaic.Lib.Pipeline.ValueKit

@[expose] public section

noncomputable section

open Idealize.ShloMosaic

namespace Cert.Rows

/-- A row times a weight table. -/
def lin {n m : ℕ} (x : Fin n → EReal) (w : Fin n → Fin m → EReal) (j : Fin m) : EReal := ∑ k, x k * w k j

/-- A row of length 1024 divided by its root mean square, times a gain. -/
def rms (x g : Fin 1024 → EReal) (j : Fin 1024) : EReal :=
  x j * Ideal.rsqrt (Ideal.div (∑ k, x k * x k) (Ideal.ofBits FTy.f32 0x44800000#32) + Ideal.ofBits FTy.f32 0x358637BD#32) * g j

/-- The two branches, each gated, projected. -/
def mixRow (a : Fin 256 → EReal) (c g0 g1 : Fin 1024 → EReal) (wa : Fin 256 → Fin 1024 → EReal)
    (wc wo : Fin 1024 → Fin 1024 → EReal) : Fin 1024 → EReal :=
  lin (fun k => g0 k * lin a wa k + g1 k * lin c wc k) wo

/-- The stream after the mixing part: the row plus the normalised mix. -/
def stream1 (mix x n1 : Fin 1024 → EReal) (j : Fin 1024) : EReal := x j + rms mix n1 j

/-- The hidden row of the gated feed-forward part. -/
def ffHidden (x n2 : Fin 1024 → EReal) (wg wu : Fin 1024 → Fin 2816 → EReal) (k : Fin 2816) : EReal :=
  lin (rms x n2) wg k * Ideal.logistic (lin (rms x n2) wg k) * lin (rms x n2) wu k

/-- The gate of the per-position embedding. -/
def pgate (x n4 : Fin 1024 → EReal) (wpg : Fin 1024 → Fin 1024 → EReal) (j : Fin 1024) : EReal :=
  Ideal.logistic (lin (rms x n4) wpg j)

/-- The whole closing row: mixing, feed-forward, per-position embedding. -/
def postRow (a : Fin 256 → EReal) (x c g0 g1 : Fin 1024 → EReal) (p : Fin 256 → EReal)
    (wa : Fin 256 → Fin 1024 → EReal) (wc wo : Fin 1024 → Fin 1024 → EReal) (n1 n2 : Fin 1024 → EReal)
    (wg wu : Fin 1024 → Fin 2816 → EReal) (wfo : Fin 2816 → Fin 1024 → EReal) (n3 n4 : Fin 1024 → EReal)
    (wpg : Fin 1024 → Fin 1024 → EReal) (wpp : Fin 256 → Fin 1024 → EReal) (j : Fin 1024) : EReal :=
  let x1 := stream1 (mixRow a c g0 g1 wa wc wo) x n1
  let x2 := stream1 (lin (ffHidden x1 n2 wg wu) wfo) x1 n3
  x2 j + pgate x2 n4 wpg j * lin p wpp j

/-- Rows of equal ingredients are equal. -/
theorem postRow_congr {a a' : Fin 256 → EReal} {x x' : Fin 1024 → EReal} {c c' : Fin 1024 → EReal} {g0 g0' : Fin 1024 → EReal} {g1 g1' : Fin 1024 → EReal} {p p' : Fin 256 → EReal} {wa wa' : Fin 256 → Fin 1024 → EReal} {wc wc' : Fin 1024 → Fin 1024 → EReal} {wo wo' : Fin 1024 → Fin 1024 → EReal} {n1 n1' : Fin 1024 → EReal} {n2 n2' : Fin 1024 → EReal} {wg wg' : Fin 1024 → Fin 2816 → EReal} {wu wu' : Fin 1024 → Fin 2816 → EReal} {wfo wfo' : Fin 2816 → Fin 1024 → EReal} {n3 n3' : Fin 1024 → EReal} {n4 n4' : Fin 1024 → EReal} {wpg wpg' : Fin 1024 → Fin 1024 → EReal} {wpp wpp' : Fin 256 → Fin 1024 → EReal}
    (ha : a = a') (hx : x = x') (hc : c = c') (hg0 : g0 = g0') (hg1 : g1 = g1') (hp : p = p') (hwa : wa = wa') (hwc : wc = wc') (hwo : wo = wo') (hn1 : n1 = n1') (hn2 : n2 = n2') (hwg : wg = wg') (hwu : wu = wu') (hwfo : wfo = wfo') (hn3 : n3 = n3') (hn4 : n4 = n4') (hwpg : wpg = wpg') (hwpp : wpp = wpp') (j : Fin 1024) :
    postRow a x c g0 g1 p wa wc wo n1 n2 wg wu wfo n3 n4 wpg wpp j = postRow a' x' c' g0' g1' p' wa' wc' wo' n1' n2' wg' wu' wfo' n3' n4' wpg' wpp' j := by
  subst ha hx hc hg0 hg1 hp hwa hwc hwo hn1 hn2 hwg hwu hwfo hn3 hn4 hwpg hwpp
  rfl

/-- The pattern of minus infinity. -/
theorem negInf : Ideal.ofBits FTy.f32 0xFF800000#32 = ⊥ := by
  simp [Ideal.ofBits, Ideal.ieee]

/-- The maximum of three, folded from minus infinity. -/
theorem fold_max3 (f : Fin 3 → EReal) : Finset.fold max ⊥ f Finset.univ = max (max (f 0) (f 1)) (f 2) := by
  have h : (Finset.univ : Finset (Fin 3)) = {0, 1, 2} := rfl
  rw [h, Finset.fold_insert (by decide), Finset.fold_insert (by decide), Finset.fold_singleton]
  rw [max_eq_left (bot_le : ⊥ ≤ f 2), max_assoc]

/-- One lane of the groups' combination as the call forms it: weights summed first, one division. -/
def comb (l0 l1 l2 o0 o1 o2 : EReal) : EReal :=
  let m := max (max l0 l1) l2
  Ideal.div (Ideal.exp (l0 - m) * o0 + Ideal.exp (l1 - m) * o1 + Ideal.exp (l2 - m) * o2)
    (Ideal.exp (l0 - m) + Ideal.exp (l1 - m) + Ideal.exp (l2 - m))

/-- The same lane as a softmax over the groups: each weight divided, then summed. -/
def soft (l0 l1 l2 o0 o1 o2 : EReal) : EReal :=
  let m := max (max l0 l1) l2
  let s := Ideal.exp (l0 - m) + Ideal.exp (l1 - m) + Ideal.exp (l2 - m)
  Ideal.div (Ideal.exp (l0 - m)) s * o0 + Ideal.div (Ideal.exp (l1 - m)) s * o1 + Ideal.div (Ideal.exp (l2 - m)) s * o2

/-- The weight of a group below a real maximum is a nonnegative number. -/
theorem weight_coe {l m : EReal} (hm : m ≠ ⊥) (hm' : m ≠ ⊤) (h : l ≤ m) : ∃ r : ℝ, 0 ≤ r ∧ Ideal.exp (l - m) = (r : EReal) := by
  lift m to ℝ using ⟨hm', hm⟩
  induction l with
  | bot => exact ⟨0, le_rfl, by simp⟩
  | coe r => exact ⟨Real.exp (r - m), (Real.exp_pos _).le, by rw [← EReal.coe_sub]; rfl⟩
  | top => exact absurd h (by simp)

/-- The weight of the group holding the maximum is one. -/
theorem weight_self {m : EReal} (hm : m ≠ ⊥) (hm' : m ≠ ⊤) : Ideal.exp (m - m) = 1 := by
  lift m to ℝ using ⟨hm', hm⟩
  rw [← EReal.coe_sub, sub_self]
  show ((Real.exp 0 : ℝ) : EReal) = 1
  simp

/-- Dividing a weight first or last is the same where the maximum of the three logarithms is a number. -/
theorem comb_eq_soft {l0 l1 l2 : EReal} (o0 o1 o2 : EReal) (hb : ⊥ < max (max l0 l1) l2) (ht : max (max l0 l1) l2 < ⊤) :
    comb l0 l1 l2 o0 o1 o2 = soft l0 l1 l2 o0 o1 o2 := by
  unfold comb soft
  obtain ⟨r0, p0, h0⟩ := weight_coe hb.ne' ht.ne (l := l0) (le_trans (le_max_left _ _) (le_max_left _ _))
  obtain ⟨r1, p1, h1⟩ := weight_coe hb.ne' ht.ne (l := l1) (le_trans (le_max_right _ _) (le_max_left _ _))
  obtain ⟨r2, p2, h2⟩ := weight_coe hb.ne' ht.ne (l := l2) (le_max_right _ _)
  have hs : 0 < r0 + r1 + r2 := by
    have one := weight_self hb.ne' ht.ne
    rcases max_choice (max l0 l1) l2 with h | h
    · rcases max_choice l0 l1 with h' | h'
      · have : l0 = max (max l0 l1) l2 := by rw [h, h']
        rw [← this] at one h0
        rw [h0] at one
        have : r0 = 1 := by exact_mod_cast one
        linarith
      · have : l1 = max (max l0 l1) l2 := by rw [h, h']
        rw [← this] at one h1
        rw [h1] at one
        have : r1 = 1 := by exact_mod_cast one
        linarith
    · have : l2 = max (max l0 l1) l2 := h.symm
      rw [← this] at one h2
      rw [h2] at one
      have : r2 = 1 := by exact_mod_cast one
      linarith
  simp only [h0, h1, h2, ← EReal.coe_add]
  have hi : (0 : EReal) ≤ ((1 / (r0 + r1 + r2) : ℝ) : EReal) := by exact_mod_cast (one_div_pos.mpr hs).le
  have hi' : ((1 / (r0 + r1 + r2) : ℝ) : EReal) ≠ ⊤ := EReal.coe_ne_top _
  simp only [Ideal.div_coe hs.ne']
  rw [EReal.right_distrib_of_nonneg_of_ne_top hi hi', EReal.right_distrib_of_nonneg_of_ne_top hi hi']
  simp only [mul_right_comm]

end Cert.Rows

end

end
-- ==== Proof.PostKernel.lean ====
/- The closing call's body, read row by row: what its stages compute of the blocks it loads. -/
module

public import proofs.«01_k».proof.Proof.Rows
public import proofs.«01_k».proof.Proof.Gen.Kernel2Ideal.Value

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Rows

/-- Lane `d` of a row of two slabs of 128 lanes set side by side. -/
def wide (u v : FVec Ideal S1x256x128 .f32) (r : Fin 256) (d : Fin 256) : EReal :=
  if h : (d : ℕ) < 128 then u (ix3 0 r ⟨d, h⟩) else v (ix3 0 r ⟨d - 128, by omega⟩)

variable (v0 v2 v5 v7 v10 v12 v23 v25 v29 v31 v36 v38 : FVec Ideal S1x256x128 .f32)

theorem pay6_apply (r d : Fin 256) : k0_pay6 (F := Ideal) v0 v2 v5 v7 v10 v12 (ix2 r d)
    = Ideal.exp (wide v0 v2 r d - max (max (wide v0 v2 r d) (wide v5 v7 r d)) (wide v10 v12 r d)) := by
  pointwise [k0_pay6, k0_pay2, k0_pay5, k0_pay3, k0_pay4, wide]

theorem pay7_apply (r d : Fin 256) : k0_pay7 (F := Ideal) v0 v2 v5 v7 v10 v12 (ix2 r d)
    = Ideal.exp (wide v5 v7 r d - max (max (wide v0 v2 r d) (wide v5 v7 r d)) (wide v10 v12 r d)) := by
  pointwise [k0_pay7, k0_pay2, k0_pay5, k0_pay3, k0_pay4, wide]

theorem pay8_apply (r d : Fin 256) : k0_pay8 (F := Ideal) v0 v2 v5 v7 v10 v12 (ix2 r d)
    = Ideal.exp (wide v10 v12 r d - max (max (wide v0 v2 r d) (wide v5 v7 r d)) (wide v10 v12 r d)) := by
  pointwise [k0_pay8, k0_pay2, k0_pay5, k0_pay3, k0_pay4, wide]

theorem pay9_apply (r d : Fin 256) : k0_pay9 (F := Ideal) v0 v2 v5 v7 v10 v12 v23 v25 (ix2 r d)
    = k0_pay6 (F := Ideal) v0 v2 v5 v7 v10 v12 (ix2 r d) * wide v23 v25 r d := by
  pointwise [k0_pay9, wide]

/-- The mix of a row, from the groups' weights `w`, weighted first output `n` and the blocks. -/
theorem pay11_apply (w0 w1 w2 n : FVec Ideal S256x256 .f32) (wa : FVec Ideal S256x1024 .bf16) (c : FVec Ideal S256x1024 .f32)
    (wc : FVec Ideal S1024x1024 .bf16) (g0 g1 : FVec Ideal S256x1024 .f32) (wo : FVec Ideal S1024x1024 .bf16) (r : Fin 256) (j : Fin 1024) :
    k0_pay11 (F := Ideal) w0 w1 w2 n (k0_pay10 (F := Ideal) v29) v31 v36 v38 wa c wc g0 g1 wo (ix2 r j)
    = mixRow (fun d => Ideal.div (n (ix2 r d) + w1 (ix2 r d) * wide v29 v31 r d + w2 (ix2 r d) * wide v36 v38 r d)
          (w0 (ix2 r d) + w1 (ix2 r d) + w2 (ix2 r d)))
        (fun k => c (ix2 r k)) (fun k => g0 (ix2 r k)) (fun k => g1 (ix2 r k)) (fun d k => wa (ix2 d k))
        (fun k l => wc (ix2 k l)) (fun k l => wo (ix2 k l)) j := by
  unfold mixRow lin
  pointwise [k0_pay11, k0_pay10, wide]

theorem pay12_apply (y x : FVec Ideal S256x1024 .f32) (g : FVec Ideal S1x1024 .f32) (r : Fin 256) (j : Fin 1024) :
    k0_pay12 (F := Ideal) y x g (ix2 r j)
    = stream1 (fun k => y (ix2 r k)) (fun k => x (ix2 r k)) (fun k => g (ix2 0 k)) j := by
  pointwise [k0_pay12, stream1, rms]

theorem pay13_apply (y x : FVec Ideal S256x1024 .f32) (g n2 : FVec Ideal S1x1024 .f32) (wg wu : FVec Ideal S1024x2816 .bf16)
    (r : Fin 256) (j : Fin 2816) :
    k0_pay13 (F := Ideal) y x g n2 wg wu (ix2 r j)
    = ffHidden (fun k => k0_pay12 (F := Ideal) y x g (ix2 r k)) (fun k => n2 (ix2 0 k))
        (fun k l => wg (ix2 k l)) (fun k l => wu (ix2 k l)) j := by
  unfold ffHidden lin rms
  pointwise [k0_pay13]

theorem pay14_apply (x1 : FVec Ideal S256x1024 .f32) (h : FVec Ideal S256x2816 .bf16) (wfo : FVec Ideal S2816x1024 .bf16)
    (g : FVec Ideal S1x1024 .f32) (r : Fin 256) (j : Fin 1024) :
    k0_pay14 (F := Ideal) x1 h wfo g (ix2 r j)
    = stream1 (lin (fun k => h (ix2 r k)) fun k l => wfo (ix2 k l)) (fun k => x1 (ix2 r k)) (fun k => g (ix2 0 k)) j := by
  unfold stream1 rms lin
  pointwise [k0_pay14]

theorem pay15_apply (x1 : FVec Ideal S256x1024 .f32) (h : FVec Ideal S256x2816 .bf16) (wfo : FVec Ideal S2816x1024 .bf16)
    (g n4 : FVec Ideal S1x1024 .f32) (wpg : FVec Ideal S1024x1024 .bf16) (r : Fin 256) (j : Fin 1024) :
    k0_pay15 (F := Ideal) x1 h wfo g n4 wpg (ix2 r j)
    = pgate (fun k => k0_pay14 (F := Ideal) x1 h wfo g (ix2 r k)) (fun k => n4 (ix2 0 k)) (fun k l => wpg (ix2 k l)) j := by
  unfold pgate lin rms
  pointwise [k0_pay15]

theorem pay1_apply (x2 gate : FVec Ideal S256x1024 .f32) (p : FVec Ideal S256x256 .f32) (wpp : FVec Ideal S256x1024 .bf16)
    (r : Fin 256) (j : Fin 1024) :
    k0_pay1 (F := Ideal) x2 gate (k0_pay16 (F := Ideal) p) wpp (ix2 r j)
    = x2 (ix2 r j) + gate (ix2 r j) * lin (fun k => p (ix2 r k)) (fun k l => wpp (ix2 k l)) j := by
  unfold lin
  pointwise [k0_pay1, k0_pay16]

/-- Lane `d` of row `r` of a pair of slabs. -/
def lane (x : FVec Ideal S2x256x128 .f32) (r d : Fin 256) : EReal := x (ix3 ⟨d / 128, by omega⟩ r ⟨d % 128, by omega⟩)

theorem ld_0 (x : Vec Ideal S2x256x128 .f32) (r : Fin 256) (l : Fin 128) : View.ld x r0_0 (ix3 0 r l) = x (ix3 0 r l) := by
  exact View.ld_unit_apply_of x _ _ _ _ _ fun a => by fin_cases a <;> simp [ix2, ix3] <;> omega

theorem ld_1 (x : Vec Ideal S2x256x128 .f32) (r : Fin 256) (l : Fin 128) : View.ld x r0_1 (ix3 0 r l) = x (ix3 1 r l) := by
  exact View.ld_unit_apply_of x _ _ _ _ _ fun a => by fin_cases a <;> simp [ix2, ix3] <;> omega

theorem wide_ld (x : Vec Ideal S2x256x128 .f32) (r d : Fin 256) :
    wide (View.ld x r0_0) (View.ld x r0_1) r d = lane x r d := by
  unfold wide lane
  split
  · refine (ld_0 x r _).trans (congrArg x ?_)
    congr 1 <;> apply Fin.ext <;> simp <;> omega
  · refine (ld_1 x r _).trans (congrArg x ?_)
    congr 1 <;> apply Fin.ext <;> simp <;> omega

theorem ld_g0 (x : Vec Ideal S256x2048 .f32) (r : Fin 256) (k : Fin 1024) : View.ld x r0_4 (ix2 r k) = x (ix2 r ⟨k, by omega⟩) := by
  exact View.ld_unit_apply_of x _ _ _ _ _ fun a => by fin_cases a <;> simp [ix2, ix3] <;> omega

theorem ld_g1 (x : Vec Ideal S256x2048 .f32) (r : Fin 256) (k : Fin 1024) : View.ld x r0_5 (ix2 r k) = x (ix2 r ⟨1024 + k, by omega⟩) := by
  exact View.ld_unit_apply_of x _ _ _ _ _ fun a => by fin_cases a <;> simp [ix2, ix3] <;> omega

theorem ld_w0 (x : Vec Ideal S1024x5632 .bf16) (k : Fin 1024) (l : Fin 2816) : View.ld x r0_7 (ix2 k l) = x (ix2 k ⟨l, by omega⟩) := by
  exact View.ld_unit_apply_of x _ _ _ _ _ fun a => by fin_cases a <;> simp [ix2, ix3] <;> omega

theorem ld_w1 (x : Vec Ideal S1024x5632 .bf16) (k : Fin 1024) (l : Fin 2816) : View.ld x r0_8 (ix2 k l) = x (ix2 k ⟨2816 + l, by omega⟩) := by
  exact View.ld_unit_apply_of x _ _ _ _ _ fun a => by fin_cases a <;> simp [ix2, ix3] <;> omega

variable (x0 : FVec Ideal S256x1024 .f32) (x1 x2 x3 x4 x5 x6 : FVec Ideal S2x256x128 .f32) (x7 : FVec Ideal S256x1024 .f32) (x8 : FVec Ideal S256x2048 .f32) (x9 : FVec Ideal S256x256 .f32) (x10 : FVec Ideal S256x1024 .bf16) (x11 x12 : FVec Ideal S1024x1024 .bf16) (x13 x14 : FVec Ideal S1x1024 .f32) (x15 : FVec Ideal S1024x5632 .bf16) (x16 : FVec Ideal S2816x1024 .bf16) (x17 x18 : FVec Ideal S1x1024 .f32) (x19 : FVec Ideal S1024x1024 .bf16) (x20 : FVec Ideal S256x1024 .bf16)

/-- The mix of row `r` of the blocks. -/
theorem pay17_apply (r : Fin 256) (j : Fin 1024) :
    k0_pay17 (F := Ideal) x0 x1 x2 x3 x4 x5 x6 x7 x8 x9 x10 x11 x12 x13 x14 x15 x16 x17 x18 x19 x20 (ix2 r j)
    = mixRow (fun d => comb (lane x4 r d) (lane x5 r d) (lane x6 r d) (lane x1 r d) (lane x2 r d) (lane x3 r d))
        (fun k => x7 (ix2 r k)) (fun k => x8 (ix2 r ⟨k, by omega⟩)) (fun k => x8 (ix2 r ⟨1024 + k, by omega⟩))
        (fun d k => x10 (ix2 d k)) (fun k l => x11 (ix2 k l)) (fun k l => x12 (ix2 k l)) j := by
  unfold k0_pay17
  frame_out
  refine (pay11_apply _ _ _ _ _ _ _ _ _ _ _ _ _ _ r j).trans ?_
  simp only [pay6_apply, pay7_apply, pay8_apply, pay9_apply, wide_ld]
  exact congrArg₂ (fun g0 g1 => mixRow _ _ g0 g1 _ _ _ j) (funext (ld_g0 x8 r)) (funext (ld_g1 x8 r))

/-- The stream of row `r` after the mixing part. -/
theorem pay18_apply (r : Fin 256) (j : Fin 1024) :
    k0_pay18 (F := Ideal) x0 x1 x2 x3 x4 x5 x6 x7 x8 x9 x10 x11 x12 x13 x14 x15 x16 x17 x18 x19 x20 (ix2 r j)
    = stream1 (fun k => k0_pay17 (F := Ideal) x0 x1 x2 x3 x4 x5 x6 x7 x8 x9 x10 x11 x12 x13 x14 x15 x16 x17 x18 x19 x20 (ix2 r k)) (fun k => x0 (ix2 r k)) (fun k => x13 (ix2 0 k)) j := by
  unfold k0_pay18
  frame_out
  exact pay12_apply _ _ _ r j

/-- The hidden row `r` of the feed-forward part. -/
theorem pay19_apply (r : Fin 256) (j : Fin 2816) :
    k0_pay19 (F := Ideal) x0 x1 x2 x3 x4 x5 x6 x7 x8 x9 x10 x11 x12 x13 x14 x15 x16 x17 x18 x19 x20 (ix2 r j)
    = ffHidden (fun k => k0_pay18 (F := Ideal) x0 x1 x2 x3 x4 x5 x6 x7 x8 x9 x10 x11 x12 x13 x14 x15 x16 x17 x18 x19 x20 (ix2 r k)) (fun k => x14 (ix2 0 k))
        (fun k l => x15 (ix2 k ⟨l, by omega⟩)) (fun k l => x15 (ix2 k ⟨2816 + l, by omega⟩)) j := by
  unfold k0_pay19 k0_pay18
  frame_out
  refine (pay13_apply _ _ _ _ _ _ r j).trans ?_
  exact congrArg₂ (fun wg wu => ffHidden _ _ wg wu j) (funext fun k => funext (ld_w0 x15 k)) (funext fun k => funext (ld_w1 x15 k))

/-- Row `r` of the block the body stores. -/
theorem out_apply (r : Fin 256) (j : Fin 1024) :
    k0_pay1 (F := Ideal) (k0_pay14 (k0_pay18 x0 x1 x2 x3 x4 x5 x6 x7 x8 x9 x10 x11 x12 x13 x14 x15 x16 x17 x18 x19 x20) (k0_pay19 x0 x1 x2 x3 x4 x5 x6 x7 x8 x9 x10 x11 x12 x13 x14 x15 x16 x17 x18 x19 x20) x16 x17)
      (k0_pay15 (k0_pay18 x0 x1 x2 x3 x4 x5 x6 x7 x8 x9 x10 x11 x12 x13 x14 x15 x16 x17 x18 x19 x20) (k0_pay19 x0 x1 x2 x3 x4 x5 x6 x7 x8 x9 x10 x11 x12 x13 x14 x15 x16 x17 x18 x19 x20) x16 x17 x18 x19) (k0_pay16 x9) x20 (ix2 r j)
    = postRow (fun d => comb (lane x4 r d) (lane x5 r d) (lane x6 r d) (lane x1 r d) (lane x2 r d) (lane x3 r d))
        (fun k => x0 (ix2 r k)) (fun k => x7 (ix2 r k)) (fun k => x8 (ix2 r ⟨k, by omega⟩)) (fun k => x8 (ix2 r ⟨1024 + k, by omega⟩))
        (fun k => x9 (ix2 r k)) (fun d k => x10 (ix2 d k)) (fun k l => x11 (ix2 k l)) (fun k l => x12 (ix2 k l))
        (fun k => x13 (ix2 0 k)) (fun k => x14 (ix2 0 k))
        (fun k l => x15 (ix2 k ⟨l, by omega⟩)) (fun k l => x15 (ix2 k ⟨2816 + l, by omega⟩)) (fun k l => x16 (ix2 k l))
        (fun k => x17 (ix2 0 k)) (fun k => x18 (ix2 0 k)) (fun k l => x19 (ix2 k l)) (fun k l => x20 (ix2 k l)) j := by
  rw [pay1_apply, pay15_apply]
  simp only [pay14_apply, pay19_apply, pay18_apply, pay17_apply]
  rfl

end Cert.Kernel2Ideal.Value

end

end
-- ==== Proof.PostBlocks.lean ====
/- The closing call's blocks as entries of its arguments. -/
module

public import proofs.«01_k».proof.Proof.PostKernel

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Rows

variable (m : (ℓ : Loc nD τ sig) → Buf (Elt Ideal) ℓ) (c : Dev nD)

/-- The batch entry of a row of the flattened batch. -/
def bOf (n : Fin 16384) : Fin 2 := ⟨n / 8192, by omega⟩
/-- The position of a row of the flattened batch within its batch entry. -/
def tOf (n : Fin 16384) : Fin 8192 := ⟨n % 8192, by omega⟩

theorem e_x (n : Fin 16384) (k : Fin 1024) : V m c main_v11 (ix2 n k) = m ((c : Thread nD τ).loc main_arg0) (ix3 (bOf n) (tOf n) k) := by
  entry_read; pointwise [bOf, tOf]

theorem e_o0 (s : Fin 2) (n : Fin 16384) (l : Fin 128) : V m c main_v13 (ix3 s n l)
    = m ((c : Thread nD τ).loc main_arg1) (ix4 (bOf n) (tOf n) ⟨(128 * s + l) / 64, by omega⟩ ⟨(128 * s + l) % 64, by omega⟩) := by
  entry_read; pointwise [bOf, tOf]
  refine congrArg (m ((c : Thread nD τ).loc main_arg1)) ?_
  refine congrArg₂ (ix4 _ _) (Fin.ext ?_) (Fin.ext ?_) <;> simp only [] <;> omega

theorem e_o1 (s : Fin 2) (n : Fin 16384) (l : Fin 128) : V m c main_v15 (ix3 s n l)
    = m ((c : Thread nD τ).loc main_arg2) (ix4 (bOf n) (tOf n) ⟨(128 * s + l) / 64, by omega⟩ ⟨(128 * s + l) % 64, by omega⟩) := by
  entry_read; pointwise [bOf, tOf]
  refine congrArg (m ((c : Thread nD τ).loc main_arg2)) ?_
  refine congrArg₂ (ix4 _ _) (Fin.ext ?_) (Fin.ext ?_) <;> simp only [] <;> omega

theorem e_o2 (s : Fin 2) (n : Fin 16384) (l : Fin 128) : V m c main_v17 (ix3 s n l)
    = m ((c : Thread nD τ).loc main_arg3) (ix4 (bOf n) (tOf n) ⟨(128 * s + l) / 64, by omega⟩ ⟨(128 * s + l) % 64, by omega⟩) := by
  entry_read; pointwise [bOf, tOf]
  refine congrArg (m ((c : Thread nD τ).loc main_arg3)) ?_
  refine congrArg₂ (ix4 _ _) (Fin.ext ?_) (Fin.ext ?_) <;> simp only [] <;> omega

theorem e_l0 (s : Fin 2) (n : Fin 16384) (l : Fin 128) : V m c main_v21 (ix3 s n l)
    = m ((c : Thread nD τ).loc main_arg4) (ix3 (bOf n) (tOf n) ⟨(128 * s + l) / 64, by omega⟩) := by
  entry_read; pointwise [bOf, tOf]
  refine congrArg (m ((c : Thread nD τ).loc main_arg4)) ?_
  refine congrArg (ix3 _ _) (Fin.ext ?_); simp only []; omega

theorem e_l1 (s : Fin 2) (n : Fin 16384) (l : Fin 128) : V m c main_v25 (ix3 s n l)
    = m ((c : Thread nD τ).loc main_arg5) (ix3 (bOf n) (tOf n) ⟨(128 * s + l) / 64, by omega⟩) := by
  entry_read; pointwise [bOf, tOf]
  refine congrArg (m ((c : Thread nD τ).loc main_arg5)) ?_
  refine congrArg (ix3 _ _) (Fin.ext ?_); simp only []; omega

theorem e_l2 (s : Fin 2) (n : Fin 16384) (l : Fin 128) : V m c main_v29 (ix3 s n l)
    = m ((c : Thread nD τ).loc main_arg6) (ix3 (bOf n) (tOf n) ⟨(128 * s + l) / 64, by omega⟩) := by
  entry_read; pointwise [bOf, tOf]
  refine congrArg (m ((c : Thread nD τ).loc main_arg6)) ?_
  refine congrArg (ix3 _ _) (Fin.ext ?_); simp only []; omega

theorem e_c (n : Fin 16384) (k : Fin 1024) : V m c main_v30 (ix2 n k) = m ((c : Thread nD τ).loc main_arg7) (ix3 (bOf n) (tOf n) k) := by
  entry_read; pointwise [bOf, tOf]

theorem e_g (n : Fin 16384) (k : Fin 2048) : V m c main_v31 (ix2 n k) = m ((c : Thread nD τ).loc main_arg8) (ix3 (bOf n) (tOf n) k) := by
  entry_read; pointwise [bOf, tOf]

theorem e_p (n : Fin 16384) (k : Fin 256) : V m c main_v32 (ix2 n k) = m ((c : Thread nD τ).loc main_arg9) (ix3 (bOf n) (tOf n) k) := by
  entry_read; pointwise [bOf, tOf]

theorem e_wa (k : Fin 256) (j : Fin 1024) : V m c main_v0 (ix2 k j) = m ((c : Thread nD τ).loc main_arg10) (ix2 k j) := by
  entry_read; pointwise

theorem e_wc (k : Fin 1024) (j : Fin 1024) : V m c main_v1 (ix2 k j) = m ((c : Thread nD τ).loc main_arg11) (ix2 k j) := by
  entry_read; pointwise

theorem e_wo (k : Fin 1024) (j : Fin 1024) : V m c main_v2 (ix2 k j) = m ((c : Thread nD τ).loc main_arg12) (ix2 k j) := by
  entry_read; pointwise

theorem e_n1 (j : Fin 1024) : V m c main_v3 (ix2 0 j) = m ((c : Thread nD τ).loc main_arg13) (ix1 j) := by
  entry_read; pointwise

theorem e_n2 (j : Fin 1024) : V m c main_v4 (ix2 0 j) = m ((c : Thread nD τ).loc main_arg14) (ix1 j) := by
  entry_read; pointwise

theorem e_wfi (k : Fin 1024) (j : Fin 5632) : V m c main_v5 (ix2 k j) = m ((c : Thread nD τ).loc main_arg15) (ix2 k j) := by
  entry_read; pointwise

theorem e_wfo (k : Fin 2816) (j : Fin 1024) : V m c main_v6 (ix2 k j) = m ((c : Thread nD τ).loc main_arg16) (ix2 k j) := by
  entry_read; pointwise

theorem e_n3 (j : Fin 1024) : V m c main_v7 (ix2 0 j) = m ((c : Thread nD τ).loc main_arg17) (ix1 j) := by
  entry_read; pointwise

theorem e_n4 (j : Fin 1024) : V m c main_v8 (ix2 0 j) = m ((c : Thread nD τ).loc main_arg18) (ix1 j) := by
  entry_read; pointwise

theorem e_wpg (k : Fin 1024) (j : Fin 1024) : V m c main_v9 (ix2 k j) = m ((c : Thread nD τ).loc main_arg19) (ix2 k j) := by
  entry_read; pointwise

theorem e_wpp (k : Fin 256) (j : Fin 1024) : V m c main_v10 (ix2 k j) = m ((c : Thread nD τ).loc main_arg20) (ix2 k j) := by
  entry_read; pointwise

/-- The array row of row `r` of point `t`'s blocks. -/
def row (t : Fin cfg0.N) (r : Fin 256) : Fin 16384 :=
  ⟨t * 256 + r, by have h : (t : ℕ) < 64 := t.isLt; omega⟩

theorem idx : ∀ t : Fin cfg0.N, win0_0.index t = ![(t : ℕ), 0]
    ∧ win0_1.index t = ![0, (t : ℕ), 0]
    ∧ win0_2.index t = ![0, (t : ℕ), 0]
    ∧ win0_3.index t = ![0, (t : ℕ), 0]
    ∧ win0_4.index t = ![0, (t : ℕ), 0]
    ∧ win0_5.index t = ![0, (t : ℕ), 0]
    ∧ win0_6.index t = ![0, (t : ℕ), 0]
    ∧ win0_7.index t = ![(t : ℕ), 0]
    ∧ win0_8.index t = ![(t : ℕ), 0]
    ∧ win0_9.index t = ![(t : ℕ), 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![(t : ℕ), 0] :=
  (by decide +kernel : ∀ t : Fin grid0.N, _)

theorem b_x (t : Fin cfg0.N) (r : Fin 256) (k : Fin 1024) : iblk m c 0 t (ix2 r k) = V m c main_v11 (ix2 (row t r) k) := by
  unfold iblk
  generalize V m c = W
  blk_point [idx t, row]

theorem b_c (t : Fin cfg0.N) (r : Fin 256) (k : Fin 1024) : iblk m c 7 t (ix2 r k) = V m c main_v30 (ix2 (row t r) k) := by
  unfold iblk
  generalize V m c = W
  blk_point [idx t, row]

theorem b_g (t : Fin cfg0.N) (r : Fin 256) (k : Fin 2048) : iblk m c 8 t (ix2 r k) = V m c main_v31 (ix2 (row t r) k) := by
  unfold iblk
  generalize V m c = W
  blk_point [idx t, row]

theorem b_p (t : Fin cfg0.N) (r : Fin 256) (k : Fin 256) : iblk m c 9 t (ix2 r k) = V m c main_v32 (ix2 (row t r) k) := by
  unfold iblk
  generalize V m c = W
  blk_point [idx t, row]

theorem b_o0 (t : Fin cfg0.N) (s : Fin 2) (r : Fin 256) (k : Fin 128) : iblk m c 1 t (ix3 s r k) = V m c main_v13 (ix3 s (row t r) k) := by
  unfold iblk
  generalize V m c = W
  blk_point [idx t, row]

theorem b_o1 (t : Fin cfg0.N) (s : Fin 2) (r : Fin 256) (k : Fin 128) : iblk m c 2 t (ix3 s r k) = V m c main_v15 (ix3 s (row t r) k) := by
  unfold iblk
  generalize V m c = W
  blk_point [idx t, row]

theorem b_o2 (t : Fin cfg0.N) (s : Fin 2) (r : Fin 256) (k : Fin 128) : iblk m c 3 t (ix3 s r k) = V m c main_v17 (ix3 s (row t r) k) := by
  unfold iblk
  generalize V m c = W
  blk_point [idx t, row]

theorem b_l0 (t : Fin cfg0.N) (s : Fin 2) (r : Fin 256) (k : Fin 128) : iblk m c 4 t (ix3 s r k) = V m c main_v21 (ix3 s (row t r) k) := by
  unfold iblk
  generalize V m c = W
  blk_point [idx t, row]

theorem b_l1 (t : Fin cfg0.N) (s : Fin 2) (r : Fin 256) (k : Fin 128) : iblk m c 5 t (ix3 s r k) = V m c main_v25 (ix3 s (row t r) k) := by
  unfold iblk
  generalize V m c = W
  blk_point [idx t, row]

theorem b_l2 (t : Fin cfg0.N) (s : Fin 2) (r : Fin 256) (k : Fin 128) : iblk m c 6 t (ix3 s r k) = V m c main_v29 (ix3 s (row t r) k) := by
  unfold iblk
  generalize V m c = W
  blk_point [idx t, row]

theorem b_wa (t : Fin cfg0.N) (k : Fin 256) (j : Fin 1024) : iblk m c 10 t (ix2 k j) = V m c main_v0 (ix2 k j) := by
  unfold iblk
  generalize V m c = W
  blk_point [idx t, row]

theorem b_wc (t : Fin cfg0.N) (k : Fin 1024) (j : Fin 1024) : iblk m c 11 t (ix2 k j) = V m c main_v1 (ix2 k j) := by
  unfold iblk
  generalize V m c = W
  blk_point [idx t, row]

theorem b_wo (t : Fin cfg0.N) (k : Fin 1024) (j : Fin 1024) : iblk m c 12 t (ix2 k j) = V m c main_v2 (ix2 k j) := by
  unfold iblk
  generalize V m c = W
  blk_point [idx t, row]

theorem b_n1 (t : Fin cfg0.N) (j : Fin 1024) : iblk m c 13 t (ix2 0 j) = V m c main_v3 (ix2 0 j) := by
  unfold iblk
  generalize V m c = W
  blk_point [idx t, row]

theorem b_n2 (t : Fin cfg0.N) (j : Fin 1024) : iblk m c 14 t (ix2 0 j) = V m c main_v4 (ix2 0 j) := by
  unfold iblk
  generalize V m c = W
  blk_point [idx t, row]

theorem b_wfi (t : Fin cfg0.N) (k : Fin 1024) (j : Fin 5632) : iblk m c 15 t (ix2 k j) = V m c main_v5 (ix2 k j) := by
  unfold iblk
  generalize V m c = W
  blk_point [idx t, row]

theorem b_wfo (t : Fin cfg0.N) (k : Fin 2816) (j : Fin 1024) : iblk m c 16 t (ix2 k j) = V m c main_v6 (ix2 k j) := by
  unfold iblk
  generalize V m c = W
  blk_point [idx t, row]

theorem b_n3 (t : Fin cfg0.N) (j : Fin 1024) : iblk m c 17 t (ix2 0 j) = V m c main_v7 (ix2 0 j) := by
  unfold iblk
  generalize V m c = W
  blk_point [idx t, row]

theorem b_n4 (t : Fin cfg0.N) (j : Fin 1024) : iblk m c 18 t (ix2 0 j) = V m c main_v8 (ix2 0 j) := by
  unfold iblk
  generalize V m c = W
  blk_point [idx t, row]

theorem b_wpg (t : Fin cfg0.N) (k : Fin 1024) (j : Fin 1024) : iblk m c 19 t (ix2 k j) = V m c main_v9 (ix2 k j) := by
  unfold iblk
  generalize V m c = W
  blk_point [idx t, row]

theorem b_wpp (t : Fin cfg0.N) (k : Fin 256) (j : Fin 1024) : iblk m c 20 t (ix2 k j) = V m c main_v10 (ix2 k j) := by
  unfold iblk
  generalize V m c = W
  blk_point [idx t, row]

end Cert.Kernel2Ideal.Value

end

end
-- ==== Proof.PostFinal.lean ====
/- The closing call's result, row by row, as a function of its arguments. -/
module

public import proofs.«01_k».proof.Proof.PostBlocks

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Rows

/-- The closing row at batch entry `b`, position `t`, from the argument arrays, the groups combined as `f` says. -/
def rowAt (f : EReal → EReal → EReal → EReal → EReal → EReal → EReal)
    (a0 : FVec Ideal S2x8192x1024 .f32) (a1 a2 a3 : FVec Ideal S2x8192x4x64 .f32) (a4 a5 a6 : FVec Ideal S2x8192x4 .f32)
    (a7 : FVec Ideal S2x8192x1024 .f32) (a8 : FVec Ideal S2x8192x2048 .f32) (a9 : FVec Ideal S2x8192x256 .f32)
    (a10 : FVec Ideal S256x1024 .f32) (a11 a12 : FVec Ideal S1024x1024 .f32) (a13 a14 : FVec Ideal S1024 .f32)
    (a15 : FVec Ideal S1024x5632 .f32) (a16 : FVec Ideal S2816x1024 .f32) (a17 a18 : FVec Ideal S1024 .f32)
    (a19 : FVec Ideal S1024x1024 .f32) (a20 : FVec Ideal S256x1024 .f32) (b : Fin 2) (t : Fin 8192) : Fin 1024 → EReal :=
  postRow
    (fun d : Fin 256 => f (a4 (ix3 b t ⟨d / 64, by omega⟩)) (a5 (ix3 b t ⟨d / 64, by omega⟩)) (a6 (ix3 b t ⟨d / 64, by omega⟩))
      (a1 (ix4 b t ⟨d / 64, by omega⟩ ⟨d % 64, by omega⟩)) (a2 (ix4 b t ⟨d / 64, by omega⟩ ⟨d % 64, by omega⟩))
      (a3 (ix4 b t ⟨d / 64, by omega⟩ ⟨d % 64, by omega⟩)))
    (fun k => a0 (ix3 b t k)) (fun k => a7 (ix3 b t k)) (fun k => a8 (ix3 b t ⟨k, by omega⟩)) (fun k => a8 (ix3 b t ⟨1024 + k, by omega⟩))
    (fun k => a9 (ix3 b t k)) (fun d k => a10 (ix2 d k)) (fun k l => a11 (ix2 k l)) (fun k l => a12 (ix2 k l))
    (fun k => a13 (ix1 k)) (fun k => a14 (ix1 k)) (fun k l => a15 (ix2 k ⟨l, by omega⟩)) (fun k l => a15 (ix2 k ⟨2816 + l, by omega⟩))
    (fun k l => a16 (ix2 k l)) (fun k => a17 (ix1 k)) (fun k => a18 (ix1 k)) (fun k l => a19 (ix2 k l)) (fun k l => a20 (ix2 k l))

variable (m : (ℓ : Loc nD τ sig) → Buf (Elt Ideal) ℓ) (c : Dev nD)

theorem lane_o0 (t : Fin cfg0.N) (r d : Fin 256) : lane (iblk m c 1 t) r d
    = m ((c : Thread nD τ).loc main_arg1) (ix4 (bOf (row t r)) (tOf (row t r)) ⟨d / 64, by omega⟩ ⟨d % 64, by omega⟩) := by
  unfold lane
  refine ((b_o0 m c t _ r _).trans (e_o0 m c _ _ _)).trans (congrArg (m ((c : Thread nD τ).loc main_arg1)) ?_)
  refine congrArg₂ (ix4 _ _) (Fin.ext ?_) (Fin.ext ?_) <;> simp only [] <;> omega

theorem lane_o1 (t : Fin cfg0.N) (r d : Fin 256) : lane (iblk m c 2 t) r d
    = m ((c : Thread nD τ).loc main_arg2) (ix4 (bOf (row t r)) (tOf (row t r)) ⟨d / 64, by omega⟩ ⟨d % 64, by omega⟩) := by
  unfold lane
  refine ((b_o1 m c t _ r _).trans (e_o1 m c _ _ _)).trans (congrArg (m ((c : Thread nD τ).loc main_arg2)) ?_)
  refine congrArg₂ (ix4 _ _) (Fin.ext ?_) (Fin.ext ?_) <;> simp only [] <;> omega

theorem lane_o2 (t : Fin cfg0.N) (r d : Fin 256) : lane (iblk m c 3 t) r d
    = m ((c : Thread nD τ).loc main_arg3) (ix4 (bOf (row t r)) (tOf (row t r)) ⟨d / 64, by omega⟩ ⟨d % 64, by omega⟩) := by
  unfold lane
  refine ((b_o2 m c t _ r _).trans (e_o2 m c _ _ _)).trans (congrArg (m ((c : Thread nD τ).loc main_arg3)) ?_)
  refine congrArg₂ (ix4 _ _) (Fin.ext ?_) (Fin.ext ?_) <;> simp only [] <;> omega

theorem lane_l0 (t : Fin cfg0.N) (r d : Fin 256) : lane (iblk m c 4 t) r d
    = m ((c : Thread nD τ).loc main_arg4) (ix3 (bOf (row t r)) (tOf (row t r)) ⟨d / 64, by omega⟩) := by
  unfold lane
  refine ((b_l0 m c t _ r _).trans (e_l0 m c _ _ _)).trans (congrArg (m ((c : Thread nD τ).loc main_arg4)) ?_)
  refine congrArg (ix3 _ _) (Fin.ext ?_); simp only []; omega

theorem lane_l1 (t : Fin cfg0.N) (r d : Fin 256) : lane (iblk m c 5 t) r d
    = m ((c : Thread nD τ).loc main_arg5) (ix3 (bOf (row t r)) (tOf (row t r)) ⟨d / 64, by omega⟩) := by
  unfold lane
  refine ((b_l1 m c t _ r _).trans (e_l1 m c _ _ _)).trans (congrArg (m ((c : Thread nD τ).loc main_arg5)) ?_)
  refine congrArg (ix3 _ _) (Fin.ext ?_); simp only []; omega

theorem lane_l2 (t : Fin cfg0.N) (r d : Fin 256) : lane (iblk m c 6 t) r d
    = m ((c : Thread nD τ).loc main_arg6) (ix3 (bOf (row t r)) (tOf (row t r)) ⟨d / 64, by omega⟩) := by
  unfold lane
  refine ((b_l2 m c t _ r _).trans (e_l2 m c _ _ _)).trans (congrArg (m ((c : Thread nD τ).loc main_arg6)) ?_)
  refine congrArg (ix3 _ _) (Fin.ext ?_); simp only []; omega

/-- The result array: each row the closing row of its batch entry and position. -/
def postArr : (⟨S16384x1024, .f32⟩ : BufTy).Contents (Elt Ideal) := fun i =>
  rowAt comb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (bOf (i 0)) (tOf (i 0)) (i 1)

set_option maxHeartbeats 1000000 in
theorem point (t : Fin cfg0.N) (r : Fin 256) (j : Fin 1024) :
    k0_pay1 (F := Ideal) (k0_pay14 (k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) (iblk m c 16 t) (iblk m c 17 t))
      (k0_pay15 (k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) (iblk m c 16 t) (iblk m c 17 t) (iblk m c 18 t) (iblk m c 19 t)) (k0_pay16 (iblk m c 9 t)) (iblk m c 20 t) (ix2 r j)
    = postArr m c (ix2 (row t r) j) := by
  refine (out_apply _ _ _ _ _ _ _ _ _ _ _ _ _ _ _ _ _ _ _ _ _ r j).trans ?_
  show _ = rowAt _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (bOf (row t r)) (tOf (row t r)) j
  unfold rowAt
  refine postRow_congr ?_ ?_ ?_ ?_ ?_ ?_ ?_ ?_ ?_ ?_ ?_ ?_ ?_ ?_ ?_ ?_ ?_ ?_ j
  · funext d
    rw [lane_l0, lane_l1, lane_l2, lane_o0, lane_o1, lane_o2]
  · exact funext fun k => (b_x m c t r k).trans (e_x m c _ k)
  · exact funext fun k => (b_c m c t r k).trans (e_c m c _ k)
  · exact funext fun k => (b_g m c t r _).trans (e_g m c _ _)
  · exact funext fun k => (b_g m c t r _).trans (e_g m c _ _)
  · exact funext fun k => (b_p m c t r k).trans (e_p m c _ k)
  · exact funext fun k => funext fun l => (b_wa m c t k l).trans (e_wa m c k l)
  · exact funext fun k => funext fun l => (b_wc m c t k l).trans (e_wc m c k l)
  · exact funext fun k => funext fun l => (b_wo m c t k l).trans (e_wo m c k l)
  · exact funext fun l => (b_n1 m c t l).trans (e_n1 m c l)
  · exact funext fun l => (b_n2 m c t l).trans (e_n2 m c l)
  · exact funext fun k => funext fun l => (b_wfi m c t k _).trans (e_wfi m c k _)
  · exact funext fun k => funext fun l => (b_wfi m c t k _).trans (e_wfi m c k _)
  · exact funext fun k => funext fun l => (b_wfo m c t k l).trans (e_wfo m c k l)
  · exact funext fun l => (b_n3 m c t l).trans (e_n3 m c l)
  · exact funext fun l => (b_n4 m c t l).trans (e_n4 m c l)
  · exact funext fun k => funext fun l => (b_wpg m c t k l).trans (e_wpg m c k l)
  · exact funext fun k => funext fun l => (b_wpp m c t k l).trans (e_wpp m c k l)

theorem final : (dats m 0 c).arrAt 21 cfg0.N = postArr m c := by
  refine (dats m 0 c).arrAt_eq_of_covers 21 _ (by decide +kernel) fun t _ (y : S256x1024.Idx) => ?_
  blk_simp
  rw [after0_21]
  frame_out
  have hy : y = ix2 (y 0) (y 1) := by funext a; fin_cases a <;> rfl
  have hi : ((View.whole main_v33).slice (win0_21.rect t)).emb y = ix2 (row t (y 0)) (y 1) := by
    blk_ext [idx t, row]
  rw [hi]
  exact (congrArg _ hy).trans (point m c t (y 0) (y 1))

end Cert.Kernel2Ideal.Value

end

end
-- ==== Proof.PostRef.lean ====
/- The reference of the closing call, row by row. -/
module

public import proofs.«01_k».proof.Proof.Rows
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem

namespace Cert.Reference2Ideal.Value

open Cert.Reference2Ideal Cert.Reference2Ideal.Gen Cert.Rows Cert.Reference2Ideal.Read

variable (x0 : FVec Ideal S2x8192x1024 .f32) (x1 x2 x3 : FVec Ideal S2x8192x4x64 .f32) (x4 x5 x6 : FVec Ideal S2x8192x4 .f32)
  (x7 : FVec Ideal S2x8192x1024 .f32) (x8 : FVec Ideal S2x8192x2048 .f32) (x9 : FVec Ideal S2x8192x256 .f32)
  (x10 : FVec Ideal S256x1024 .f32) (x11 x12 : FVec Ideal S1024x1024 .f32) (x13 x14 : FVec Ideal S1024 .f32)
  (x15 : FVec Ideal S1024x5632 .f32) (x16 : FVec Ideal S2816x1024 .f32) (x17 x18 : FVec Ideal S1024 .f32)
  (x19 : FVec Ideal S1024x1024 .f32) (x20 : FVec Ideal S256x1024 .f32)

theorem lses_apply (g : Fin 3) (b : Fin 2) (t : Fin 8192) (h : Fin 4) : val_main_v3 (F := Ideal) x4 x5 x6 (ix4 g b t h)
    = ![x4 (ix3 b t h), x5 (ix3 b t h), x6 (ix3 b t h)] g := by
  fin_cases g <;> pointwise [val_main_v3, val_main_v0, val_main_v1, val_main_v2]

theorem outs_apply (g : Fin 3) (b : Fin 2) (t : Fin 8192) (h : Fin 4) (d : Fin 64) : val_main_v18 (F := Ideal) x1 x2 x3 (ix5 g b t h d)
    = ![x1 (ix4 b t h d), x2 (ix4 b t h d), x3 (ix4 b t h d)] g := by
  fin_cases g <;> pointwise [val_main_v18, val_main_v15, val_main_v16, val_main_v17]

theorem max_apply (b : Fin 2) (t : Fin 8192) (h : Fin 4) : val_main_v6 (F := Ideal) x4 x5 x6 (ix3 b t h)
    = max (max (x4 (ix3 b t h)) (x5 (ix3 b t h))) (x6 (ix3 b t h)) := by
  pointwise [val_main_v6, val_main_v5, val_main_v4, val_main_cst, val_main_cst_0]
  rw [negInf, fold_max3, max_eq_right bot_le]
  simp only [lses_apply]
  rfl

theorem soft_apply (b : Fin 2) (t : Fin 8192) (d : Fin 256) : val_main_v20 (F := Ideal) x1 x2 x3 x4 x5 x6 (ix3 b t d)
    = soft (x4 (ix3 b t ⟨d / 64, by omega⟩)) (x5 (ix3 b t ⟨d / 64, by omega⟩)) (x6 (ix3 b t ⟨d / 64, by omega⟩))
      (x1 (ix4 b t ⟨d / 64, by omega⟩ ⟨d % 64, by omega⟩)) (x2 (ix4 b t ⟨d / 64, by omega⟩ ⟨d % 64, by omega⟩))
      (x3 (ix4 b t ⟨d / 64, by omega⟩ ⟨d % 64, by omega⟩)) := by
  pointwise [val_main_v20, val_main_v19, val_main_v7, val_main_v8, val_main_v9, val_main_v10, val_main_cst_1, val_main_v11, val_main_v12, val_main_v13, val_main_v14]
  simp only [lses_apply, outs_apply, max_apply, Fin.sum_univ_three]
  rfl

theorem mix_apply (b : Fin 2) (t : Fin 8192) (j : Fin 1024) : val_main_v31 (F := Ideal) x1 x2 x3 x4 x5 x6 x7 x8 x10 x11 x12 (ix3 b t j)
    = mixRow (fun d => val_main_v20 (F := Ideal) x1 x2 x3 x4 x5 x6 (ix3 b t d)) (fun k => x7 (ix3 b t k)) (fun k => x8 (ix3 b t ⟨k, by omega⟩)) (fun k => x8 (ix3 b t ⟨1024 + k, by omega⟩))
        (fun d k => x10 (ix2 d k)) (fun k l => x11 (ix2 k l)) (fun k l => x12 (ix2 k l)) j := by
  unfold mixRow lin
  pointwise [val_main_v21, val_main_v22, val_main_v23, val_main_v24, val_main_v25, val_main_v26, val_main_v27, val_main_v28, val_main_v29, val_main_v30, val_main_v31]

theorem stream1_apply (b : Fin 2) (t : Fin 8192) (j : Fin 1024) : val_main_v45 (F := Ideal) x0 x1 x2 x3 x4 x5 x6 x7 x8 x10 x11 x12 x13 (ix3 b t j)
    = stream1 (fun k => val_main_v31 (F := Ideal) x1 x2 x3 x4 x5 x6 x7 x8 x10 x11 x12 (ix3 b t k)) (fun k => x0 (ix3 b t k)) (fun k => x13 (ix1 k)) j := by
  unfold stream1 rms
  pointwise [val_main_v32, val_main_cst_2, val_main_v33, val_main_v34, val_main_cst_3, val_main_v35, val_main_v36, val_main_cst_4, val_main_v37, val_main_v38, val_main_v39, val_main_v40, val_main_v41, val_main_v42, val_main_v43, val_main_v44, val_main_v45]

theorem hidden_apply (b : Fin 2) (t : Fin 8192) (j : Fin 2816) : val_main_v63 (F := Ideal) x0 x1 x2 x3 x4 x5 x6 x7 x8 x10 x11 x12 x13 x14 x15 (ix3 b t j)
    = ffHidden (fun k => val_main_v45 (F := Ideal) x0 x1 x2 x3 x4 x5 x6 x7 x8 x10 x11 x12 x13 (ix3 b t k)) (fun k => x14 (ix1 k)) (fun k l => x15 (ix2 k ⟨l, by omega⟩)) (fun k l => x15 (ix2 k ⟨2816 + l, by omega⟩)) j := by
  unfold ffHidden lin rms Ideal.logistic
  pointwise [val_main_v46, val_main_cst_5, val_main_v47, val_main_v48, val_main_cst_6, val_main_v49, val_main_v50, val_main_cst_7, val_main_v51, val_main_v52, val_main_v53, val_main_v54, val_main_v55, val_main_v56, val_main_v57, val_main_v58, val_main_v59, val_main_v60, val_main_v61, val_main_call0_v0, val_main_call0_v1, val_main_call0_cst, val_main_call0_v2, val_main_call0_v3, val_main_call0_cst_0, val_main_call0_v4, val_main_call0_v5, val_main_v62, val_main_v63]

theorem stream2_apply (b : Fin 2) (t : Fin 8192) (j : Fin 1024) : val_main_v78 (F := Ideal) x0 x1 x2 x3 x4 x5 x6 x7 x8 x10 x11 x12 x13 x14 x15 x16 x17 (ix3 b t j)
    = stream1 (lin (fun k => val_main_v63 (F := Ideal) x0 x1 x2 x3 x4 x5 x6 x7 x8 x10 x11 x12 x13 x14 x15 (ix3 b t k)) fun k l => x16 (ix2 k l)) (fun k => val_main_v45 (F := Ideal) x0 x1 x2 x3 x4 x5 x6 x7 x8 x10 x11 x12 x13 (ix3 b t k)) (fun k => x17 (ix1 k)) j := by
  unfold stream1 rms lin
  pointwise [val_main_v64, val_main_v65, val_main_cst_8, val_main_v66, val_main_v67, val_main_cst_9, val_main_v68, val_main_v69, val_main_cst_10, val_main_v70, val_main_v71, val_main_v72, val_main_v73, val_main_v74, val_main_v75, val_main_v76, val_main_v77, val_main_v78]

theorem last_apply (b : Fin 2) (t : Fin 8192) (j : Fin 1024) : val_main_v101 (F := Ideal) x0 x1 x2 x3 x4 x5 x6 x7 x8 x9 x10 x11 x12 x13 x14 x15 x16 x17 x18 x19 x20 (ix3 b t j)
    = val_main_v78 (F := Ideal) x0 x1 x2 x3 x4 x5 x6 x7 x8 x10 x11 x12 x13 x14 x15 x16 x17 (ix3 b t j) + pgate (fun k => val_main_v78 (F := Ideal) x0 x1 x2 x3 x4 x5 x6 x7 x8 x10 x11 x12 x13 x14 x15 x16 x17 (ix3 b t k)) (fun k => x18 (ix1 k)) (fun k l => x19 (ix2 k l)) j
      * lin (fun k => x9 (ix3 b t k)) (fun k l => x20 (ix2 k l)) j := by
  unfold pgate rms lin Ideal.logistic
  pointwise [val_main_v79, val_main_cst_11, val_main_v80, val_main_v81, val_main_cst_12, val_main_v82, val_main_v83, val_main_cst_13, val_main_v84, val_main_v85, val_main_v86, val_main_v87, val_main_v88, val_main_v89, val_main_v90, val_main_v91, val_main_v92, val_main_v93, val_main_v94, val_main_cst_14, val_main_v95, val_main_v96, val_main_cst_15, val_main_v97, val_main_v98, val_main_v99, val_main_v100, val_main_v101]

theorem ref_apply (n : Fin 16384) (j : Fin 1024) : val_main_v102 (F := Ideal) x0 x1 x2 x3 x4 x5 x6 x7 x8 x9 x10 x11 x12 x13 x14 x15 x16 x17 x18 x19 x20 (ix2 n j)
    = val_main_v101 (F := Ideal) x0 x1 x2 x3 x4 x5 x6 x7 x8 x9 x10 x11 x12 x13 x14 x15 x16 x17 x18 x19 x20 (ix3 ⟨n / 8192, by omega⟩ ⟨n % 8192, by omega⟩ j) := by
  pointwise [val_main_v102]

end Cert.Reference2Ideal.Value

end

end
-- ==== Proof.PostBoth.lean ====
/- The closing call and its reference, row against row. -/
module

public import proofs.«01_k».proof.Defs
public import proofs.«01_k».proof.Proof.PostFinal
public import proofs.«01_k».proof.Proof.PostRef
public import proofs.«01_k».proof.Proof.Gen.Reference2Ideal.Run
public import Idealize.ShloMosaic.Adequacy
public import Idealize.ShloMosaic.Init

@[expose] public section

set_option maxRecDepth 16384

noncomputable section

open Idealize.ShloMosaic Idealize.ShloMosaic.TcCoe Idealize.SL.Sem

namespace Cert.Post

open Cert.Rows Cert.Reference2Ideal Cert.Reference2Ideal.Gen Cert.Reference2Ideal.Read Cert.Reference2Ideal.Value
open Cert.Kernel2Ideal.Value (rowAt bOf tOf postArr)

variable (x0 : FVec Ideal S2x8192x1024 .f32) (x1 x2 x3 : FVec Ideal S2x8192x4x64 .f32) (x4 x5 x6 : FVec Ideal S2x8192x4 .f32)
  (x7 : FVec Ideal S2x8192x1024 .f32) (x8 : FVec Ideal S2x8192x2048 .f32) (x9 : FVec Ideal S2x8192x256 .f32)
  (x10 : FVec Ideal S256x1024 .f32) (x11 x12 : FVec Ideal S1024x1024 .f32) (x13 x14 : FVec Ideal S1024 .f32)
  (x15 : FVec Ideal S1024x5632 .f32) (x16 : FVec Ideal S2816x1024 .f32) (x17 x18 : FVec Ideal S1024 .f32)
  (x19 : FVec Ideal S1024x1024 .f32) (x20 : FVec Ideal S256x1024 .f32)

/-- The reference's result where at each position and head the largest logarithm of a denominator is a number. -/
theorem ref_eq (hp : ∀ (b : Fin 2) (t : Fin 8192) (h : Fin 4), ⊥ < max (max (x4 (ix3 b t h)) (x5 (ix3 b t h))) (x6 (ix3 b t h))
      ∧ max (max (x4 (ix3 b t h)) (x5 (ix3 b t h))) (x6 (ix3 b t h)) < ⊤) :
    val_main_v102 (F := Ideal) x0 x1 x2 x3 x4 x5 x6 x7 x8 x9 x10 x11 x12 x13 x14 x15 x16 x17 x18 x19 x20 = fun i => rowAt comb x0 x1 x2 x3 x4 x5 x6 x7 x8 x9 x10 x11 x12 x13 x14 x15 x16 x17 x18 x19 x20 (bOf (i 0)) (tOf (i 0)) (i 1) := by
  funext i
  obtain ⟨n, j, rfl⟩ : ∃ (n : Fin 16384) (j : Fin 1024), i = ix2 n j := ⟨i 0, i 1, by funext a; fin_cases a <;> rfl⟩
  refine (ref_apply x0 x1 x2 x3 x4 x5 x6 x7 x8 x9 x10 x11 x12 x13 x14 x15 x16 x17 x18 x19 x20 n j).trans ?_
  show _ = rowAt comb x0 x1 x2 x3 x4 x5 x6 x7 x8 x9 x10 x11 x12 x13 x14 x15 x16 x17 x18 x19 x20 (bOf n) (tOf n) j
  rw [last_apply]
  unfold rowAt postRow
  simp only [stream2_apply, hidden_apply, stream1_apply, mix_apply, soft_apply, comb_eq_soft _ _ _ (hp _ _ _).1 (hp _ _ _).2]
  rfl

/-- The precondition, element by element. -/
theorem pre_row [Cert.Pre_some_denominator.Facts] (h : Cert.Pre_some_denominator.fn (F := Ideal) x0 x1 x2 x3 x4 x5 x6 x7 x8 x9 x10 x11 x12 x13 x14 x15 x16 x17 x18 x19 x20 = fun _ => 1#1) (b : Fin 2) (t : Fin 8192) (k : Fin 4) :
    ⊥ < max (max (x4 (ix3 b t k)) (x5 (ix3 b t k))) (x6 (ix3 b t k))
      ∧ max (max (x4 (ix3 b t k)) (x5 (ix3 b t k))) (x6 (ix3 b t k)) < ⊤ := by
  have := congrFun h (ix3 b t k)
  revert this
  pointwise [Cert.Pre_some_denominator.fn]
  rw [negInf, show Ideal.ofBits FTy.f32 2139095040#32 = ⊤ by simp [Ideal.ofBits, Ideal.ieee]]
  by_cases h1 : ⊥ < max (max (x4 (ix3 b t k)) (x5 (ix3 b t k))) (x6 (ix3 b t k)) <;>
    by_cases h2 : max (max (x4 (ix3 b t k)) (x5 (ix3 b t k))) (x6 (ix3 b t k)) < ⊤ <;>
    simp only [h1, h2, decide_true, decide_false] <;> intro hh
  · exact ⟨trivial, trivial⟩
  all_goals exact absurd hh (by decide)

/-- The same with the arguments read elsewhere. -/
theorem ref_final [Cert.Pre_some_denominator.Facts] {x0 y0 : FVec Ideal S2x8192x1024 .f32} {x1 y1 x2 y2 x3 y3 : FVec Ideal S2x8192x4x64 .f32} {x4 y4 x5 y5 x6 y6 : FVec Ideal S2x8192x4 .f32}
  {x7 y7 : FVec Ideal S2x8192x1024 .f32} {x8 y8 : FVec Ideal S2x8192x2048 .f32} {x9 y9 : FVec Ideal S2x8192x256 .f32}
  {x10 y10 : FVec Ideal S256x1024 .f32} {x11 y11 x12 y12 : FVec Ideal S1024x1024 .f32} {x13 y13 x14 y14 : FVec Ideal S1024 .f32}
  {x15 y15 : FVec Ideal S1024x5632 .f32} {x16 y16 : FVec Ideal S2816x1024 .f32} {x17 y17 x18 y18 : FVec Ideal S1024 .f32}
  {x19 y19 : FVec Ideal S1024x1024 .f32} {x20 y20 : FVec Ideal S256x1024 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20)
    (h : Cert.Pre_some_denominator.fn (F := Ideal) y0 y1 y2 y3 y4 y5 y6 y7 y8 y9 y10 y11 y12 y13 y14 y15 y16 y17 y18 y19 y20 = fun _ => 1#1) :
    val_main_v102 (F := Ideal) x0 x1 x2 x3 x4 x5 x6 x7 x8 x9 x10 x11 x12 x13 x14 x15 x16 x17 x18 x19 x20 = fun i => rowAt comb y0 y1 y2 y3 y4 y5 y6 y7 y8 y9 y10 y11 y12 y13 y14 y15 y16 y17 y18 y19 y20 (bOf (i 0)) (tOf (i 0)) (i 1) := by
  subst h0 h1 h2 h3 h4 h5 h6 h7 h8 h9 h10 h11 h12 h13 h14 h15 h16 h17 h18 h19 h20
  exact ref_eq x0 x1 x2 x3 x4 x5 x6 x7 x8 x9 x10 x11 x12 x13 x14 x15 x16 x17 x18 x19 x20 (pre_row x0 x1 x2 x3 x4 x5 x6 x7 x8 x9 x10 x11 x12 x13 x14 x15 x16 x17 x18 x19 x20 h)

attribute [local instance] Cert.Kernel2Ideal.Gen.facts Cert.Reference2Ideal.Gen.facts

/-- Both programs end with the same rows, wherever each position and head has some denominator. -/
theorem algebraic [hpre_ : Cert.Pre_some_denominator.Facts] : Cert.algebraic_Kernel2Ideal_Reference2Ideal_pre_some_denominator := by
  intro m g m' g' hpre hagree
  refine ⟨fun c => postArr m c, ?_, ?_⟩
  · refine (θ_run _ _ _).mono (fun r h c => ?_) (Cert.Kernel2Ideal.Value.run_blocks m g)
    have hc := h c
    rw [Cert.Kernel2Ideal.Value.final] at hc
    exact hc
  · refine (θ_run _ _ _).mono (fun r h c => ⟨(h c).1.trans ?_, (h c).2⟩) (Cert.Reference2Ideal.Value.run m' g')
    refine (val_main_v102_eq (StableHlo.launchContents m' c)).trans ?_
    obtain ⟨h0, h1, h2, h3, h4, h5, h6, h7, h8, h9, h10, h11, h12, h13, h14, h15, h16, h17, h18, h19, h20⟩ := hagree c
    exact ref_final h0 h1 h2 h3 h4 h5 h6 h7 h8 h9 h10 h11 h12 h13 h14 h15 h16 h17 h18 h19 h20 (hpre c)

end Cert.Post

end

end
-- ==== Proof.InprojKernel.lean ====
/- The opening call: what its body leaves in each block it writes. -/
module

public import proofs.«01_k».proof.Proof.Rows
public import proofs.«01_k».proof.Proof.Gen.Kernel3Ideal.Frame

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Rows

/-- Lane `j` of row `r` of the block: the normalised row times column `j` of the projection. -/
def blkRow (x0 : Vec Ideal S512x1024 .f32) (x1 : Vec Ideal S1x1024 .f32) (x2 : Vec Ideal S1024x6400 .bf16) (r : Fin 512) (j : Fin 6400) : EReal :=
  lin (rms (fun k => x0 (ix2 r k)) (fun k => x1 (ix2 0 k))) (fun k l => x2 (ix2 k l)) j

/-- The factor of the scores. -/
def factor : EReal := Ideal.ofBits FTy.f32 0x3E000000#32

variable (x0 : Vec Ideal S512x1024 .f32) (x1 : Vec Ideal S1x1024 .f32) (x2 : Vec Ideal S1024x6400 .bf16)

theorem ld_q (k : Fin 1024) (j : Fin 768) : View.ld x2 r0_2 (ix2 k j) = x2 (ix2 k ⟨0 + j, by omega⟩) := by
  exact View.ld_unit_apply_of x2 _ _ _ _ _ fun a => by fin_cases a <;> simp [ix2] <;> omega

theorem ld_k (k : Fin 1024) (j : Fin 768) : View.ld x2 r0_3 (ix2 k j) = x2 (ix2 k ⟨768 + j, by omega⟩) := by
  exact View.ld_unit_apply_of x2 _ _ _ _ _ fun a => by fin_cases a <;> simp [ix2] <;> omega

theorem ld_v (k : Fin 1024) (j : Fin 768) : View.ld x2 r0_4 (ix2 k j) = x2 (ix2 k ⟨1536 + j, by omega⟩) := by
  exact View.ld_unit_apply_of x2 _ _ _ _ _ fun a => by fin_cases a <;> simp [ix2] <;> omega

theorem ld_a (k : Fin 1024) (j : Fin 1024) : View.ld x2 r0_7 (ix2 k j) = x2 (ix2 k ⟨2304 + j, by omega⟩) := by
  exact View.ld_unit_apply_of x2 _ _ _ _ _ fun a => by fin_cases a <;> simp [ix2] <;> omega

theorem ld_g (k : Fin 1024) (j : Fin 1024) : View.ld x2 r0_8 (ix2 k j) = x2 (ix2 k ⟨3328 + j, by omega⟩) := by
  exact View.ld_unit_apply_of x2 _ _ _ _ _ fun a => by fin_cases a <;> simp [ix2] <;> omega

theorem ld_s (k : Fin 1024) (j : Fin 2048) : View.ld x2 r0_9 (ix2 k j) = x2 (ix2 k ⟨4352 + j, by omega⟩) := by
  exact View.ld_unit_apply_of x2 _ _ _ _ _ fun a => by fin_cases a <;> simp [ix2] <;> omega

theorem pay5_apply (P0 : FVec Ideal S512x1024 .f32) (P1 : FVec Ideal S1x1024 .f32) (r : Fin 512) (k : Fin 1024) :
    k0_pay5 (F := Ideal) P0 P1 (ix2 r k) = rms (fun k => P0 (ix2 r k)) (fun k => P1 (ix2 0 k)) k := by
  unfold rms
  pointwise [k0_pay5]

theorem q_apply (r : Fin 512) (j : Fin 768) : k0_pay29 (F := Ideal) x0 x1 x2 (ix2 r j) = blkRow x0 x1 x2 r ⟨0 + j, by omega⟩ * factor := by
  have h : k0_pay6 (F := Ideal) (View.ld x0 r0_0) (View.ld x1 r0_1) (View.ld x2 r0_2) (ix2 r j)
      = lin (fun k => k0_pay5 (F := Ideal) (View.ld x0 r0_0) (View.ld x1 r0_1) (ix2 r k)) (fun k l => View.ld x2 r0_2 (ix2 k l)) j * factor := by
    unfold lin factor
    pointwise [k0_pay6]
  refine (show k0_pay29 (F := Ideal) x0 x1 x2 (ix2 r j) = _ from h).trans ?_
  frame_out
  unfold blkRow lin
  simp only [pay5_apply]
  exact congrArg (· * factor) (Finset.sum_congr rfl fun k _ => congrArg (fun u : EReal => _ * u) (ld_q x2 k j))

theorem k_apply (r : Fin 512) (j : Fin 768) : k0_pay30 (F := Ideal) x0 x1 x2 (ix2 r j) = blkRow x0 x1 x2 r ⟨768 + j, by omega⟩ := by
  have h : k0_pay7 (F := Ideal) (View.ld x0 r0_0) (View.ld x1 r0_1) (View.ld x2 r0_3) (ix2 r j)
      = lin (fun k => k0_pay5 (F := Ideal) (View.ld x0 r0_0) (View.ld x1 r0_1) (ix2 r k)) (fun k l => View.ld x2 r0_3 (ix2 k l)) j := by
    unfold lin
    pointwise [k0_pay7]
  refine (show k0_pay30 (F := Ideal) x0 x1 x2 (ix2 r j) = _ from h).trans ?_
  frame_out
  unfold blkRow lin
  simp only [pay5_apply]
  exact (Finset.sum_congr rfl fun k _ => congrArg (fun u : EReal => _ * u) (ld_k x2 k j))

theorem v_apply (r : Fin 512) (j : Fin 768) : k0_pay31 (F := Ideal) x0 x1 x2 (ix2 r j) = blkRow x0 x1 x2 r ⟨1536 + j, by omega⟩ := by
  have h : k0_pay8 (F := Ideal) (View.ld x0 r0_0) (View.ld x1 r0_1) (View.ld x2 r0_4) (ix2 r j)
      = lin (fun k => k0_pay5 (F := Ideal) (View.ld x0 r0_0) (View.ld x1 r0_1) (ix2 r k)) (fun k l => View.ld x2 r0_4 (ix2 k l)) j := by
    unfold lin
    pointwise [k0_pay8]
  refine (show k0_pay31 (F := Ideal) x0 x1 x2 (ix2 r j) = _ from h).trans ?_
  frame_out
  unfold blkRow lin
  simp only [pay5_apply]
  exact (Finset.sum_congr rfl fun k _ => congrArg (fun u : EReal => _ * u) (ld_v x2 k j))

/-- The gated rows of the block. -/
theorem z_apply (r : Fin 512) (j : Fin 1024) : out0_12 (F := Ideal) x0 x1 x2 (ix2 r j)
    = blkRow x0 x1 x2 r ⟨2304 + j, by omega⟩ * Ideal.logistic (blkRow x0 x1 x2 r ⟨3328 + j, by omega⟩) := by
  have h : ∀ (p : FVec Ideal S512x1024 .bf16) (u v : FVec Ideal S1024x1024 .bf16), k0_pay3 (F := Ideal) p u v (ix2 r j)
      = lin (fun k => p (ix2 r k)) (fun k l => u (ix2 k l)) j * Ideal.logistic (lin (fun k => p (ix2 r k)) (fun k l => v (ix2 k l)) j) := by
    intro p u v
    unfold lin
    pointwise [k0_pay3]
  unfold out0_12
  frame_out
  refine (h _ _ _).trans ?_
  unfold blkRow lin k0_pay28
  frame_out
  simp only [pay5_apply]
  exact congrArg₂ (fun a b : EReal => a * Ideal.logistic b) (Finset.sum_congr rfl fun k _ => congrArg (fun u : EReal => _ * u) (ld_a x2 k j))
    (Finset.sum_congr rfl fun k _ => congrArg (fun u : EReal => _ * u) (ld_g x2 k j))

/-- The branch gates of the block. -/
theorem gates_apply (r : Fin 512) (j : Fin 2048) : out0_13 (F := Ideal) x0 x1 x2 (ix2 r j)
    = Ideal.logistic (blkRow x0 x1 x2 r ⟨4352 + j, by omega⟩) := by
  have h : ∀ (p : FVec Ideal S512x1024 .bf16) (u : FVec Ideal S1024x2048 .bf16), k0_pay4 (F := Ideal) p u (ix2 r j)
      = Ideal.logistic (lin (fun k => p (ix2 r k)) (fun k l => u (ix2 k l)) j) := by
    intro p u
    unfold lin
    pointwise [k0_pay4]
  unfold out0_13
  frame_out
  refine (h _ _).trans ?_
  unfold blkRow lin k0_pay28
  frame_out
  simp only [pay5_apply]
  exact congrArg (fun b : EReal => Ideal.logistic b) (Finset.sum_congr rfl fun k _ => congrArg (fun u : EReal => _ * u) (ld_s x2 k j))

/-- Two slabs stored one after the other. -/
theorem canon2 (P0 P1 : Vec Ideal S1x512x128 .f32) (f : Fin 2 → Fin 512 → Fin 128 → EReal) (h0 : ∀ r l, P0 (ix3 0 r l) = f 0 r l)
    (h1 : ∀ r l, P1 (ix3 0 r l) = f 1 r l) (s : Fin 2) (r : Fin 512) (l : Fin 128) :
    (View.canon (Val := Elt Ideal) (e := .f32) [⟨r0_6, P1⟩, ⟨r0_5, P0⟩]) (ix3 s r l) = f s r l := by
  refine (View.canon_apply_of_pieces (Val := Elt Ideal) (S := S2x512x128) (e := .f32) (fun y => f (y 0) (y 1) (y 2)) _ ?_ _ (cover0_3 (F := Ideal) _ _ _))
  intro pc hpc
  rcases List.mem_cons.mp hpc with rfl | hpc
  · intro (x : S1x512x128.Idx)
    have hx : x = ix3 0 (x 1) (x 2) := by funext a; fin_cases a <;> simp [ix3] <;> exact Subsingleton.elim (α := Fin 1) _ _
    refine (congrArg P1 hx).trans ((h1 _ _).trans ?_)
    show f 1 (x 1) (x 2) = f (r0_6.idx x 0) (r0_6.idx x 1) (r0_6.idx x 2)
    have hx0 : (x 0).val < 1 := (x 0).isLt
    refine congr (congr (congrArg f ?_) ?_) ?_
    · exact Fin.ext (by show 1 = 1 + 1 * (x 0).val; omega)
    · exact Fin.ext (by show (x 1).val = 0 + 1 * (x 1).val; omega)
    · exact Fin.ext (by show (x 2).val = 0 + 1 * (x 2).val; omega)
  rcases List.mem_cons.mp hpc with rfl | hpc
  · intro (x : S1x512x128.Idx)
    have hx : x = ix3 0 (x 1) (x 2) := by funext a; fin_cases a <;> simp [ix3] <;> exact Subsingleton.elim (α := Fin 1) _ _
    refine (congrArg P0 hx).trans ((h0 _ _).trans ?_)
    show f 0 (x 1) (x 2) = f (r0_5.idx x 0) (r0_5.idx x 1) (r0_5.idx x 2)
    have hx0 : (x 0).val < 1 := (x 0).isLt
    refine congr (congr (congrArg f ?_) ?_) ?_
    · exact Fin.ext (by show 0 = 0 + 1 * (x 0).val; omega)
    · exact Fin.ext (by show (x 1).val = 0 + 1 * (x 1).val; omega)
    · exact Fin.ext (by show (x 2).val = 0 + 1 * (x 2).val; omega)
  nomatch hpc

theorem slab3 (s : Fin 2) (r : Fin 512) (l : Fin 128) : out0_3 (F := Ideal) x0 x1 x2 (ix3 s r l)
    = k0_pay29 (F := Ideal) x0 x1 x2 (ix2 r ⟨0 + 128 * s + l, by omega⟩) := by
  unfold out0_3
  refine canon2 _ _ (fun s r l => k0_pay29 (F := Ideal) x0 x1 x2 (ix2 r ⟨0 + 128 * s + l, by omega⟩)) ?_ ?_ s r l
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29]
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29]

theorem slab4 (s : Fin 2) (r : Fin 512) (l : Fin 128) : out0_4 (F := Ideal) x0 x1 x2 (ix3 s r l)
    = k0_pay29 (F := Ideal) x0 x1 x2 (ix2 r ⟨256 + 128 * s + l, by omega⟩) := by
  unfold out0_4
  refine canon2 _ _ (fun s r l => k0_pay29 (F := Ideal) x0 x1 x2 (ix2 r ⟨256 + 128 * s + l, by omega⟩)) ?_ ?_ s r l
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29]
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29]

theorem slab5 (s : Fin 2) (r : Fin 512) (l : Fin 128) : out0_5 (F := Ideal) x0 x1 x2 (ix3 s r l)
    = k0_pay29 (F := Ideal) x0 x1 x2 (ix2 r ⟨512 + 128 * s + l, by omega⟩) := by
  unfold out0_5
  refine canon2 _ _ (fun s r l => k0_pay29 (F := Ideal) x0 x1 x2 (ix2 r ⟨512 + 128 * s + l, by omega⟩)) ?_ ?_ s r l
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29]
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29]

theorem slab6 (s : Fin 2) (r : Fin 512) (l : Fin 128) : out0_6 (F := Ideal) x0 x1 x2 (ix3 s r l)
    = k0_pay30 (F := Ideal) x0 x1 x2 (ix2 r ⟨0 + 128 * s + l, by omega⟩) := by
  unfold out0_6
  refine canon2 _ _ (fun s r l => k0_pay30 (F := Ideal) x0 x1 x2 (ix2 r ⟨0 + 128 * s + l, by omega⟩)) ?_ ?_ s r l
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay30]
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay30]

theorem slab7 (s : Fin 2) (r : Fin 512) (l : Fin 128) : out0_7 (F := Ideal) x0 x1 x2 (ix3 s r l)
    = k0_pay30 (F := Ideal) x0 x1 x2 (ix2 r ⟨256 + 128 * s + l, by omega⟩) := by
  unfold out0_7
  refine canon2 _ _ (fun s r l => k0_pay30 (F := Ideal) x0 x1 x2 (ix2 r ⟨256 + 128 * s + l, by omega⟩)) ?_ ?_ s r l
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay30]
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay30]

theorem slab8 (s : Fin 2) (r : Fin 512) (l : Fin 128) : out0_8 (F := Ideal) x0 x1 x2 (ix3 s r l)
    = k0_pay30 (F := Ideal) x0 x1 x2 (ix2 r ⟨512 + 128 * s + l, by omega⟩) := by
  unfold out0_8
  refine canon2 _ _ (fun s r l => k0_pay30 (F := Ideal) x0 x1 x2 (ix2 r ⟨512 + 128 * s + l, by omega⟩)) ?_ ?_ s r l
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay30]
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay30]

theorem slab9 (s : Fin 2) (r : Fin 512) (l : Fin 128) : out0_9 (F := Ideal) x0 x1 x2 (ix3 s r l)
    = k0_pay31 (F := Ideal) x0 x1 x2 (ix2 r ⟨0 + 128 * s + l, by omega⟩) := by
  unfold out0_9
  refine canon2 _ _ (fun s r l => k0_pay31 (F := Ideal) x0 x1 x2 (ix2 r ⟨0 + 128 * s + l, by omega⟩)) ?_ ?_ s r l
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay31]
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay31]

theorem slab10 (s : Fin 2) (r : Fin 512) (l : Fin 128) : out0_10 (F := Ideal) x0 x1 x2 (ix3 s r l)
    = k0_pay31 (F := Ideal) x0 x1 x2 (ix2 r ⟨256 + 128 * s + l, by omega⟩) := by
  unfold out0_10
  refine canon2 _ _ (fun s r l => k0_pay31 (F := Ideal) x0 x1 x2 (ix2 r ⟨256 + 128 * s + l, by omega⟩)) ?_ ?_ s r l
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay31]
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay31]

theorem slab11 (s : Fin 2) (r : Fin 512) (l : Fin 128) : out0_11 (F := Ideal) x0 x1 x2 (ix3 s r l)
    = k0_pay31 (F := Ideal) x0 x1 x2 (ix2 r ⟨512 + 128 * s + l, by omega⟩) := by
  unfold out0_11
  refine canon2 _ _ (fun s r l => k0_pay31 (F := Ideal) x0 x1 x2 (ix2 r ⟨512 + 128 * s + l, by omega⟩)) ?_ ?_ s r l
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay31]
  · intro r l
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay31]

end Cert.Kernel3Ideal.Value

end

end
-- ==== Proof.InprojFinal.lean ====
/- The opening call: its output arrays as entries of its arguments. -/
module

public import proofs.«01_k».proof.Proof.InprojKernel

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Rows

variable (m : (ℓ : Loc nD τ sig) → Buf (Elt Ideal) ℓ) (c : Dev nD)

/-- The batch entry of a row of the flattened batch. -/
def bOf (n : Fin 16384) : Fin 2 := ⟨n / 8192, by omega⟩
/-- The position of a row of the flattened batch within its batch entry. -/
def tOf (n : Fin 16384) : Fin 8192 := ⟨n % 8192, by omega⟩
/-- The row of the flattened batch that block `t` holds at row `r`. -/
def row (t : Fin cfg0.N) (r : Fin 512) : Fin 16384 :=
  ⟨t * 512 + r, by have h : (t : ℕ) < 32 := t.isLt; omega⟩

/-- Lane `j` of the projection of the normalised row at batch entry `b`, position `t`. -/
def proj (b : Fin 2) (t : Fin 8192) (j : Fin 6400) : EReal :=
  lin (rms (fun k => m ((c : Thread nD τ).loc main_arg0) (ix3 b t k)) (fun k => m ((c : Thread nD τ).loc main_arg1) (ix1 k)))
    (fun k l => m ((c : Thread nD τ).loc main_arg2) (ix2 k l)) j

theorem e_x (n : Fin 16384) (k : Fin 1024) : V m c main_v1 (ix2 n k) = m ((c : Thread nD τ).loc main_arg0) (ix3 (bOf n) (tOf n) k) := by
  show StableHlo.after (List.flatten [hostOps0]) _ (Proc.devRef .tc main_v1) _ = _
  simp only [List.flatten_cons, List.flatten_nil, List.append_nil]
  after_results
  pointwise [bOf, tOf]

theorem e_g (k : Fin 1024) : V m c main_v2 (ix2 0 k) = m ((c : Thread nD τ).loc main_arg1) (ix1 k) := by
  show StableHlo.after (List.flatten [hostOps0]) _ (Proc.devRef .tc main_v2) _ = _
  simp only [List.flatten_cons, List.flatten_nil, List.append_nil]
  after_results
  pointwise []

theorem e_w (k : Fin 1024) (j : Fin 6400) : V m c main_v0 (ix2 k j) = m ((c : Thread nD τ).loc main_arg2) (ix2 k j) := by
  show StableHlo.after (List.flatten [hostOps0]) _ (Proc.devRef .tc main_v0) _ = _
  simp only [List.flatten_cons, List.flatten_nil, List.append_nil]
  after_results
  pointwise []

theorem idx : ∀ t : Fin cfg0.N, win0_0.index t = ![(t : ℕ), 0]
    ∧ win0_1.index t = ![0, 0]
    ∧ win0_2.index t = ![0, 0]
    ∧ win0_3.index t = ![0, (t : ℕ), 0]
    ∧ win0_4.index t = ![0, (t : ℕ), 0]
    ∧ win0_5.index t = ![0, (t : ℕ), 0]
    ∧ win0_6.index t = ![0, (t : ℕ), 0]
    ∧ win0_7.index t = ![0, (t : ℕ), 0]
    ∧ win0_8.index t = ![0, (t : ℕ), 0]
    ∧ win0_9.index t = ![0, (t : ℕ), 0]
    ∧ win0_10.index t = ![0, (t : ℕ), 0]
    ∧ win0_11.index t = ![0, (t : ℕ), 0]
    ∧ win0_12.index t = ![(t : ℕ), 0]
    ∧ win0_13.index t = ![(t : ℕ), 0] := by decide +kernel

theorem b_x (t : Fin cfg0.N) (r : Fin 512) (k : Fin 1024) : iblk m c 0 t (ix2 r k) = V m c main_v1 (ix2 (row t r) k) := by
  unfold iblk
  generalize V m c = W
  blk_point [idx t, row]

theorem b_g (t : Fin cfg0.N) (k : Fin 1024) : iblk m c 1 t (ix2 0 k) = V m c main_v2 (ix2 0 k) := by
  unfold iblk
  generalize V m c = W
  blk_point [idx t, row]

theorem b_w (t : Fin cfg0.N) (k : Fin 1024) (j : Fin 6400) : iblk m c 2 t (ix2 k j) = V m c main_v0 (ix2 k j) := by
  unfold iblk
  generalize V m c = W
  blk_point [idx t, row]

theorem blkRow_eq (t : Fin cfg0.N) (r : Fin 512) (j : Fin 6400) :
    blkRow (iblk m c 0 t) (iblk m c 1 t) (iblk m c 2 t) r j = proj m c (bOf (row t r)) (tOf (row t r)) j := by
  unfold blkRow proj
  refine congrFun (congrArg₂ lin (congrArg₂ rms ?_ ?_) ?_) j
  · exact funext fun k => (b_x m c t r k).trans (e_x m c _ k)
  · exact funext fun k => (b_g m c t k).trans (e_g m c k)
  · exact funext fun k => funext fun l => (b_w m c t k l).trans (e_w m c k l)

def arr3 : (⟨S2x16384x128, .f32⟩ : BufTy).Contents (Elt Ideal) := fun i =>
  (fun (s : Fin 2) (n : Fin 16384) (l : Fin 128) => proj m c (bOf n) (tOf n) ⟨0 + 128 * s + l, by omega⟩ * factor) (i 0) (i 1) (i 2)

theorem point3 (t : Fin cfg0.N) (s : Fin 2) (r : Fin 512) (l : Fin 128) :
    out0_3 (iblk m c 0 t) (iblk m c 1 t) (iblk m c 2 t) (ix3 s r l) = arr3 m c (ix3 s (row t r) l) := by
  refine (slab3 _ _ _ s r l).trans ((q_apply _ _ _ _ _).trans ?_)
  rw [blkRow_eq]
  refine congrArg (fun j : Fin 6400 => proj m c (bOf (row t r)) (tOf (row t r)) j * factor) (Fin.ext ?_)
  show 0 + (0 + 128 * s.val + l.val) = 0 + 128 * s.val + l.val
  omega

theorem final3 : (dats m 0 c).arrAt 3 cfg0.N = arr3 m c := by
  refine (dats m 0 c).arrAt_eq_of_covers 3 _ (by decide +kernel) fun t _ (y : S2x512x128.Idx) => ?_
  blk_simp
  rw [after0_3]
  have hy : y = ix3 (y 0) (y 1) (y 2) := by funext a; fin_cases a <;> rfl
  have hi : ((View.whole main_v3_0).slice (win0_3.rect t)).emb y = ix3 (y 0) (row t (y 1)) (y 2) := by
    blk_ext [idx t, row]
  rw [hi]
  exact (congrArg _ hy).trans (point3 m c t (y 0) (y 1) (y 2))

def arr4 : (⟨S2x16384x128, .f32⟩ : BufTy).Contents (Elt Ideal) := fun i =>
  (fun (s : Fin 2) (n : Fin 16384) (l : Fin 128) => proj m c (bOf n) (tOf n) ⟨256 + 128 * s + l, by omega⟩ * factor) (i 0) (i 1) (i 2)

theorem point4 (t : Fin cfg0.N) (s : Fin 2) (r : Fin 512) (l : Fin 128) :
    out0_4 (iblk m c 0 t) (iblk m c 1 t) (iblk m c 2 t) (ix3 s r l) = arr4 m c (ix3 s (row t r) l) := by
  refine (slab4 _ _ _ s r l).trans ((q_apply _ _ _ _ _).trans ?_)
  rw [blkRow_eq]
  refine congrArg (fun j : Fin 6400 => proj m c (bOf (row t r)) (tOf (row t r)) j * factor) (Fin.ext ?_)
  show 0 + (256 + 128 * s.val + l.val) = 256 + 128 * s.val + l.val
  omega

theorem final4 : (dats m 0 c).arrAt 4 cfg0.N = arr4 m c := by
  refine (dats m 0 c).arrAt_eq_of_covers 4 _ (by decide +kernel) fun t _ (y : S2x512x128.Idx) => ?_
  blk_simp
  rw [after0_4]
  have hy : y = ix3 (y 0) (y 1) (y 2) := by funext a; fin_cases a <;> rfl
  have hi : ((View.whole main_v3_1).slice (win0_4.rect t)).emb y = ix3 (y 0) (row t (y 1)) (y 2) := by
    blk_ext [idx t, row]
  rw [hi]
  exact (congrArg _ hy).trans (point4 m c t (y 0) (y 1) (y 2))

def arr5 : (⟨S2x16384x128, .f32⟩ : BufTy).Contents (Elt Ideal) := fun i =>
  (fun (s : Fin 2) (n : Fin 16384) (l : Fin 128) => proj m c (bOf n) (tOf n) ⟨512 + 128 * s + l, by omega⟩ * factor) (i 0) (i 1) (i 2)

theorem point5 (t : Fin cfg0.N) (s : Fin 2) (r : Fin 512) (l : Fin 128) :
    out0_5 (iblk m c 0 t) (iblk m c 1 t) (iblk m c 2 t) (ix3 s r l) = arr5 m c (ix3 s (row t r) l) := by
  refine (slab5 _ _ _ s r l).trans ((q_apply _ _ _ _ _).trans ?_)
  rw [blkRow_eq]
  refine congrArg (fun j : Fin 6400 => proj m c (bOf (row t r)) (tOf (row t r)) j * factor) (Fin.ext ?_)
  show 0 + (512 + 128 * s.val + l.val) = 512 + 128 * s.val + l.val
  omega

theorem final5 : (dats m 0 c).arrAt 5 cfg0.N = arr5 m c := by
  refine (dats m 0 c).arrAt_eq_of_covers 5 _ (by decide +kernel) fun t _ (y : S2x512x128.Idx) => ?_
  blk_simp
  rw [after0_5]
  have hy : y = ix3 (y 0) (y 1) (y 2) := by funext a; fin_cases a <;> rfl
  have hi : ((View.whole main_v3_2).slice (win0_5.rect t)).emb y = ix3 (y 0) (row t (y 1)) (y 2) := by
    blk_ext [idx t, row]
  rw [hi]
  exact (congrArg _ hy).trans (point5 m c t (y 0) (y 1) (y 2))

def arr6 : (⟨S2x16384x128, .f32⟩ : BufTy).Contents (Elt Ideal) := fun i =>
  (fun (s : Fin 2) (n : Fin 16384) (l : Fin 128) => proj m c (bOf n) (tOf n) ⟨768 + 128 * s + l, by omega⟩) (i 0) (i 1) (i 2)

theorem point6 (t : Fin cfg0.N) (s : Fin 2) (r : Fin 512) (l : Fin 128) :
    out0_6 (iblk m c 0 t) (iblk m c 1 t) (iblk m c 2 t) (ix3 s r l) = arr6 m c (ix3 s (row t r) l) := by
  refine (slab6 _ _ _ s r l).trans ((k_apply _ _ _ _ _).trans ?_)
  rw [blkRow_eq]
  refine congrArg (fun j : Fin 6400 => proj m c (bOf (row t r)) (tOf (row t r)) j) (Fin.ext ?_)
  show 768 + (0 + 128 * s.val + l.val) = 768 + 128 * s.val + l.val
  omega

theorem final6 : (dats m 0 c).arrAt 6 cfg0.N = arr6 m c := by
  refine (dats m 0 c).arrAt_eq_of_covers 6 _ (by decide +kernel) fun t _ (y : S2x512x128.Idx) => ?_
  blk_simp
  rw [after0_6]
  have hy : y = ix3 (y 0) (y 1) (y 2) := by funext a; fin_cases a <;> rfl
  have hi : ((View.whole main_v3_3).slice (win0_6.rect t)).emb y = ix3 (y 0) (row t (y 1)) (y 2) := by
    blk_ext [idx t, row]
  rw [hi]
  exact (congrArg _ hy).trans (point6 m c t (y 0) (y 1) (y 2))

def arr7 : (⟨S2x16384x128, .f32⟩ : BufTy).Contents (Elt Ideal) := fun i =>
  (fun (s : Fin 2) (n : Fin 16384) (l : Fin 128) => proj m c (bOf n) (tOf n) ⟨1024 + 128 * s + l, by omega⟩) (i 0) (i 1) (i 2)

theorem point7 (t : Fin cfg0.N) (s : Fin 2) (r : Fin 512) (l : Fin 128) :
    out0_7 (iblk m c 0 t) (iblk m c 1 t) (iblk m c 2 t) (ix3 s r l) = arr7 m c (ix3 s (row t r) l) := by
  refine (slab7 _ _ _ s r l).trans ((k_apply _ _ _ _ _).trans ?_)
  rw [blkRow_eq]
  refine congrArg (fun j : Fin 6400 => proj m c (bOf (row t r)) (tOf (row t r)) j) (Fin.ext ?_)
  show 768 + (256 + 128 * s.val + l.val) = 1024 + 128 * s.val + l.val
  omega

theorem final7 : (dats m 0 c).arrAt 7 cfg0.N = arr7 m c := by
  refine (dats m 0 c).arrAt_eq_of_covers 7 _ (by decide +kernel) fun t _ (y : S2x512x128.Idx) => ?_
  blk_simp
  rw [after0_7]
  have hy : y = ix3 (y 0) (y 1) (y 2) := by funext a; fin_cases a <;> rfl
  have hi : ((View.whole main_v3_4).slice (win0_7.rect t)).emb y = ix3 (y 0) (row t (y 1)) (y 2) := by
    blk_ext [idx t, row]
  rw [hi]
  exact (congrArg _ hy).trans (point7 m c t (y 0) (y 1) (y 2))

def arr8 : (⟨S2x16384x128, .f32⟩ : BufTy).Contents (Elt Ideal) := fun i =>
  (fun (s : Fin 2) (n : Fin 16384) (l : Fin 128) => proj m c (bOf n) (tOf n) ⟨1280 + 128 * s + l, by omega⟩) (i 0) (i 1) (i 2)

theorem point8 (t : Fin cfg0.N) (s : Fin 2) (r : Fin 512) (l : Fin 128) :
    out0_8 (iblk m c 0 t) (iblk m c 1 t) (iblk m c 2 t) (ix3 s r l) = arr8 m c (ix3 s (row t r) l) := by
  refine (slab8 _ _ _ s r l).trans ((k_apply _ _ _ _ _).trans ?_)
  rw [blkRow_eq]
  refine congrArg (fun j : Fin 6400 => proj m c (bOf (row t r)) (tOf (row t r)) j) (Fin.ext ?_)
  show 768 + (512 + 128 * s.val + l.val) = 1280 + 128 * s.val + l.val
  omega

theorem final8 : (dats m 0 c).arrAt 8 cfg0.N = arr8 m c := by
  refine (dats m 0 c).arrAt_eq_of_covers 8 _ (by decide +kernel) fun t _ (y : S2x512x128.Idx) => ?_
  blk_simp
  rw [after0_8]
  have hy : y = ix3 (y 0) (y 1) (y 2) := by funext a; fin_cases a <;> rfl
  have hi : ((View.whole main_v3_5).slice (win0_8.rect t)).emb y = ix3 (y 0) (row t (y 1)) (y 2) := by
    blk_ext [idx t, row]
  rw [hi]
  exact (congrArg _ hy).trans (point8 m c t (y 0) (y 1) (y 2))

def arr9 : (⟨S2x16384x128, .f32⟩ : BufTy).Contents (Elt Ideal) := fun i =>
  (fun (s : Fin 2) (n : Fin 16384) (l : Fin 128) => proj m c (bOf n) (tOf n) ⟨1536 + 128 * s + l, by omega⟩) (i 0) (i 1) (i 2)

theorem point9 (t : Fin cfg0.N) (s : Fin 2) (r : Fin 512) (l : Fin 128) :
    out0_9 (iblk m c 0 t) (iblk m c 1 t) (iblk m c 2 t) (ix3 s r l) = arr9 m c (ix3 s (row t r) l) := by
  refine (slab9 _ _ _ s r l).trans ((v_apply _ _ _ _ _).trans ?_)
  rw [blkRow_eq]
  refine congrArg (fun j : Fin 6400 => proj m c (bOf (row t r)) (tOf (row t r)) j) (Fin.ext ?_)
  show 1536 + (0 + 128 * s.val + l.val) = 1536 + 128 * s.val + l.val
  omega

theorem final9 : (dats m 0 c).arrAt 9 cfg0.N = arr9 m c := by
  refine (dats m 0 c).arrAt_eq_of_covers 9 _ (by decide +kernel) fun t _ (y : S2x512x128.Idx) => ?_
  blk_simp
  rw [after0_9]
  have hy : y = ix3 (y 0) (y 1) (y 2) := by funext a; fin_cases a <;> rfl
  have hi : ((View.whole main_v3_6).slice (win0_9.rect t)).emb y = ix3 (y 0) (row t (y 1)) (y 2) := by
    blk_ext [idx t, row]
  rw [hi]
  exact (congrArg _ hy).trans (point9 m c t (y 0) (y 1) (y 2))

def arr10 : (⟨S2x16384x128, .f32⟩ : BufTy).Contents (Elt Ideal) := fun i =>
  (fun (s : Fin 2) (n : Fin 16384) (l : Fin 128) => proj m c (bOf n) (tOf n) ⟨1792 + 128 * s + l, by omega⟩) (i 0) (i 1) (i 2)

theorem point10 (t : Fin cfg0.N) (s : Fin 2) (r : Fin 512) (l : Fin 128) :
    out0_10 (iblk m c 0 t) (iblk m c 1 t) (iblk m c 2 t) (ix3 s r l) = arr10 m c (ix3 s (row t r) l) := by
  refine (slab10 _ _ _ s r l).trans ((v_apply _ _ _ _ _).trans ?_)
  rw [blkRow_eq]
  refine congrArg (fun j : Fin 6400 => proj m c (bOf (row t r)) (tOf (row t r)) j) (Fin.ext ?_)
  show 1536 + (256 + 128 * s.val + l.val) = 1792 + 128 * s.val + l.val
  omega

theorem final10 : (dats m 0 c).arrAt 10 cfg0.N = arr10 m c := by
  refine (dats m 0 c).arrAt_eq_of_covers 10 _ (by decide +kernel) fun t _ (y : S2x512x128.Idx) => ?_
  blk_simp
  rw [after0_10]
  have hy : y = ix3 (y 0) (y 1) (y 2) := by funext a; fin_cases a <;> rfl
  have hi : ((View.whole main_v3_7).slice (win0_10.rect t)).emb y = ix3 (y 0) (row t (y 1)) (y 2) := by
    blk_ext [idx t, row]
  rw [hi]
  exact (congrArg _ hy).trans (point10 m c t (y 0) (y 1) (y 2))

def arr11 : (⟨S2x16384x128, .f32⟩ : BufTy).Contents (Elt Ideal) := fun i =>
  (fun (s : Fin 2) (n : Fin 16384) (l : Fin 128) => proj m c (bOf n) (tOf n) ⟨2048 + 128 * s + l, by omega⟩) (i 0) (i 1) (i 2)

theorem point11 (t : Fin cfg0.N) (s : Fin 2) (r : Fin 512) (l : Fin 128) :
    out0_11 (iblk m c 0 t) (iblk m c 1 t) (iblk m c 2 t) (ix3 s r l) = arr11 m c (ix3 s (row t r) l) := by
  refine (slab11 _ _ _ s r l).trans ((v_apply _ _ _ _ _).trans ?_)
  rw [blkRow_eq]
  refine congrArg (fun j : Fin 6400 => proj m c (bOf (row t r)) (tOf (row t r)) j) (Fin.ext ?_)
  show 1536 + (512 + 128 * s.val + l.val) = 2048 + 128 * s.val + l.val
  omega

theorem final11 : (dats m 0 c).arrAt 11 cfg0.N = arr11 m c := by
  refine (dats m 0 c).arrAt_eq_of_covers 11 _ (by decide +kernel) fun t _ (y : S2x512x128.Idx) => ?_
  blk_simp
  rw [after0_11]
  have hy : y = ix3 (y 0) (y 1) (y 2) := by funext a; fin_cases a <;> rfl
  have hi : ((View.whole main_v3_8).slice (win0_11.rect t)).emb y = ix3 (y 0) (row t (y 1)) (y 2) := by
    blk_ext [idx t, row]
  rw [hi]
  exact (congrArg _ hy).trans (point11 m c t (y 0) (y 1) (y 2))

def arr12 : (⟨S16384x1024, .f32⟩ : BufTy).Contents (Elt Ideal) := fun i =>
  (fun (n : Fin 16384) (j : Fin 1024) => proj m c (bOf n) (tOf n) ⟨2304 + j, by omega⟩ * Ideal.logistic (proj m c (bOf n) (tOf n) ⟨3328 + j, by omega⟩)) (i 0) (i 1)

theorem point12 (t : Fin cfg0.N) (r : Fin 512) (j : Fin 1024) :
    out0_12 (iblk m c 0 t) (iblk m c 1 t) (iblk m c 2 t) (ix2 r j) = arr12 m c (ix2 (row t r) j) := by
  refine (z_apply _ _ _ r j).trans ?_
  simp only [blkRow_eq]
  rfl

theorem final12 : (dats m 0 c).arrAt 12 cfg0.N = arr12 m c := by
  refine (dats m 0 c).arrAt_eq_of_covers 12 _ (by decide +kernel) fun t _ (y : S512x1024.Idx) => ?_
  blk_simp
  rw [after0_12]
  have hy : y = ix2 (y 0) (y 1) := by funext a; fin_cases a <;> rfl
  have hi : ((View.whole main_v3_9).slice (win0_12.rect t)).emb y = ix2 (row t (y 0)) (y 1) := by
    blk_ext [idx t, row]
  rw [hi]
  exact (congrArg _ hy).trans (point12 m c t (y 0) (y 1))

def arr13 : (⟨S16384x2048, .f32⟩ : BufTy).Contents (Elt Ideal) := fun i =>
  (fun (n : Fin 16384) (j : Fin 2048) => Ideal.logistic (proj m c (bOf n) (tOf n) ⟨4352 + j, by omega⟩)) (i 0) (i 1)

theorem point13 (t : Fin cfg0.N) (r : Fin 512) (j : Fin 2048) :
    out0_13 (iblk m c 0 t) (iblk m c 1 t) (iblk m c 2 t) (ix2 r j) = arr13 m c (ix2 (row t r) j) := by
  refine (gates_apply _ _ _ r j).trans ?_
  simp only [blkRow_eq]
  rfl

theorem final13 : (dats m 0 c).arrAt 13 cfg0.N = arr13 m c := by
  refine (dats m 0 c).arrAt_eq_of_covers 13 _ (by decide +kernel) fun t _ (y : S512x2048.Idx) => ?_
  blk_simp
  rw [after0_13]
  have hy : y = ix2 (y 0) (y 1) := by funext a; fin_cases a <;> rfl
  have hi : ((View.whole main_v3_10).slice (win0_13.rect t)).emb y = ix2 (row t (y 0)) (y 1) := by
    blk_ext [idx t, row]
  rw [hi]
  exact (congrArg _ hy).trans (point13 m c t (y 0) (y 1))

end Cert.Kernel3Ideal.Value

end

end
-- ==== Proof.InprojTail.lean ====
/- The opening call: its results as entries of its arguments. -/
module

public import proofs.«01_k».proof.Proof.InprojFinal
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Rows

variable (m : (ℓ : Loc nD τ sig) → Buf (Elt Ideal) ℓ) (c : Dev nD)

/-- The arrays as the call leaves them. -/
def left : Valuation τ sig (Elt Ideal) :=
  Pipeline.withArrays (cfgs 0).spec c (V0 m c) fun w => (dats m 0 c).arrAt w (cfgs 0).N

theorem proj_congr {b b' : Fin 2} {t t' : Fin 8192} {j j' : Fin 6400} (hb : b.val = b'.val) (ht : t.val = t'.val) (hj : j.val = j'.val) :
    proj m c b t j = proj m c b' t' j' := by
  obtain rfl := Fin.ext hb
  obtain rfl := Fin.ext ht
  obtain rfl := Fin.ext hj
  rfl

theorem spec_inj : Function.Injective (Pipeline.arrRef (cfgs 0).spec) := by
  show Function.Injective (Pipeline.arrRef spec0)
  decide

theorem left3 : left m c (Proc.devRef .tc main_v3_0) = arr3 m c :=
  (Pipeline.withArrays_arr (cfgs 0).spec spec_inj c (V0 m c) (fun w => (dats m 0 c).arrAt w (cfgs 0).N) 3).trans (final3 m c)

theorem left4 : left m c (Proc.devRef .tc main_v3_1) = arr4 m c :=
  (Pipeline.withArrays_arr (cfgs 0).spec spec_inj c (V0 m c) (fun w => (dats m 0 c).arrAt w (cfgs 0).N) 4).trans (final4 m c)

theorem left5 : left m c (Proc.devRef .tc main_v3_2) = arr5 m c :=
  (Pipeline.withArrays_arr (cfgs 0).spec spec_inj c (V0 m c) (fun w => (dats m 0 c).arrAt w (cfgs 0).N) 5).trans (final5 m c)

theorem left6 : left m c (Proc.devRef .tc main_v3_3) = arr6 m c :=
  (Pipeline.withArrays_arr (cfgs 0).spec spec_inj c (V0 m c) (fun w => (dats m 0 c).arrAt w (cfgs 0).N) 6).trans (final6 m c)

theorem left7 : left m c (Proc.devRef .tc main_v3_4) = arr7 m c :=
  (Pipeline.withArrays_arr (cfgs 0).spec spec_inj c (V0 m c) (fun w => (dats m 0 c).arrAt w (cfgs 0).N) 7).trans (final7 m c)

theorem left8 : left m c (Proc.devRef .tc main_v3_5) = arr8 m c :=
  (Pipeline.withArrays_arr (cfgs 0).spec spec_inj c (V0 m c) (fun w => (dats m 0 c).arrAt w (cfgs 0).N) 8).trans (final8 m c)

theorem left9 : left m c (Proc.devRef .tc main_v3_6) = arr9 m c :=
  (Pipeline.withArrays_arr (cfgs 0).spec spec_inj c (V0 m c) (fun w => (dats m 0 c).arrAt w (cfgs 0).N) 9).trans (final9 m c)

theorem left10 : left m c (Proc.devRef .tc main_v3_7) = arr10 m c :=
  (Pipeline.withArrays_arr (cfgs 0).spec spec_inj c (V0 m c) (fun w => (dats m 0 c).arrAt w (cfgs 0).N) 10).trans (final10 m c)

theorem left11 : left m c (Proc.devRef .tc main_v3_8) = arr11 m c :=
  (Pipeline.withArrays_arr (cfgs 0).spec spec_inj c (V0 m c) (fun w => (dats m 0 c).arrAt w (cfgs 0).N) 11).trans (final11 m c)

theorem left12 : left m c (Proc.devRef .tc main_v3_9) = arr12 m c :=
  (Pipeline.withArrays_arr (cfgs 0).spec spec_inj c (V0 m c) (fun w => (dats m 0 c).arrAt w (cfgs 0).N) 12).trans (final12 m c)

theorem arr3_apply (s : Fin 2) (n : Fin 16384) (l : Fin 128) :
    arr3 m c (ix3 s n l) = proj m c (bOf n) (tOf n) ⟨0 + 128 * s + l, by omega⟩ * factor := rfl

theorem arr4_apply (s : Fin 2) (n : Fin 16384) (l : Fin 128) :
    arr4 m c (ix3 s n l) = proj m c (bOf n) (tOf n) ⟨256 + 128 * s + l, by omega⟩ * factor := rfl

theorem arr5_apply (s : Fin 2) (n : Fin 16384) (l : Fin 128) :
    arr5 m c (ix3 s n l) = proj m c (bOf n) (tOf n) ⟨512 + 128 * s + l, by omega⟩ * factor := rfl

theorem arr6_apply (s : Fin 2) (n : Fin 16384) (l : Fin 128) :
    arr6 m c (ix3 s n l) = proj m c (bOf n) (tOf n) ⟨768 + 128 * s + l, by omega⟩ := rfl

theorem arr7_apply (s : Fin 2) (n : Fin 16384) (l : Fin 128) :
    arr7 m c (ix3 s n l) = proj m c (bOf n) (tOf n) ⟨1024 + 128 * s + l, by omega⟩ := rfl

theorem arr8_apply (s : Fin 2) (n : Fin 16384) (l : Fin 128) :
    arr8 m c (ix3 s n l) = proj m c (bOf n) (tOf n) ⟨1280 + 128 * s + l, by omega⟩ := rfl

theorem arr9_apply (s : Fin 2) (n : Fin 16384) (l : Fin 128) :
    arr9 m c (ix3 s n l) = proj m c (bOf n) (tOf n) ⟨1536 + 128 * s + l, by omega⟩ := rfl

theorem arr10_apply (s : Fin 2) (n : Fin 16384) (l : Fin 128) :
    arr10 m c (ix3 s n l) = proj m c (bOf n) (tOf n) ⟨1792 + 128 * s + l, by omega⟩ := rfl

theorem arr11_apply (s : Fin 2) (n : Fin 16384) (l : Fin 128) :
    arr11 m c (ix3 s n l) = proj m c (bOf n) (tOf n) ⟨2048 + 128 * s + l, by omega⟩ := rfl

theorem arr12_apply (n : Fin 16384) (j : Fin 1024) :
    arr12 m c (ix2 n j) = proj m c (bOf n) (tOf n) ⟨2304 + j, by omega⟩ * Ideal.logistic (proj m c (bOf n) (tOf n) ⟨3328 + j, by omega⟩) := rfl

theorem tail10 (n : Fin 16384) (j : Fin 768) : Pipeline.afterTail₀ cfgs (dats m) 0 (V0 m) [hostOps1] c main_v10 (ix2 n j)
    = proj m c (bOf n) (tOf n) ⟨0 + j, by omega⟩ * factor := by
  show StableHlo.after (List.flatten [hostOps1]) (left m c) (Proc.devRef .tc main_v10) (ix2 n j) = _
  have h0 := left3 m c
  have h1 := left4 m c
  have h2 := left5 m c
  generalize left m c = W at h0 h1 h2 ⊢
  simp only [List.flatten_cons, List.flatten_nil, List.append_nil]
  after_reads_at
  by_cases a : (j : ℕ) < 256
  · rw [dif_pos a]
    after_reads_simp
    clean_types
    pointwise []
    refine (congrFun h0 _).trans ((arr3_apply m c _ _ _).trans ?_)
    exact congrArg (fun u : EReal => u * factor) (proj_congr m c rfl rfl (by show 0 + 128 * (j.val / 128) + j.val % 128 = j.val; omega))
  · rw [dif_neg a]
    by_cases a' : (j : ℕ) - 256 < 256
    · rw [dif_pos a']
      after_reads_simp
      clean_types
      pointwise []
      refine (congrFun h1 _).trans ((arr4_apply m c _ _ _).trans ?_)
      exact congrArg (fun u : EReal => u * factor) (proj_congr m c rfl rfl (by show 256 + 128 * ((j.val - 256) / 128) + (j.val - 256) % 128 = j.val; omega))
    · rw [dif_neg a']
      after_reads_simp
      clean_types
      pointwise []
      refine (congrFun h2 _).trans ((arr5_apply m c _ _ _).trans ?_)
      exact congrArg (fun u : EReal => u * factor) (proj_congr m c rfl rfl (by show 512 + 128 * ((j.val - 256 - 256) / 128) + (j.val - 256 - 256) % 128 = j.val; omega))

theorem tail17 (n : Fin 16384) (j : Fin 768) : Pipeline.afterTail₀ cfgs (dats m) 0 (V0 m) [hostOps1] c main_v17 (ix2 n j)
    = proj m c (bOf n) (tOf n) ⟨768 + j, by omega⟩ := by
  show StableHlo.after (List.flatten [hostOps1]) (left m c) (Proc.devRef .tc main_v17) (ix2 n j) = _
  have h0 := left6 m c
  have h1 := left7 m c
  have h2 := left8 m c
  generalize left m c = W at h0 h1 h2 ⊢
  simp only [List.flatten_cons, List.flatten_nil, List.append_nil]
  after_reads_at
  by_cases a : (j : ℕ) < 256
  · rw [dif_pos a]
    after_reads_simp
    clean_types
    pointwise []
    refine (congrFun h0 _).trans ((arr6_apply m c _ _ _).trans ?_)
    exact proj_congr m c rfl rfl (by show 768 + 128 * (j.val / 128) + j.val % 128 = 768 + j.val; omega)
  · rw [dif_neg a]
    by_cases a' : (j : ℕ) - 256 < 256
    · rw [dif_pos a']
      after_reads_simp
      clean_types
      pointwise []
      refine (congrFun h1 _).trans ((arr7_apply m c _ _ _).trans ?_)
      exact proj_congr m c rfl rfl (by show 1024 + 128 * ((j.val - 256) / 128) + (j.val - 256) % 128 = 768 + j.val; omega)
    · rw [dif_neg a']
      after_reads_simp
      clean_types
      pointwise []
      refine (congrFun h2 _).trans ((arr8_apply m c _ _ _).trans ?_)
      exact proj_congr m c rfl rfl (by show 1280 + 128 * ((j.val - 256 - 256) / 128) + (j.val - 256 - 256) % 128 = 768 + j.val; omega)

theorem tail24 (n : Fin 16384) (j : Fin 768) : Pipeline.afterTail₀ cfgs (dats m) 0 (V0 m) [hostOps1] c main_v24 (ix2 n j)
    = proj m c (bOf n) (tOf n) ⟨1536 + j, by omega⟩ := by
  show StableHlo.after (List.flatten [hostOps1]) (left m c) (Proc.devRef .tc main_v24) (ix2 n j) = _
  have h0 := left9 m c
  have h1 := left10 m c
  have h2 := left11 m c
  generalize left m c = W at h0 h1 h2 ⊢
  simp only [List.flatten_cons, List.flatten_nil, List.append_nil]
  after_reads_at
  by_cases a : (j : ℕ) < 256
  · rw [dif_pos a]
    after_reads_simp
    clean_types
    pointwise []
    refine (congrFun h0 _).trans ((arr9_apply m c _ _ _).trans ?_)
    exact proj_congr m c rfl rfl (by show 1536 + 128 * (j.val / 128) + j.val % 128 = 1536 + j.val; omega)
  · rw [dif_neg a]
    by_cases a' : (j : ℕ) - 256 < 256
    · rw [dif_pos a']
      after_reads_simp
      clean_types
      pointwise []
      refine (congrFun h1 _).trans ((arr10_apply m c _ _ _).trans ?_)
      exact proj_congr m c rfl rfl (by show 1792 + 128 * ((j.val - 256) / 128) + (j.val - 256) % 128 = 1536 + j.val; omega)
    · rw [dif_neg a']
      after_reads_simp
      clean_types
      pointwise []
      refine (congrFun h2 _).trans ((arr11_apply m c _ _ _).trans ?_)
      exact proj_congr m c rfl rfl (by show 2048 + 128 * ((j.val - 256 - 256) / 128) + (j.val - 256 - 256) % 128 = 1536 + j.val; omega)

theorem tail70 (b : Fin 2) (t : Fin 8192) (j : Fin 1024) : Pipeline.afterTail₀ cfgs (dats m) 0 (V0 m) [hostOps1] c main_v70 (ix3 b t j)
    = proj m c b t ⟨2304 + j, by omega⟩ * Ideal.logistic (proj m c b t ⟨3328 + j, by omega⟩) := by
  show StableHlo.after (List.flatten [hostOps1]) (left m c) (Proc.devRef .tc main_v70) (ix3 b t j) = _
  have h0 := left12 m c
  generalize left m c = W at h0 ⊢
  simp only [List.flatten_cons, List.flatten_nil, List.append_nil]
  after_reads_at
  refine (congrFun h0 _).trans ((arr12_apply m c _ _).trans ?_)
  have e1 : (b.val * 8192 + t.val) / 8192 = b.val := by omega
  have e2 : (b.val * 8192 + t.val) % 8192 = t.val := by omega
  exact congrArg₂ (fun a b : EReal => a * Ideal.logistic b) (proj_congr m c e1 e2 rfl) (proj_congr m c e1 e2 rfl)

theorem tail71 (b : Fin 2) (t : Fin 30) (j : Fin 1024) : Pipeline.afterTail₀ cfgs (dats m) 0 (V0 m) [hostOps1] c main_v71 (ix3 b t j)
    = proj m c b ⟨8162 + t, by omega⟩ ⟨2304 + j, by omega⟩ * Ideal.logistic (proj m c b ⟨8162 + t, by omega⟩ ⟨3328 + j, by omega⟩) := by
  show StableHlo.after (List.flatten [hostOps1]) (left m c) (Proc.devRef .tc main_v71) (ix3 b t j) = _
  have h0 := left12 m c
  generalize left m c = W at h0 ⊢
  simp only [List.flatten_cons, List.flatten_nil, List.append_nil]
  after_reads_simp
  have hz : ∀ Z : FVec Ideal S2x8192x1024 .f32, extractStridedSlice S2x30x1024 ![0, 8162, 0] Z slices_S2x8192x1024_S2x30x1024_0_8162_0 (ix3 b t j)
      = Z (ix3 b ⟨8162 + t, by omega⟩ j) := by
    intro Z
    pointwise []
  refine (hz _).trans ?_
  clean_types
  pointwise []
  refine (congrFun h0 _).trans ((arr12_apply m c _ _).trans ?_)
  have e1 : (b.val * 8192 + (8162 + t.val)) / 8192 = b.val := by omega
  have e2 : (b.val * 8192 + (8162 + t.val)) % 8192 = 8162 + t.val := by omega
  exact congrArg₂ (fun a b : EReal => a * Ideal.logistic b) (proj_congr m c e1 e2 rfl) (proj_congr m c e1 e2 rfl)

theorem tail39 (b : Fin 2) (t : Fin 128) (k : Fin 2) (h : Fin 4) (d : Fin 64) :
    Pipeline.afterTail₀ cfgs (dats m) 0 (V0 m) [hostOps1] c main_v39 (ix5 b t k h d)
    = if (k : ℕ) < 1 then proj m c b ⟨8064 + t, by omega⟩ ⟨768 + (h * 64 + d), by omega⟩ else proj m c b ⟨8064 + t, by omega⟩ ⟨1536 + (h * 64 + d), by omega⟩ := by
  show StableHlo.after (List.flatten [hostOps1]) (left m c) (Proc.devRef .tc main_v39) (ix5 b t k h d) = _
  have h0 := left6 m c
  have h1 := left9 m c
  generalize left m c = W at h0 h1 ⊢
  simp only [List.flatten_cons, List.flatten_nil, List.append_nil]
  after_reads_at
  have e1 : ((b.val * 128 + t.val) / 128 * 8192 + (8064 + (b.val * 128 + t.val) % 128)) / 8192 = b.val := by omega
  have e2 : ((b.val * 128 + t.val) / 128 * 8192 + (8064 + (b.val * 128 + t.val) % 128)) % 8192 = 8064 + t.val := by omega
  by_cases a : (k : ℕ) < 1
  · refine (dif_pos a).trans (Eq.trans ?_ (if_pos a).symm)
    refine (congrFun h0 _).trans ((arr6_apply m c _ _ _).trans ?_)
    exact proj_congr m c e1 e2 (by show 768 + 128 * ((h.val * 64 + d.val) / 128) + (h.val * 64 + d.val) % 128 = 768 + (h.val * 64 + d.val); omega)
  · refine (dif_neg a).trans (Eq.trans ?_ (if_neg a).symm)
    refine (congrFun h1 _).trans ((arr9_apply m c _ _ _).trans ?_)
    exact proj_congr m c e1 e2 (by show 1536 + 128 * ((h.val * 64 + d.val) / 128) + (h.val * 64 + d.val) % 128 = 1536 + (h.val * 64 + d.val); omega)

theorem tail54 (b : Fin 2) (t : Fin 512) (k : Fin 2) (h : Fin 4) (d : Fin 64) :
    Pipeline.afterTail₀ cfgs (dats m) 0 (V0 m) [hostOps1] c main_v54 (ix5 b t k h d)
    = if (k : ℕ) < 1 then proj m c b ⟨7680 + t, by omega⟩ ⟨1024 + (h * 64 + d), by omega⟩ else proj m c b ⟨7680 + t, by omega⟩ ⟨1792 + (h * 64 + d), by omega⟩ := by
  show StableHlo.after (List.flatten [hostOps1]) (left m c) (Proc.devRef .tc main_v54) (ix5 b t k h d) = _
  have h0 := left7 m c
  have h1 := left10 m c
  generalize left m c = W at h0 h1 ⊢
  simp only [List.flatten_cons, List.flatten_nil, List.append_nil]
  after_reads_at
  have e1 : ((b.val * 512 + t.val) / 512 * 8192 + (7680 + (b.val * 512 + t.val) % 512)) / 8192 = b.val := by omega
  have e2 : ((b.val * 512 + t.val) / 512 * 8192 + (7680 + (b.val * 512 + t.val) % 512)) % 8192 = 7680 + t.val := by omega
  by_cases a : (k : ℕ) < 1
  · refine (dif_pos a).trans (Eq.trans ?_ (if_pos a).symm)
    refine (congrFun h0 _).trans ((arr7_apply m c _ _ _).trans ?_)
    exact proj_congr m c e1 e2 (by show 1024 + 128 * ((h.val * 64 + d.val) / 128) + (h.val * 64 + d.val) % 128 = 1024 + (h.val * 64 + d.val); omega)
  · refine (dif_neg a).trans (Eq.trans ?_ (if_neg a).symm)
    refine (congrFun h1 _).trans ((arr10_apply m c _ _ _).trans ?_)
    exact proj_congr m c e1 e2 (by show 1792 + 128 * ((h.val * 64 + d.val) / 128) + (h.val * 64 + d.val) % 128 = 1792 + (h.val * 64 + d.val); omega)

theorem tail69 (b : Fin 2) (t : Fin 2048) (k : Fin 2) (h : Fin 4) (d : Fin 64) :
    Pipeline.afterTail₀ cfgs (dats m) 0 (V0 m) [hostOps1] c main_v69 (ix5 b t k h d)
    = if (k : ℕ) < 1 then proj m c b ⟨6144 + t, by omega⟩ ⟨1280 + (h * 64 + d), by omega⟩ else proj m c b ⟨6144 + t, by omega⟩ ⟨2048 + (h * 64 + d), by omega⟩ := by
  show StableHlo.after (List.flatten [hostOps1]) (left m c) (Proc.devRef .tc main_v69) (ix5 b t k h d) = _
  have h0 := left8 m c
  have h1 := left11 m c
  generalize left m c = W at h0 h1 ⊢
  simp only [List.flatten_cons, List.flatten_nil, List.append_nil]
  after_reads_at
  have e1 : ((b.val * 2048 + t.val) / 2048 * 8192 + (6144 + (b.val * 2048 + t.val) % 2048)) / 8192 = b.val := by omega
  have e2 : ((b.val * 2048 + t.val) / 2048 * 8192 + (6144 + (b.val * 2048 + t.val) % 2048)) % 8192 = 6144 + t.val := by omega
  by_cases a : (k : ℕ) < 1
  · refine (dif_pos a).trans (Eq.trans ?_ (if_pos a).symm)
    refine (congrFun h0 _).trans ((arr8_apply m c _ _ _).trans ?_)
    exact proj_congr m c e1 e2 (by show 1280 + 128 * ((h.val * 64 + d.val) / 128) + (h.val * 64 + d.val) % 128 = 1280 + (h.val * 64 + d.val); omega)
  · refine (dif_neg a).trans (Eq.trans ?_ (if_neg a).symm)
    refine (congrFun h1 _).trans ((arr11_apply m c _ _ _).trans ?_)
    exact proj_congr m c e1 e2 (by show 2048 + 128 * ((h.val * 64 + d.val) / 128) + (h.val * 64 + d.val) % 128 = 2048 + (h.val * 64 + d.val); omega)

end Cert.Kernel3Ideal.Value

end

end
-- ==== Proof.InprojRef.lean ====
/- The reference of the opening call: its results as entries of its arguments. -/
module

public import proofs.«01_k».proof.Proof.Rows
public import proofs.«01_k».proof.Proof.Gen.Reference3Ideal.Read

@[expose] public section

set_option maxRecDepth 16384

noncomputable section

open Idealize.ShloMosaic Idealize.ShloMosaic.TcCoe Idealize.SL.Sem
open Idealize.ShloMosaic.Pipeline (Dat)

namespace Cert.Reference3Ideal.Value

open Cert.Reference3Ideal Cert.Reference3Ideal.Gen Cert.Reference3Ideal.Read Cert.Rows

variable (x0 : FVec Ideal S2x8192x1024 .f32) (x1 : FVec Ideal S1024 .f32) (x2 : FVec Ideal S1024x6400 .f32)

/-- Lane `j` of the projection of the normalised row at batch entry `b`, position `t`. -/
def proj (b : Fin 2) (t : Fin 8192) (j : Fin 6400) : EReal :=
  lin (rms (fun k => x0 (ix3 b t k)) (fun k => x1 (ix1 k))) (fun k l => x2 (ix2 k l)) j

/-- The factor of the scores. -/
def factor : EReal := Ideal.ofBits FTy.f32 0x3E000000#32

theorem proj_apply (b : Fin 2) (t : Fin 8192) (j : Fin 6400) : val_main_v13 (F := Ideal) x0 x1 x2 (ix3 b t j) = proj x0 x1 x2 b t j := by
  unfold proj lin rms
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]

theorem q_apply (n : Fin 16384) (j : Fin 768) : val_main_v47 (F := Ideal) x0 x1 x2 (ix2 n j)
    = proj x0 x1 x2 ⟨n / 8192, by omega⟩ ⟨n % 8192, by omega⟩ ⟨0 + j, by omega⟩ * factor := by
  unfold factor
  rw [← proj_apply]
  pointwise [val_main_v47, val_main_v46, val_main_v45, val_main_cst_4, val_main_v14]

theorem k_apply (n : Fin 16384) (j : Fin 768) : val_main_v48 (F := Ideal) x0 x1 x2 (ix2 n j)
    = proj x0 x1 x2 ⟨n / 8192, by omega⟩ ⟨n % 8192, by omega⟩ ⟨768 + j, by omega⟩ := by
  rw [← proj_apply]
  pointwise [val_main_v48, val_main_v15]

theorem v_apply (n : Fin 16384) (j : Fin 768) : val_main_v49 (F := Ideal) x0 x1 x2 (ix2 n j)
    = proj x0 x1 x2 ⟨n / 8192, by omega⟩ ⟨n % 8192, by omega⟩ ⟨1536 + j, by omega⟩ := by
  rw [← proj_apply]
  pointwise [val_main_v49, val_main_v16]

theorem z_apply (b : Fin 2) (t : Fin 8192) (j : Fin 1024) : val_main_v44 (F := Ideal) x0 x1 x2 (ix3 b t j)
    = proj x0 x1 x2 b t ⟨2304 + j, by omega⟩ * Ideal.logistic (proj x0 x1 x2 b t ⟨3328 + j, by omega⟩) := by
  rw [← proj_apply, ← proj_apply]
  unfold Ideal.logistic
  pointwise [val_main_v44, val_main_v43, val_main_v42, val_main_cst_3, val_main_v41, val_main_v40, val_main_cst_2, val_main_v39, val_main_v38, val_main_v37, val_main_v36, val_main_v17]
  have e : (⟨2304 + (1024 + j), by omega⟩ : Fin 6400) = ⟨3328 + j, by omega⟩ := Fin.ext (by show 2304 + (1024 + j.val) = 3328 + j.val; omega)
  rw [e]

theorem gates_apply (n : Fin 16384) (j : Fin 2048) : val_main_v56 (F := Ideal) x0 x1 x2 (ix2 n j)
    = Ideal.logistic (proj x0 x1 x2 ⟨n / 8192, by omega⟩ ⟨n % 8192, by omega⟩ ⟨4352 + j, by omega⟩) := by
  rw [← proj_apply]
  unfold Ideal.logistic
  pointwise [val_main_v56, val_main_v55, val_main_v54, val_main_cst_6, val_main_v53, val_main_v52, val_main_cst_5, val_main_v51, val_main_v50, val_main_v18]

theorem conv_apply (b : Fin 2) (t : Fin 30) (j : Fin 1024) : val_main_v57 (F := Ideal) x0 x1 x2 (ix3 b t j)
    = proj x0 x1 x2 b ⟨8162 + t, by omega⟩ ⟨2304 + j, by omega⟩ * Ideal.logistic (proj x0 x1 x2 b ⟨8162 + t, by omega⟩ ⟨3328 + j, by omega⟩) := by
  refine Eq.trans ?_ (z_apply x0 x1 x2 b ⟨8162 + t, by omega⟩ j)
  pointwise [val_main_v57]

theorem kh_apply (b : Fin 2) (t : Fin 8192) (h : Fin 12) (d : Fin 64) : val_main_v19 (F := Ideal) x0 x1 x2 (ix4 b t h d)
    = proj x0 x1 x2 b t ⟨768 + (h * 64 + d), by omega⟩ := by
  rw [← proj_apply]
  pointwise [val_main_v19, val_main_v15]

theorem vh_apply (b : Fin 2) (t : Fin 8192) (h : Fin 12) (d : Fin 64) : val_main_v20 (F := Ideal) x0 x1 x2 (ix4 b t h d)
    = proj x0 x1 x2 b t ⟨1536 + (h * 64 + d), by omega⟩ := by
  rw [← proj_apply]
  pointwise [val_main_v20, val_main_v16]

theorem proj_congr {b b' : Fin 2} {t t' : Fin 8192} {j j' : Fin 6400} (hb : b.val = b'.val) (ht : t.val = t'.val) (hj : j.val = j'.val) :
    proj x0 x1 x2 b t j = proj x0 x1 x2 b' t' j' := by
  obtain rfl := Fin.ext hb
  obtain rfl := Fin.ext ht
  obtain rfl := Fin.ext hj
  rfl

theorem kv0_apply (b : Fin 2) (t : Fin 128) (k : Fin 2) (h : Fin 4) (d : Fin 64) : val_main_v25 (F := Ideal) x0 x1 x2 (ix5 b t k h d)
    = if (k : ℕ) < 1 then proj x0 x1 x2 b ⟨8064 + t, by omega⟩ ⟨768 + (h * 64 + d), by omega⟩ else proj x0 x1 x2 b ⟨8064 + t, by omega⟩ ⟨1536 + (h * 64 + d), by omega⟩ := by
  pointwise [val_main_v21, val_main_v22, val_main_v23, val_main_v24, val_main_v25]
  simp only [kh_apply, vh_apply]
  by_cases a : (k : ℕ) < 1
  · refine (dif_pos a).trans (Eq.trans ?_ (if_pos a).symm)
    exact proj_congr x0 x1 x2 rfl rfl (by first | rfl | (simp only []; omega))
  · refine (dif_neg a).trans (Eq.trans ?_ (if_neg a).symm)
    exact proj_congr x0 x1 x2 rfl rfl (by first | rfl | (simp only []; omega))

theorem kv1_apply (b : Fin 2) (t : Fin 512) (k : Fin 2) (h : Fin 4) (d : Fin 64) : val_main_v30 (F := Ideal) x0 x1 x2 (ix5 b t k h d)
    = if (k : ℕ) < 1 then proj x0 x1 x2 b ⟨7680 + t, by omega⟩ ⟨1024 + (h * 64 + d), by omega⟩ else proj x0 x1 x2 b ⟨7680 + t, by omega⟩ ⟨1792 + (h * 64 + d), by omega⟩ := by
  pointwise [val_main_v26, val_main_v27, val_main_v28, val_main_v29, val_main_v30]
  simp only [kh_apply, vh_apply]
  by_cases a : (k : ℕ) < 1
  · refine (dif_pos a).trans (Eq.trans ?_ (if_pos a).symm)
    exact proj_congr x0 x1 x2 rfl rfl (by first | rfl | (simp only []; omega))
  · refine (dif_neg a).trans (Eq.trans ?_ (if_neg a).symm)
    exact proj_congr x0 x1 x2 rfl rfl (by first | rfl | (simp only []; omega))

theorem kv2_apply (b : Fin 2) (t : Fin 2048) (k : Fin 2) (h : Fin 4) (d : Fin 64) : val_main_v35 (F := Ideal) x0 x1 x2 (ix5 b t k h d)
    = if (k : ℕ) < 1 then proj x0 x1 x2 b ⟨6144 + t, by omega⟩ ⟨1280 + (h * 64 + d), by omega⟩ else proj x0 x1 x2 b ⟨6144 + t, by omega⟩ ⟨2048 + (h * 64 + d), by omega⟩ := by
  pointwise [val_main_v31, val_main_v32, val_main_v33, val_main_v34, val_main_v35]
  simp only [kh_apply, vh_apply]
  by_cases a : (k : ℕ) < 1
  · refine (dif_pos a).trans (Eq.trans ?_ (if_pos a).symm)
    exact proj_congr x0 x1 x2 rfl rfl (by first | rfl | (simp only []; omega))
  · refine (dif_neg a).trans (Eq.trans ?_ (if_neg a).symm)
    exact proj_congr x0 x1 x2 rfl rfl (by first | rfl | (simp only []; omega))

/-- The result `q` whole. -/
def qWhole : (⟨S16384x768, .f32⟩ : BufTy).Contents (Elt Ideal) := fun i =>
  (fun (n : Fin 16384) (j : Fin 768) => proj x0 x1 x2 ⟨n / 8192, by omega⟩ ⟨n % 8192, by omega⟩ ⟨0 + j, by omega⟩ * factor) (i 0) (i 1)

theorem q_whole {y0 : FVec Ideal S2x8192x1024 .f32} {y1 : FVec Ideal S1024 .f32} {y2 : FVec Ideal S1024x6400 .f32} (h0 : x0 = y0) (h1 : x1 = y1) (h2 : x2 = y2) :
    val_main_v47 (F := Ideal) x0 x1 x2 = qWhole y0 y1 y2 := by
  subst h0 h1 h2
  funext i
  obtain ⟨n, j, rfl⟩ : ∃ (n : Fin 16384) (j : Fin 768), i = ix2 n j := ⟨i 0, i 1, by funext a; fin_cases a <;> rfl⟩
  exact q_apply x0 x1 x2 n j

/-- The result `k` whole. -/
def kWhole : (⟨S16384x768, .f32⟩ : BufTy).Contents (Elt Ideal) := fun i =>
  (fun (n : Fin 16384) (j : Fin 768) => proj x0 x1 x2 ⟨n / 8192, by omega⟩ ⟨n % 8192, by omega⟩ ⟨768 + j, by omega⟩) (i 0) (i 1)

theorem k_whole {y0 : FVec Ideal S2x8192x1024 .f32} {y1 : FVec Ideal S1024 .f32} {y2 : FVec Ideal S1024x6400 .f32} (h0 : x0 = y0) (h1 : x1 = y1) (h2 : x2 = y2) :
    val_main_v48 (F := Ideal) x0 x1 x2 = kWhole y0 y1 y2 := by
  subst h0 h1 h2
  funext i
  obtain ⟨n, j, rfl⟩ : ∃ (n : Fin 16384) (j : Fin 768), i = ix2 n j := ⟨i 0, i 1, by funext a; fin_cases a <;> rfl⟩
  exact k_apply x0 x1 x2 n j

/-- The result `v` whole. -/
def vWhole : (⟨S16384x768, .f32⟩ : BufTy).Contents (Elt Ideal) := fun i =>
  (fun (n : Fin 16384) (j : Fin 768) => proj x0 x1 x2 ⟨n / 8192, by omega⟩ ⟨n % 8192, by omega⟩ ⟨1536 + j, by omega⟩) (i 0) (i 1)

theorem v_whole {y0 : FVec Ideal S2x8192x1024 .f32} {y1 : FVec Ideal S1024 .f32} {y2 : FVec Ideal S1024x6400 .f32} (h0 : x0 = y0) (h1 : x1 = y1) (h2 : x2 = y2) :
    val_main_v49 (F := Ideal) x0 x1 x2 = vWhole y0 y1 y2 := by
  subst h0 h1 h2
  funext i
  obtain ⟨n, j, rfl⟩ : ∃ (n : Fin 16384) (j : Fin 768), i = ix2 n j := ⟨i 0, i 1, by funext a; fin_cases a <;> rfl⟩
  exact v_apply x0 x1 x2 n j

/-- The result `z` whole. -/
def zWhole : (⟨S2x8192x1024, .f32⟩ : BufTy).Contents (Elt Ideal) := fun i =>
  (fun (b : Fin 2) (t : Fin 8192) (j : Fin 1024) => proj x0 x1 x2 b t ⟨2304 + j, by omega⟩ * Ideal.logistic (proj x0 x1 x2 b t ⟨3328 + j, by omega⟩)) (i 0) (i 1) (i 2)

theorem z_whole {y0 : FVec Ideal S2x8192x1024 .f32} {y1 : FVec Ideal S1024 .f32} {y2 : FVec Ideal S1024x6400 .f32} (h0 : x0 = y0) (h1 : x1 = y1) (h2 : x2 = y2) :
    val_main_v44 (F := Ideal) x0 x1 x2 = zWhole y0 y1 y2 := by
  subst h0 h1 h2
  funext i
  obtain ⟨b, t, j, rfl⟩ : ∃ (b : Fin 2) (t : Fin 8192) (j : Fin 1024), i = ix3 b t j := ⟨i 0, i 1, i 2, by funext a; fin_cases a <;> rfl⟩
  exact z_apply x0 x1 x2 b t j

/-- The result `gates` whole. -/
def gatesWhole : (⟨S16384x2048, .f32⟩ : BufTy).Contents (Elt Ideal) := fun i =>
  (fun (n : Fin 16384) (j : Fin 2048) => Ideal.logistic (proj x0 x1 x2 ⟨n / 8192, by omega⟩ ⟨n % 8192, by omega⟩ ⟨4352 + j, by omega⟩)) (i 0) (i 1)

theorem gates_whole {y0 : FVec Ideal S2x8192x1024 .f32} {y1 : FVec Ideal S1024 .f32} {y2 : FVec Ideal S1024x6400 .f32} (h0 : x0 = y0) (h1 : x1 = y1) (h2 : x2 = y2) :
    val_main_v56 (F := Ideal) x0 x1 x2 = gatesWhole y0 y1 y2 := by
  subst h0 h1 h2
  funext i
  obtain ⟨n, j, rfl⟩ : ∃ (n : Fin 16384) (j : Fin 2048), i = ix2 n j := ⟨i 0, i 1, by funext a; fin_cases a <;> rfl⟩
  exact gates_apply x0 x1 x2 n j

/-- The result `kv0` whole. -/
def kv0Whole : (⟨S2x128x2x4x64, .f32⟩ : BufTy).Contents (Elt Ideal) := fun i =>
  (fun (b : Fin 2) (t : Fin 128) (k : Fin 2) (h : Fin 4) (d : Fin 64) => if (k : ℕ) < 1 then proj x0 x1 x2 b ⟨8064 + t, by omega⟩ ⟨768 + (h * 64 + d), by omega⟩ else proj x0 x1 x2 b ⟨8064 + t, by omega⟩ ⟨1536 + (h * 64 + d), by omega⟩) (i 0) (i 1) (i 2) (i 3) (i 4)

theorem kv0_whole {y0 : FVec Ideal S2x8192x1024 .f32} {y1 : FVec Ideal S1024 .f32} {y2 : FVec Ideal S1024x6400 .f32} (h0 : x0 = y0) (h1 : x1 = y1) (h2 : x2 = y2) :
    val_main_v25 (F := Ideal) x0 x1 x2 = kv0Whole y0 y1 y2 := by
  subst h0 h1 h2
  funext i
  obtain ⟨b, t, k, h, d, rfl⟩ : ∃ (b : Fin 2) (t : Fin 128) (k : Fin 2) (h : Fin 4) (d : Fin 64), i = ix5 b t k h d := ⟨i 0, i 1, i 2, i 3, i 4, by funext a; fin_cases a <;> rfl⟩
  exact kv0_apply x0 x1 x2 b t k h d

/-- The result `kv1` whole. -/
def kv1Whole : (⟨S2x512x2x4x64, .f32⟩ : BufTy).Contents (Elt Ideal) := fun i =>
  (fun (b : Fin 2) (t : Fin 512) (k : Fin 2) (h : Fin 4) (d : Fin 64) => if (k : ℕ) < 1 then proj x0 x1 x2 b ⟨7680 + t, by omega⟩ ⟨1024 + (h * 64 + d), by omega⟩ else proj x0 x1 x2 b ⟨7680 + t, by omega⟩ ⟨1792 + (h * 64 + d), by omega⟩) (i 0) (i 1) (i 2) (i 3) (i 4)

theorem kv1_whole {y0 : FVec Ideal S2x8192x1024 .f32} {y1 : FVec Ideal S1024 .f32} {y2 : FVec Ideal S1024x6400 .f32} (h0 : x0 = y0) (h1 : x1 = y1) (h2 : x2 = y2) :
    val_main_v30 (F := Ideal) x0 x1 x2 = kv1Whole y0 y1 y2 := by
  subst h0 h1 h2
  funext i
  obtain ⟨b, t, k, h, d, rfl⟩ : ∃ (b : Fin 2) (t : Fin 512) (k : Fin 2) (h : Fin 4) (d : Fin 64), i = ix5 b t k h d := ⟨i 0, i 1, i 2, i 3, i 4, by funext a; fin_cases a <;> rfl⟩
  exact kv1_apply x0 x1 x2 b t k h d

/-- The result `kv2` whole. -/
def kv2Whole : (⟨S2x2048x2x4x64, .f32⟩ : BufTy).Contents (Elt Ideal) := fun i =>
  (fun (b : Fin 2) (t : Fin 2048) (k : Fin 2) (h : Fin 4) (d : Fin 64) => if (k : ℕ) < 1 then proj x0 x1 x2 b ⟨6144 + t, by omega⟩ ⟨1280 + (h * 64 + d), by omega⟩ else proj x0 x1 x2 b ⟨6144 + t, by omega⟩ ⟨2048 + (h * 64 + d), by omega⟩) (i 0) (i 1) (i 2) (i 3) (i 4)

theorem kv2_whole {y0 : FVec Ideal S2x8192x1024 .f32} {y1 : FVec Ideal S1024 .f32} {y2 : FVec Ideal S1024x6400 .f32} (h0 : x0 = y0) (h1 : x1 = y1) (h2 : x2 = y2) :
    val_main_v35 (F := Ideal) x0 x1 x2 = kv2Whole y0 y1 y2 := by
  subst h0 h1 h2
  funext i
  obtain ⟨b, t, k, h, d, rfl⟩ : ∃ (b : Fin 2) (t : Fin 2048) (k : Fin 2) (h : Fin 4) (d : Fin 64), i = ix5 b t k h d := ⟨i 0, i 1, i 2, i 3, i 4, by funext a; fin_cases a <;> rfl⟩
  exact kv2_apply x0 x1 x2 b t k h d

/-- The result `conv` whole. -/
def convWhole : (⟨S2x30x1024, .f32⟩ : BufTy).Contents (Elt Ideal) := fun i =>
  (fun (b : Fin 2) (t : Fin 30) (j : Fin 1024) => proj x0 x1 x2 b ⟨8162 + t, by omega⟩ ⟨2304 + j, by omega⟩ * Ideal.logistic (proj x0 x1 x2 b ⟨8162 + t, by omega⟩ ⟨3328 + j, by omega⟩)) (i 0) (i 1) (i 2)

theorem conv_whole {y0 : FVec Ideal S2x8192x1024 .f32} {y1 : FVec Ideal S1024 .f32} {y2 : FVec Ideal S1024x6400 .f32} (h0 : x0 = y0) (h1 : x1 = y1) (h2 : x2 = y2) :
    val_main_v57 (F := Ideal) x0 x1 x2 = convWhole y0 y1 y2 := by
  subst h0 h1 h2
  funext i
  obtain ⟨b, t, j, rfl⟩ : ∃ (b : Fin 2) (t : Fin 30) (j : Fin 1024), i = ix3 b t j := ⟨i 0, i 1, i 2, by funext a; fin_cases a <;> rfl⟩
  exact conv_apply x0 x1 x2 b t j

end Cert.Reference3Ideal.Value

end

end
-- ==== Proof.InprojBoth.lean ====
/- The opening call and its reference, entry against entry. -/
module

public import proofs.«01_k».proof.Defs
public import proofs.«01_k».proof.Proof.InprojTail
public import proofs.«01_k».proof.Proof.InprojRef
public import proofs.«01_k».proof.Proof.Gen.Reference3Ideal.Run
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Rows

section

variable (m : (ℓ : Loc nD τ sig) → Buf (Elt Ideal) ℓ) (c : Dev nD)

theorem qLeft : Pipeline.afterTail₀ cfgs (dats m) 0 (V0 m) [hostOps1] c main_v10 = Cert.Reference3Ideal.Value.qWhole (m ((c : Thread nD τ).loc main_arg0)) (m ((c : Thread nD τ).loc main_arg1)) (m ((c : Thread nD τ).loc main_arg2)) := by
  funext i
  obtain ⟨n, j, rfl⟩ : ∃ (n : Fin 16384) (j : Fin 768), i = ix2 n j := ⟨i 0, i 1, by funext a; fin_cases a <;> rfl⟩
  exact tail10 m c n j

theorem kLeft : Pipeline.afterTail₀ cfgs (dats m) 0 (V0 m) [hostOps1] c main_v17 = Cert.Reference3Ideal.Value.kWhole (m ((c : Thread nD τ).loc main_arg0)) (m ((c : Thread nD τ).loc main_arg1)) (m ((c : Thread nD τ).loc main_arg2)) := by
  funext i
  obtain ⟨n, j, rfl⟩ : ∃ (n : Fin 16384) (j : Fin 768), i = ix2 n j := ⟨i 0, i 1, by funext a; fin_cases a <;> rfl⟩
  exact tail17 m c n j

theorem vLeft : Pipeline.afterTail₀ cfgs (dats m) 0 (V0 m) [hostOps1] c main_v24 = Cert.Reference3Ideal.Value.vWhole (m ((c : Thread nD τ).loc main_arg0)) (m ((c : Thread nD τ).loc main_arg1)) (m ((c : Thread nD τ).loc main_arg2)) := by
  funext i
  obtain ⟨n, j, rfl⟩ : ∃ (n : Fin 16384) (j : Fin 768), i = ix2 n j := ⟨i 0, i 1, by funext a; fin_cases a <;> rfl⟩
  exact tail24 m c n j

theorem zLeft : Pipeline.afterTail₀ cfgs (dats m) 0 (V0 m) [hostOps1] c main_v70 = Cert.Reference3Ideal.Value.zWhole (m ((c : Thread nD τ).loc main_arg0)) (m ((c : Thread nD τ).loc main_arg1)) (m ((c : Thread nD τ).loc main_arg2)) := by
  funext i
  obtain ⟨b, t, j, rfl⟩ : ∃ (b : Fin 2) (t : Fin 8192) (j : Fin 1024), i = ix3 b t j := ⟨i 0, i 1, i 2, by funext a; fin_cases a <;> rfl⟩
  exact tail70 m c b t j

theorem gatesLeft : (dats m 0 c).arrAt 13 cfg0.N = Cert.Reference3Ideal.Value.gatesWhole (m ((c : Thread nD τ).loc main_arg0)) (m ((c : Thread nD τ).loc main_arg1)) (m ((c : Thread nD τ).loc main_arg2)) :=
  (final13 m c).trans rfl

theorem kv0Left : Pipeline.afterTail₀ cfgs (dats m) 0 (V0 m) [hostOps1] c main_v39 = Cert.Reference3Ideal.Value.kv0Whole (m ((c : Thread nD τ).loc main_arg0)) (m ((c : Thread nD τ).loc main_arg1)) (m ((c : Thread nD τ).loc main_arg2)) := by
  funext i
  obtain ⟨b, t, k, h, d, rfl⟩ : ∃ (b : Fin 2) (t : Fin 128) (k : Fin 2) (h : Fin 4) (d : Fin 64), i = ix5 b t k h d := ⟨i 0, i 1, i 2, i 3, i 4, by funext a; fin_cases a <;> rfl⟩
  exact tail39 m c b t k h d

theorem kv1Left : Pipeline.afterTail₀ cfgs (dats m) 0 (V0 m) [hostOps1] c main_v54 = Cert.Reference3Ideal.Value.kv1Whole (m ((c : Thread nD τ).loc main_arg0)) (m ((c : Thread nD τ).loc main_arg1)) (m ((c : Thread nD τ).loc main_arg2)) := by
  funext i
  obtain ⟨b, t, k, h, d, rfl⟩ : ∃ (b : Fin 2) (t : Fin 512) (k : Fin 2) (h : Fin 4) (d : Fin 64), i = ix5 b t k h d := ⟨i 0, i 1, i 2, i 3, i 4, by funext a; fin_cases a <;> rfl⟩
  exact tail54 m c b t k h d

theorem kv2Left : Pipeline.afterTail₀ cfgs (dats m) 0 (V0 m) [hostOps1] c main_v69 = Cert.Reference3Ideal.Value.kv2Whole (m ((c : Thread nD τ).loc main_arg0)) (m ((c : Thread nD τ).loc main_arg1)) (m ((c : Thread nD τ).loc main_arg2)) := by
  funext i
  obtain ⟨b, t, k, h, d, rfl⟩ : ∃ (b : Fin 2) (t : Fin 2048) (k : Fin 2) (h : Fin 4) (d : Fin 64), i = ix5 b t k h d := ⟨i 0, i 1, i 2, i 3, i 4, by funext a; fin_cases a <;> rfl⟩
  exact tail69 m c b t k h d

theorem convLeft : Pipeline.afterTail₀ cfgs (dats m) 0 (V0 m) [hostOps1] c main_v71 = Cert.Reference3Ideal.Value.convWhole (m ((c : Thread nD τ).loc main_arg0)) (m ((c : Thread nD τ).loc main_arg1)) (m ((c : Thread nD τ).loc main_arg2)) := by
  funext i
  obtain ⟨b, t, j, rfl⟩ : ∃ (b : Fin 2) (t : Fin 30) (j : Fin 1024), i = ix3 b t j := ⟨i 0, i 1, i 2, by funext a; fin_cases a <;> rfl⟩
  exact tail71 m c b t j

end

attribute [local instance] Cert.Kernel3Ideal.Gen.facts Cert.Reference3Ideal.Gen.facts

/-- Both programs end with the same projections, gates and tails. -/
theorem algebraic : Cert.algebraic_Kernel3Ideal_Reference3Ideal := by
  intro m g m' g' hpre hagree
  refine ⟨fun c => Cert.Reference3Ideal.Value.qWhole (m ((c : Thread nD τ).loc main_arg0)) (m ((c : Thread nD τ).loc main_arg1)) (m ((c : Thread nD τ).loc main_arg2)), fun c => Cert.Reference3Ideal.Value.kWhole (m ((c : Thread nD τ).loc main_arg0)) (m ((c : Thread nD τ).loc main_arg1)) (m ((c : Thread nD τ).loc main_arg2)), fun c => Cert.Reference3Ideal.Value.vWhole (m ((c : Thread nD τ).loc main_arg0)) (m ((c : Thread nD τ).loc main_arg1)) (m ((c : Thread nD τ).loc main_arg2)), fun c => Cert.Reference3Ideal.Value.zWhole (m ((c : Thread nD τ).loc main_arg0)) (m ((c : Thread nD τ).loc main_arg1)) (m ((c : Thread nD τ).loc main_arg2)), fun c => Cert.Reference3Ideal.Value.gatesWhole (m ((c : Thread nD τ).loc main_arg0)) (m ((c : Thread nD τ).loc main_arg1)) (m ((c : Thread nD τ).loc main_arg2)), fun c => Cert.Reference3Ideal.Value.kv0Whole (m ((c : Thread nD τ).loc main_arg0)) (m ((c : Thread nD τ).loc main_arg1)) (m ((c : Thread nD τ).loc main_arg2)), fun c => Cert.Reference3Ideal.Value.kv1Whole (m ((c : Thread nD τ).loc main_arg0)) (m ((c : Thread nD τ).loc main_arg1)) (m ((c : Thread nD τ).loc main_arg2)), fun c => Cert.Reference3Ideal.Value.kv2Whole (m ((c : Thread nD τ).loc main_arg0)) (m ((c : Thread nD τ).loc main_arg1)) (m ((c : Thread nD τ).loc main_arg2)), fun c => Cert.Reference3Ideal.Value.convWhole (m ((c : Thread nD τ).loc main_arg0)) (m ((c : Thread nD τ).loc main_arg1)) (m ((c : Thread nD τ).loc main_arg2)), ?_, ?_⟩
  · refine (θ_run _ _ _).mono (fun r h c => ?_) (Cert.Kernel3Ideal.Gen.run_main m g)
    have rest := fun (b : Ref sig .tc) hu hs => (h c).2 b (Pipeline.mem_restRefs_of b hu hs)
    exact ⟨(rest main_v10 (by decide) (by decide)).trans (qLeft m c),
      (rest main_v17 (by decide) (by decide)).trans (kLeft m c),
      (rest main_v24 (by decide) (by decide)).trans (vLeft m c),
      (rest main_v70 (by decide) (by decide)).trans (zLeft m c),
      ((h c).1 13).trans (gatesLeft m c),
      (rest main_v39 (by decide) (by decide)).trans (kv0Left m c),
      (rest main_v54 (by decide) (by decide)).trans (kv1Left m c),
      (rest main_v69 (by decide) (by decide)).trans (kv2Left m c),
      (rest main_v71 (by decide) (by decide)).trans (convLeft m c),
      (rest main_arg0 (by decide) (by decide)).trans (W_main_arg0 m (dats m) c),
      (rest main_arg1 (by decide) (by decide)).trans (W_main_arg1 m (dats m) c),
      (rest main_arg2 (by decide) (by decide)).trans (W_main_arg2 m (dats m) c)⟩
  · refine (θ_run _ _ _).mono (fun r h c => ?_) (Cert.Reference3Ideal.Value.run m' g')
    obtain ⟨h0, h1, h2⟩ := hagree c
    obtain ⟨r0, r1, r2, r3, r4, r5, r6, r7, r8, ra⟩ := h c
    exact ⟨r0.trans ((Cert.Reference3Ideal.Read.val_main_v47_eq _ _ _).trans (Cert.Reference3Ideal.Value.q_whole _ _ _ h0 h1 h2)),
      r1.trans ((Cert.Reference3Ideal.Read.val_main_v48_eq _ _ _).trans (Cert.Reference3Ideal.Value.k_whole _ _ _ h0 h1 h2)),
      r2.trans ((Cert.Reference3Ideal.Read.val_main_v49_eq _ _ _).trans (Cert.Reference3Ideal.Value.v_whole _ _ _ h0 h1 h2)),
      r3.trans ((Cert.Reference3Ideal.Read.val_main_v44_eq _ _ _).trans (Cert.Reference3Ideal.Value.z_whole _ _ _ h0 h1 h2)),
      r4.trans ((Cert.Reference3Ideal.Read.val_main_v56_eq _ _ _).trans (Cert.Reference3Ideal.Value.gates_whole _ _ _ h0 h1 h2)),
      r5.trans ((Cert.Reference3Ideal.Read.val_main_v25_eq _ _ _).trans (Cert.Reference3Ideal.Value.kv0_whole _ _ _ h0 h1 h2)),
      r6.trans ((Cert.Reference3Ideal.Read.val_main_v30_eq _ _ _).trans (Cert.Reference3Ideal.Value.kv1_whole _ _ _ h0 h1 h2)),
      r7.trans ((Cert.Reference3Ideal.Read.val_main_v35_eq _ _ _).trans (Cert.Reference3Ideal.Value.kv2_whole _ _ _ h0 h1 h2)),
      r8.trans ((Cert.Reference3Ideal.Read.val_main_v57_eq _ _ _).trans (Cert.Reference3Ideal.Value.conv_whole _ _ _ h0 h1 h2)),
      ra⟩

end Cert.Kernel3Ideal.Value

end

end
-- ==== Proof.SampleKernel.lean ====
/- The closing call's (on the samples) body, read row by row: what its stages compute of the blocks it loads. -/
module

public import proofs.«01_k».proof.Proof.Rows
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Rows

/-- Lane `d` of a row of two slabs of 128 lanes set side by side. -/
def wide (u v : FVec Ideal S1x128x128 .f32) (r : Fin 128) (d : Fin 256) : EReal :=
  if h : (d : ℕ) < 128 then u (ix3 0 r ⟨d, h⟩) else v (ix3 0 r ⟨d - 128, by omega⟩)

variable (v0 v2 v5 v7 v10 v12 v23 v25 v29 v31 v36 v38 : FVec Ideal S1x128x128 .f32)

theorem pay6_apply (r : Fin 128) (d : Fin 256) : k0_pay6 (F := Ideal) v0 v2 v5 v7 v10 v12 (ix2 r d)
    = Ideal.exp (wide v0 v2 r d - max (max (wide v0 v2 r d) (wide v5 v7 r d)) (wide v10 v12 r d)) := by
  pointwise [k0_pay6, k0_pay2, k0_pay5, k0_pay3, k0_pay4, wide]

theorem pay7_apply (r : Fin 128) (d : Fin 256) : k0_pay7 (F := Ideal) v0 v2 v5 v7 v10 v12 (ix2 r d)
    = Ideal.exp (wide v5 v7 r d - max (max (wide v0 v2 r d) (wide v5 v7 r d)) (wide v10 v12 r d)) := by
  pointwise [k0_pay7, k0_pay2, k0_pay5, k0_pay3, k0_pay4, wide]

theorem pay8_apply (r : Fin 128) (d : Fin 256) : k0_pay8 (F := Ideal) v0 v2 v5 v7 v10 v12 (ix2 r d)
    = Ideal.exp (wide v10 v12 r d - max (max (wide v0 v2 r d) (wide v5 v7 r d)) (wide v10 v12 r d)) := by
  pointwise [k0_pay8, k0_pay2, k0_pay5, k0_pay3, k0_pay4, wide]

theorem pay9_apply (r : Fin 128) (d : Fin 256) : k0_pay9 (F := Ideal) v0 v2 v5 v7 v10 v12 v23 v25 (ix2 r d)
    = k0_pay6 (F := Ideal) v0 v2 v5 v7 v10 v12 (ix2 r d) * wide v23 v25 r d := by
  pointwise [k0_pay9, wide]

/-- The mix of a row, from the groups' weights `w`, weighted first output `n` and the blocks. -/
theorem pay11_apply (w0 w1 w2 n : FVec Ideal S128x256 .f32) (wa : FVec Ideal S256x1024 .bf16) (c : FVec Ideal S128x1024 .f32)
    (wc : FVec Ideal S1024x1024 .bf16) (g0 g1 : FVec Ideal S128x1024 .f32) (wo : FVec Ideal S1024x1024 .bf16) (r : Fin 128) (j : Fin 1024) :
    k0_pay11 (F := Ideal) w0 w1 w2 n (k0_pay10 (F := Ideal) v29) v31 v36 v38 wa c wc g0 g1 wo (ix2 r j)
    = mixRow (fun d => Ideal.div (n (ix2 r d) + w1 (ix2 r d) * wide v29 v31 r d + w2 (ix2 r d) * wide v36 v38 r d)
          (w0 (ix2 r d) + w1 (ix2 r d) + w2 (ix2 r d)))
        (fun k => c (ix2 r k)) (fun k => g0 (ix2 r k)) (fun k => g1 (ix2 r k)) (fun d k => wa (ix2 d k))
        (fun k l => wc (ix2 k l)) (fun k l => wo (ix2 k l)) j := by
  unfold mixRow lin
  pointwise [k0_pay11, k0_pay10, wide]

theorem pay12_apply (y x : FVec Ideal S128x1024 .f32) (g : FVec Ideal S1x1024 .f32) (r : Fin 128) (j : Fin 1024) :
    k0_pay12 (F := Ideal) y x g (ix2 r j)
    = stream1 (fun k => y (ix2 r k)) (fun k => x (ix2 r k)) (fun k => g (ix2 0 k)) j := by
  pointwise [k0_pay12, stream1, rms]

theorem pay13_apply (y x : FVec Ideal S128x1024 .f32) (g n2 : FVec Ideal S1x1024 .f32) (wg wu : FVec Ideal S1024x2816 .bf16)
    (r : Fin 128) (j : Fin 2816) :
    k0_pay13 (F := Ideal) y x g n2 wg wu (ix2 r j)
    = ffHidden (fun k => k0_pay12 (F := Ideal) y x g (ix2 r k)) (fun k => n2 (ix2 0 k))
        (fun k l => wg (ix2 k l)) (fun k l => wu (ix2 k l)) j := by
  unfold ffHidden lin rms
  pointwise [k0_pay13]

theorem pay14_apply (x1 : FVec Ideal S128x1024 .f32) (h : FVec Ideal S128x2816 .bf16) (wfo : FVec Ideal S2816x1024 .bf16)
    (g : FVec Ideal S1x1024 .f32) (r : Fin 128) (j : Fin 1024) :
    k0_pay14 (F := Ideal) x1 h wfo g (ix2 r j)
    = stream1 (lin (fun k => h (ix2 r k)) fun k l => wfo (ix2 k l)) (fun k => x1 (ix2 r k)) (fun k => g (ix2 0 k)) j := by
  unfold stream1 rms lin
  pointwise [k0_pay14]

theorem pay15_apply (x1 : FVec Ideal S128x1024 .f32) (h : FVec Ideal S128x2816 .bf16) (wfo : FVec Ideal S2816x1024 .bf16)
    (g n4 : FVec Ideal S1x1024 .f32) (wpg : FVec Ideal S1024x1024 .bf16) (r : Fin 128) (j : Fin 1024) :
    k0_pay15 (F := Ideal) x1 h wfo g n4 wpg (ix2 r j)
    = pgate (fun k => k0_pay14 (F := Ideal) x1 h wfo g (ix2 r k)) (fun k => n4 (ix2 0 k)) (fun k l => wpg (ix2 k l)) j := by
  unfold pgate lin rms
  pointwise [k0_pay15]

theorem pay1_apply (x2 gate : FVec Ideal S128x1024 .f32) (p : FVec Ideal S128x256 .f32) (wpp : FVec Ideal S256x1024 .bf16)
    (r : Fin 128) (j : Fin 1024) :
    k0_pay1 (F := Ideal) x2 gate (k0_pay16 (F := Ideal) p) wpp (ix2 r j)
    = x2 (ix2 r j) + gate (ix2 r j) * lin (fun k => p (ix2 r k)) (fun k l => wpp (ix2 k l)) j := by
  unfold lin
  pointwise [k0_pay1, k0_pay16]

/-- Lane `d` of row `r` of a pair of slabs. -/
def lane (x : FVec Ideal S2x128x128 .f32) (r : Fin 128) (d : Fin 256) : EReal := x (ix3 ⟨d / 128, by omega⟩ r ⟨d % 128, by omega⟩)

theorem ld_0 (x : Vec Ideal S2x128x128 .f32) (r : Fin 128) (l : Fin 128) : View.ld x r0_0 (ix3 0 r l) = x (ix3 0 r l) := by
  exact View.ld_unit_apply_of x _ _ _ _ _ fun a => by fin_cases a <;> simp [ix2, ix3] <;> omega

theorem ld_1 (x : Vec Ideal S2x128x128 .f32) (r : Fin 128) (l : Fin 128) : View.ld x r0_1 (ix3 0 r l) = x (ix3 1 r l) := by
  exact View.ld_unit_apply_of x _ _ _ _ _ fun a => by fin_cases a <;> simp [ix2, ix3] <;> omega

theorem wide_ld (x : Vec Ideal S2x128x128 .f32) (r : Fin 128) (d : Fin 256) :
    wide (View.ld x r0_0) (View.ld x r0_1) r d = lane x r d := by
  unfold wide lane
  split
  · refine (ld_0 x r _).trans (congrArg x ?_)
    congr 1 <;> apply Fin.ext <;> simp <;> omega
  · refine (ld_1 x r _).trans (congrArg x ?_)
    congr 1 <;> apply Fin.ext <;> simp <;> omega

theorem ld_g0 (x : Vec Ideal S128x2048 .f32) (r : Fin 128) (k : Fin 1024) : View.ld x r0_5 (ix2 r k) = x (ix2 r ⟨k, by omega⟩) := by
  exact View.ld_unit_apply_of x _ _ _ _ _ fun a => by fin_cases a <;> simp [ix2, ix3] <;> omega

theorem ld_g1 (x : Vec Ideal S128x2048 .f32) (r : Fin 128) (k : Fin 1024) : View.ld x r0_6 (ix2 r k) = x (ix2 r ⟨1024 + k, by omega⟩) := by
  exact View.ld_unit_apply_of x _ _ _ _ _ fun a => by fin_cases a <;> simp [ix2, ix3] <;> omega

theorem ld_w0 (x : Vec Ideal S1024x5632 .bf16) (k : Fin 1024) (l : Fin 2816) : View.ld x r0_8 (ix2 k l) = x (ix2 k ⟨l, by omega⟩) := by
  exact View.ld_unit_apply_of x _ _ _ _ _ fun a => by fin_cases a <;> simp [ix2, ix3] <;> omega

theorem ld_w1 (x : Vec Ideal S1024x5632 .bf16) (k : Fin 1024) (l : Fin 2816) : View.ld x r0_9 (ix2 k l) = x (ix2 k ⟨2816 + l, by omega⟩) := by
  exact View.ld_unit_apply_of x _ _ _ _ _ fun a => by fin_cases a <;> simp [ix2, ix3] <;> omega

variable (x0 : FVec Ideal S128x1024 .f32) (x1 x2 x3 x4 x5 x6 : FVec Ideal S2x128x128 .f32) (x7 : FVec Ideal S128x1024 .f32) (x8 : FVec Ideal S128x2048 .f32) (x9 : FVec Ideal S128x256 .f32) (x10 : FVec Ideal S256x1024 .bf16) (x11 x12 : FVec Ideal S1024x1024 .bf16) (x13 x14 : FVec Ideal S1x1024 .f32) (x15 : FVec Ideal S1024x5632 .bf16) (x16 : FVec Ideal S2816x1024 .bf16) (x17 x18 : FVec Ideal S1x1024 .f32) (x19 : FVec Ideal S1024x1024 .bf16) (x20 : FVec Ideal S256x1024 .bf16)

/-- The mix of row `r` of the blocks. -/
theorem pay17_apply (r : Fin 128) (j : Fin 1024) :
    k0_pay17 (F := Ideal) x0 x1 x2 x3 x4 x5 x6 x7 x8 x9 x10 x11 x12 x13 x14 x15 x16 x17 x18 x19 x20 (ix2 r j)
    = mixRow (fun d => comb (lane x4 r d) (lane x5 r d) (lane x6 r d) (lane x1 r d) (lane x2 r d) (lane x3 r d))
        (fun k => x7 (ix2 r k)) (fun k => x8 (ix2 r ⟨k, by omega⟩)) (fun k => x8 (ix2 r ⟨1024 + k, by omega⟩))
        (fun d k => x10 (ix2 d k)) (fun k l => x11 (ix2 k l)) (fun k l => x12 (ix2 k l)) j := by
  unfold k0_pay17
  frame_out
  refine (pay11_apply _ _ _ _ _ _ _ _ _ _ _ _ _ _ r j).trans ?_
  simp only [pay6_apply, pay7_apply, pay8_apply, pay9_apply, wide_ld]
  exact congrArg₂ (fun g0 g1 => mixRow _ _ g0 g1 _ _ _ j) (funext (ld_g0 x8 r)) (funext (ld_g1 x8 r))

/-- The stream of row `r` after the mixing part. -/
theorem pay18_apply (r : Fin 128) (j : Fin 1024) :
    k0_pay18 (F := Ideal) x0 x1 x2 x3 x4 x5 x6 x7 x8 x9 x10 x11 x12 x13 x14 x15 x16 x17 x18 x19 x20 (ix2 r j)
    = stream1 (fun k => k0_pay17 (F := Ideal) x0 x1 x2 x3 x4 x5 x6 x7 x8 x9 x10 x11 x12 x13 x14 x15 x16 x17 x18 x19 x20 (ix2 r k)) (fun k => x0 (ix2 r k)) (fun k => x13 (ix2 0 k)) j := by
  unfold k0_pay18
  frame_out
  exact pay12_apply _ _ _ r j

/-- The hidden row `r` of the feed-forward part. -/
theorem pay19_apply (r : Fin 128) (j : Fin 2816) :
    k0_pay19 (F := Ideal) x0 x1 x2 x3 x4 x5 x6 x7 x8 x9 x10 x11 x12 x13 x14 x15 x16 x17 x18 x19 x20 (ix2 r j)
    = ffHidden (fun k => k0_pay18 (F := Ideal) x0 x1 x2 x3 x4 x5 x6 x7 x8 x9 x10 x11 x12 x13 x14 x15 x16 x17 x18 x19 x20 (ix2 r k)) (fun k => x14 (ix2 0 k))
        (fun k l => x15 (ix2 k ⟨l, by omega⟩)) (fun k l => x15 (ix2 k ⟨2816 + l, by omega⟩)) j := by
  unfold k0_pay19 k0_pay18
  frame_out
  refine (pay13_apply _ _ _ _ _ _ r j).trans ?_
  exact congrArg₂ (fun wg wu => ffHidden _ _ wg wu j) (funext fun k => funext (ld_w0 x15 k)) (funext fun k => funext (ld_w1 x15 k))

/-- Row `r` of the block the body stores. -/
theorem out_apply (r : Fin 128) (j : Fin 1024) :
    k0_pay1 (F := Ideal) (k0_pay14 (k0_pay18 x0 x1 x2 x3 x4 x5 x6 x7 x8 x9 x10 x11 x12 x13 x14 x15 x16 x17 x18 x19 x20) (k0_pay19 x0 x1 x2 x3 x4 x5 x6 x7 x8 x9 x10 x11 x12 x13 x14 x15 x16 x17 x18 x19 x20) x16 x17)
      (k0_pay15 (k0_pay18 x0 x1 x2 x3 x4 x5 x6 x7 x8 x9 x10 x11 x12 x13 x14 x15 x16 x17 x18 x19 x20) (k0_pay19 x0 x1 x2 x3 x4 x5 x6 x7 x8 x9 x10 x11 x12 x13 x14 x15 x16 x17 x18 x19 x20) x16 x17 x18 x19) (k0_pay16 x9) x20 (ix2 r j)
    = postRow (fun d => comb (lane x4 r d) (lane x5 r d) (lane x6 r d) (lane x1 r d) (lane x2 r d) (lane x3 r d))
        (fun k => x0 (ix2 r k)) (fun k => x7 (ix2 r k)) (fun k => x8 (ix2 r ⟨k, by omega⟩)) (fun k => x8 (ix2 r ⟨1024 + k, by omega⟩))
        (fun k => x9 (ix2 r k)) (fun d k => x10 (ix2 d k)) (fun k l => x11 (ix2 k l)) (fun k l => x12 (ix2 k l))
        (fun k => x13 (ix2 0 k)) (fun k => x14 (ix2 0 k))
        (fun k l => x15 (ix2 k ⟨l, by omega⟩)) (fun k l => x15 (ix2 k ⟨2816 + l, by omega⟩)) (fun k l => x16 (ix2 k l))
        (fun k => x17 (ix2 0 k)) (fun k => x18 (ix2 0 k)) (fun k l => x19 (ix2 k l)) (fun k l => x20 (ix2 k l)) j := by
  rw [pay1_apply, pay15_apply]
  simp only [pay14_apply, pay19_apply, pay18_apply, pay17_apply]
  rfl

end Cert.Kernel4Ideal.Value

end

end
-- ==== Proof.SampleBlocks.lean ====
/- The closing call's (on the samples) blocks as entries of its arguments. -/
module

public import proofs.«01_k».proof.Proof.SampleKernel

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Rows

variable (m : (ℓ : Loc nD τ sig) → Buf (Elt Ideal) ℓ) (c : Dev nD)

/-- The batch entry of a row of the flattened batch. -/
def bOf (n : Fin 128) : Fin 128 := n
/-- The position of a row of the flattened batch within its batch entry. -/
def tOf (n : Fin 128) : Fin 1 := 0

theorem e_x (n : Fin 128) (k : Fin 1024) : V m c main_v11 (ix2 n k) = m ((c : Thread nD τ).loc main_arg0) (ix3 (bOf n) (tOf n) k) := by
  entry_read; pointwise [bOf, tOf]

theorem e_o0 (s : Fin 2) (n : Fin 128) (l : Fin 128) : V m c main_v13 (ix3 s n l)
    = m ((c : Thread nD τ).loc main_arg1) (ix4 (bOf n) (tOf n) ⟨(128 * s + l) / 64, by omega⟩ ⟨(128 * s + l) % 64, by omega⟩) := by
  entry_read; pointwise [bOf, tOf]
  refine congrArg (m ((c : Thread nD τ).loc main_arg1)) ?_
  refine congrArg₂ (ix4 _ _) (Fin.ext ?_) (Fin.ext ?_) <;> simp only [] <;> omega

theorem e_o1 (s : Fin 2) (n : Fin 128) (l : Fin 128) : V m c main_v15 (ix3 s n l)
    = m ((c : Thread nD τ).loc main_arg2) (ix4 (bOf n) (tOf n) ⟨(128 * s + l) / 64, by omega⟩ ⟨(128 * s + l) % 64, by omega⟩) := by
  entry_read; pointwise [bOf, tOf]
  refine congrArg (m ((c : Thread nD τ).loc main_arg2)) ?_
  refine congrArg₂ (ix4 _ _) (Fin.ext ?_) (Fin.ext ?_) <;> simp only [] <;> omega

theorem e_o2 (s : Fin 2) (n : Fin 128) (l : Fin 128) : V m c main_v17 (ix3 s n l)
    = m ((c : Thread nD τ).loc main_arg3) (ix4 (bOf n) (tOf n) ⟨(128 * s + l) / 64, by omega⟩ ⟨(128 * s + l) % 64, by omega⟩) := by
  entry_read; pointwise [bOf, tOf]
  refine congrArg (m ((c : Thread nD τ).loc main_arg3)) ?_
  refine congrArg₂ (ix4 _ _) (Fin.ext ?_) (Fin.ext ?_) <;> simp only [] <;> omega

theorem e_l0 (s : Fin 2) (n : Fin 128) (l : Fin 128) : V m c main_v21 (ix3 s n l)
    = m ((c : Thread nD τ).loc main_arg4) (ix3 (bOf n) (tOf n) ⟨(128 * s + l) / 64, by omega⟩) := by
  entry_read; pointwise [bOf, tOf]
  refine congrArg (m ((c : Thread nD τ).loc main_arg4)) ?_
  refine congrArg (ix3 _ _) (Fin.ext ?_); simp only []; omega

theorem e_l1 (s : Fin 2) (n : Fin 128) (l : Fin 128) : V m c main_v25 (ix3 s n l)
    = m ((c : Thread nD τ).loc main_arg5) (ix3 (bOf n) (tOf n) ⟨(128 * s + l) / 64, by omega⟩) := by
  entry_read; pointwise [bOf, tOf]
  refine congrArg (m ((c : Thread nD τ).loc main_arg5)) ?_
  refine congrArg (ix3 _ _) (Fin.ext ?_); simp only []; omega

theorem e_l2 (s : Fin 2) (n : Fin 128) (l : Fin 128) : V m c main_v29 (ix3 s n l)
    = m ((c : Thread nD τ).loc main_arg6) (ix3 (bOf n) (tOf n) ⟨(128 * s + l) / 64, by omega⟩) := by
  entry_read; pointwise [bOf, tOf]
  refine congrArg (m ((c : Thread nD τ).loc main_arg6)) ?_
  refine congrArg (ix3 _ _) (Fin.ext ?_); simp only []; omega

theorem e_c (n : Fin 128) (k : Fin 1024) : V m c main_v30 (ix2 n k) = m ((c : Thread nD τ).loc main_arg7) (ix3 (bOf n) (tOf n) k) := by
  entry_read; pointwise [bOf, tOf]

theorem e_g (n : Fin 128) (k : Fin 2048) : V m c main_v31 (ix2 n k) = m ((c : Thread nD τ).loc main_arg8) (ix3 (bOf n) (tOf n) k) := by
  entry_read; pointwise [bOf, tOf]

theorem e_p (n : Fin 128) (k : Fin 256) : V m c main_v32 (ix2 n k) = m ((c : Thread nD τ).loc main_arg9) (ix3 (bOf n) (tOf n) k) := by
  entry_read; pointwise [bOf, tOf]

theorem e_wa (k : Fin 256) (j : Fin 1024) : V m c main_v0 (ix2 k j) = m ((c : Thread nD τ).loc main_arg10) (ix2 k j) := by
  entry_read; pointwise

theorem e_wc (k : Fin 1024) (j : Fin 1024) : V m c main_v1 (ix2 k j) = m ((c : Thread nD τ).loc main_arg11) (ix2 k j) := by
  entry_read; pointwise

theorem e_wo (k : Fin 1024) (j : Fin 1024) : V m c main_v2 (ix2 k j) = m ((c : Thread nD τ).loc main_arg12) (ix2 k j) := by
  entry_read; pointwise

theorem e_n1 (j : Fin 1024) : V m c main_v3 (ix2 0 j) = m ((c : Thread nD τ).loc main_arg13) (ix1 j) := by
  entry_read; pointwise

theorem e_n2 (j : Fin 1024) : V m c main_v4 (ix2 0 j) = m ((c : Thread nD τ).loc main_arg14) (ix1 j) := by
  entry_read; pointwise

theorem e_wfi (k : Fin 1024) (j : Fin 5632) : V m c main_v5 (ix2 k j) = m ((c : Thread nD τ).loc main_arg15) (ix2 k j) := by
  entry_read; pointwise

theorem e_wfo (k : Fin 2816) (j : Fin 1024) : V m c main_v6 (ix2 k j) = m ((c : Thread nD τ).loc main_arg16) (ix2 k j) := by
  entry_read; pointwise

theorem e_n3 (j : Fin 1024) : V m c main_v7 (ix2 0 j) = m ((c : Thread nD τ).loc main_arg17) (ix1 j) := by
  entry_read; pointwise

theorem e_n4 (j : Fin 1024) : V m c main_v8 (ix2 0 j) = m ((c : Thread nD τ).loc main_arg18) (ix1 j) := by
  entry_read; pointwise

theorem e_wpg (k : Fin 1024) (j : Fin 1024) : V m c main_v9 (ix2 k j) = m ((c : Thread nD τ).loc main_arg19) (ix2 k j) := by
  entry_read; pointwise

theorem e_wpp (k : Fin 256) (j : Fin 1024) : V m c main_v10 (ix2 k j) = m ((c : Thread nD τ).loc main_arg20) (ix2 k j) := by
  entry_read; pointwise

/-- The array row of row `r` of point `t`'s blocks. -/
def row (t : Fin cfg0.N) (r : Fin 128) : Fin 128 :=
  ⟨t * 128 + r, by have h : (t : ℕ) < 1 := t.isLt; omega⟩

theorem idx : ∀ t : Fin cfg0.N, win0_0.index t = ![(t : ℕ), 0]
    ∧ win0_1.index t = ![0, (t : ℕ), 0]
    ∧ win0_2.index t = ![0, (t : ℕ), 0]
    ∧ win0_3.index t = ![0, (t : ℕ), 0]
    ∧ win0_4.index t = ![0, (t : ℕ), 0]
    ∧ win0_5.index t = ![0, (t : ℕ), 0]
    ∧ win0_6.index t = ![0, (t : ℕ), 0]
    ∧ win0_7.index t = ![(t : ℕ), 0]
    ∧ win0_8.index t = ![(t : ℕ), 0]
    ∧ win0_9.index t = ![(t : ℕ), 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![(t : ℕ), 0] :=
  (by decide +kernel : ∀ t : Fin grid0.N, _)

theorem b_x (t : Fin cfg0.N) (r : Fin 128) (k : Fin 1024) : iblk m c 0 t (ix2 r k) = V m c main_v11 (ix2 (row t r) k) := by
  unfold iblk
  generalize V m c = W
  blk_point [idx t, row]

theorem b_c (t : Fin cfg0.N) (r : Fin 128) (k : Fin 1024) : iblk m c 7 t (ix2 r k) = V m c main_v30 (ix2 (row t r) k) := by
  unfold iblk
  generalize V m c = W
  blk_point [idx t, row]

theorem b_g (t : Fin cfg0.N) (r : Fin 128) (k : Fin 2048) : iblk m c 8 t (ix2 r k) = V m c main_v31 (ix2 (row t r) k) := by
  unfold iblk
  generalize V m c = W
  blk_point [idx t, row]

theorem b_p (t : Fin cfg0.N) (r : Fin 128) (k : Fin 256) : iblk m c 9 t (ix2 r k) = V m c main_v32 (ix2 (row t r) k) := by
  unfold iblk
  generalize V m c = W
  blk_point [idx t, row]

theorem b_o0 (t : Fin cfg0.N) (s : Fin 2) (r : Fin 128) (k : Fin 128) : iblk m c 1 t (ix3 s r k) = V m c main_v13 (ix3 s (row t r) k) := by
  unfold iblk
  generalize V m c = W
  blk_point [idx t, row]

theorem b_o1 (t : Fin cfg0.N) (s : Fin 2) (r : Fin 128) (k : Fin 128) : iblk m c 2 t (ix3 s r k) = V m c main_v15 (ix3 s (row t r) k) := by
  unfold iblk
  generalize V m c = W
  blk_point [idx t, row]

theorem b_o2 (t : Fin cfg0.N) (s : Fin 2) (r : Fin 128) (k : Fin 128) : iblk m c 3 t (ix3 s r k) = V m c main_v17 (ix3 s (row t r) k) := by
  unfold iblk
  generalize V m c = W
  blk_point [idx t, row]

theorem b_l0 (t : Fin cfg0.N) (s : Fin 2) (r : Fin 128) (k : Fin 128) : iblk m c 4 t (ix3 s r k) = V m c main_v21 (ix3 s (row t r) k) := by
  unfold iblk
  generalize V m c = W
  blk_point [idx t, row]

theorem b_l1 (t : Fin cfg0.N) (s : Fin 2) (r : Fin 128) (k : Fin 128) : iblk m c 5 t (ix3 s r k) = V m c main_v25 (ix3 s (row t r) k) := by
  unfold iblk
  generalize V m c = W
  blk_point [idx t, row]

theorem b_l2 (t : Fin cfg0.N) (s : Fin 2) (r : Fin 128) (k : Fin 128) : iblk m c 6 t (ix3 s r k) = V m c main_v29 (ix3 s (row t r) k) := by
  unfold iblk
  generalize V m c = W
  blk_point [idx t, row]

theorem b_wa (t : Fin cfg0.N) (k : Fin 256) (j : Fin 1024) : iblk m c 10 t (ix2 k j) = V m c main_v0 (ix2 k j) := by
  unfold iblk
  generalize V m c = W
  blk_point [idx t, row]

theorem b_wc (t : Fin cfg0.N) (k : Fin 1024) (j : Fin 1024) : iblk m c 11 t (ix2 k j) = V m c main_v1 (ix2 k j) := by
  unfold iblk
  generalize V m c = W
  blk_point [idx t, row]

theorem b_wo (t : Fin cfg0.N) (k : Fin 1024) (j : Fin 1024) : iblk m c 12 t (ix2 k j) = V m c main_v2 (ix2 k j) := by
  unfold iblk
  generalize V m c = W
  blk_point [idx t, row]

theorem b_n1 (t : Fin cfg0.N) (j : Fin 1024) : iblk m c 13 t (ix2 0 j) = V m c main_v3 (ix2 0 j) := by
  unfold iblk
  generalize V m c = W
  blk_point [idx t, row]

theorem b_n2 (t : Fin cfg0.N) (j : Fin 1024) : iblk m c 14 t (ix2 0 j) = V m c main_v4 (ix2 0 j) := by
  unfold iblk
  generalize V m c = W
  blk_point [idx t, row]

theorem b_wfi (t : Fin cfg0.N) (k : Fin 1024) (j : Fin 5632) : iblk m c 15 t (ix2 k j) = V m c main_v5 (ix2 k j) := by
  unfold iblk
  generalize V m c = W
  blk_point [idx t, row]

theorem b_wfo (t : Fin cfg0.N) (k : Fin 2816) (j : Fin 1024) : iblk m c 16 t (ix2 k j) = V m c main_v6 (ix2 k j) := by
  unfold iblk
  generalize V m c = W
  blk_point [idx t, row]

theorem b_n3 (t : Fin cfg0.N) (j : Fin 1024) : iblk m c 17 t (ix2 0 j) = V m c main_v7 (ix2 0 j) := by
  unfold iblk
  generalize V m c = W
  blk_point [idx t, row]

theorem b_n4 (t : Fin cfg0.N) (j : Fin 1024) : iblk m c 18 t (ix2 0 j) = V m c main_v8 (ix2 0 j) := by
  unfold iblk
  generalize V m c = W
  blk_point [idx t, row]

theorem b_wpg (t : Fin cfg0.N) (k : Fin 1024) (j : Fin 1024) : iblk m c 19 t (ix2 k j) = V m c main_v9 (ix2 k j) := by
  unfold iblk
  generalize V m c = W
  blk_point [idx t, row]

theorem b_wpp (t : Fin cfg0.N) (k : Fin 256) (j : Fin 1024) : iblk m c 20 t (ix2 k j) = V m c main_v10 (ix2 k j) := by
  unfold iblk
  generalize V m c = W
  blk_point [idx t, row]

end Cert.Kernel4Ideal.Value

end

end
-- ==== Proof.SampleFinal.lean ====
/- The closing call's (on the samples) result, row by row, as a function of its arguments. -/
module

public import proofs.«01_k».proof.Proof.SampleBlocks

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Rows

/-- The closing row at batch entry `b`, position `t`, from the argument arrays, the groups combined as `f` says. -/
def rowAt (f : EReal → EReal → EReal → EReal → EReal → EReal → EReal)
    (a0 : FVec Ideal S128x1x1024 .f32) (a1 a2 a3 : FVec Ideal S128x1x4x64 .f32) (a4 a5 a6 : FVec Ideal S128x1x4 .f32)
    (a7 : FVec Ideal S128x1x1024 .f32) (a8 : FVec Ideal S128x1x2048 .f32) (a9 : FVec Ideal S128x1x256 .f32)
    (a10 : FVec Ideal S256x1024 .f32) (a11 a12 : FVec Ideal S1024x1024 .f32) (a13 a14 : FVec Ideal S1024 .f32)
    (a15 : FVec Ideal S1024x5632 .f32) (a16 : FVec Ideal S2816x1024 .f32) (a17 a18 : FVec Ideal S1024 .f32)
    (a19 : FVec Ideal S1024x1024 .f32) (a20 : FVec Ideal S256x1024 .f32) (b : Fin 128) (t : Fin 1) : Fin 1024 → EReal :=
  postRow
    (fun d : Fin 256 => f (a4 (ix3 b t ⟨d / 64, by omega⟩)) (a5 (ix3 b t ⟨d / 64, by omega⟩)) (a6 (ix3 b t ⟨d / 64, by omega⟩))
      (a1 (ix4 b t ⟨d / 64, by omega⟩ ⟨d % 64, by omega⟩)) (a2 (ix4 b t ⟨d / 64, by omega⟩ ⟨d % 64, by omega⟩))
      (a3 (ix4 b t ⟨d / 64, by omega⟩ ⟨d % 64, by omega⟩)))
    (fun k => a0 (ix3 b t k)) (fun k => a7 (ix3 b t k)) (fun k => a8 (ix3 b t ⟨k, by omega⟩)) (fun k => a8 (ix3 b t ⟨1024 + k, by omega⟩))
    (fun k => a9 (ix3 b t k)) (fun d k => a10 (ix2 d k)) (fun k l => a11 (ix2 k l)) (fun k l => a12 (ix2 k l))
    (fun k => a13 (ix1 k)) (fun k => a14 (ix1 k)) (fun k l => a15 (ix2 k ⟨l, by omega⟩)) (fun k l => a15 (ix2 k ⟨2816 + l, by omega⟩))
    (fun k l => a16 (ix2 k l)) (fun k => a17 (ix1 k)) (fun k => a18 (ix1 k)) (fun k l => a19 (ix2 k l)) (fun k l => a20 (ix2 k l))

variable (m : (ℓ : Loc nD τ sig) → Buf (Elt Ideal) ℓ) (c : Dev nD)

theorem lane_o0 (t : Fin cfg0.N) (r : Fin 128) (d : Fin 256) : lane (iblk m c 1 t) r d
    = m ((c : Thread nD τ).loc main_arg1) (ix4 (bOf (row t r)) (tOf (row t r)) ⟨d / 64, by omega⟩ ⟨d % 64, by omega⟩) := by
  unfold lane
  refine ((b_o0 m c t _ r _).trans (e_o0 m c _ _ _)).trans (congrArg (m ((c : Thread nD τ).loc main_arg1)) ?_)
  refine congrArg₂ (ix4 _ _) (Fin.ext ?_) (Fin.ext ?_) <;> simp only [] <;> omega

theorem lane_o1 (t : Fin cfg0.N) (r : Fin 128) (d : Fin 256) : lane (iblk m c 2 t) r d
    = m ((c : Thread nD τ).loc main_arg2) (ix4 (bOf (row t r)) (tOf (row t r)) ⟨d / 64, by omega⟩ ⟨d % 64, by omega⟩) := by
  unfold lane
  refine ((b_o1 m c t _ r _).trans (e_o1 m c _ _ _)).trans (congrArg (m ((c : Thread nD τ).loc main_arg2)) ?_)
  refine congrArg₂ (ix4 _ _) (Fin.ext ?_) (Fin.ext ?_) <;> simp only [] <;> omega

theorem lane_o2 (t : Fin cfg0.N) (r : Fin 128) (d : Fin 256) : lane (iblk m c 3 t) r d
    = m ((c : Thread nD τ).loc main_arg3) (ix4 (bOf (row t r)) (tOf (row t r)) ⟨d / 64, by omega⟩ ⟨d % 64, by omega⟩) := by
  unfold lane
  refine ((b_o2 m c t _ r _).trans (e_o2 m c _ _ _)).trans (congrArg (m ((c : Thread nD τ).loc main_arg3)) ?_)
  refine congrArg₂ (ix4 _ _) (Fin.ext ?_) (Fin.ext ?_) <;> simp only [] <;> omega

theorem lane_l0 (t : Fin cfg0.N) (r : Fin 128) (d : Fin 256) : lane (iblk m c 4 t) r d
    = m ((c : Thread nD τ).loc main_arg4) (ix3 (bOf (row t r)) (tOf (row t r)) ⟨d / 64, by omega⟩) := by
  unfold lane
  refine ((b_l0 m c t _ r _).trans (e_l0 m c _ _ _)).trans (congrArg (m ((c : Thread nD τ).loc main_arg4)) ?_)
  refine congrArg (ix3 _ _) (Fin.ext ?_); simp only []; omega

theorem lane_l1 (t : Fin cfg0.N) (r : Fin 128) (d : Fin 256) : lane (iblk m c 5 t) r d
    = m ((c : Thread nD τ).loc main_arg5) (ix3 (bOf (row t r)) (tOf (row t r)) ⟨d / 64, by omega⟩) := by
  unfold lane
  refine ((b_l1 m c t _ r _).trans (e_l1 m c _ _ _)).trans (congrArg (m ((c : Thread nD τ).loc main_arg5)) ?_)
  refine congrArg (ix3 _ _) (Fin.ext ?_); simp only []; omega

theorem lane_l2 (t : Fin cfg0.N) (r : Fin 128) (d : Fin 256) : lane (iblk m c 6 t) r d
    = m ((c : Thread nD τ).loc main_arg6) (ix3 (bOf (row t r)) (tOf (row t r)) ⟨d / 64, by omega⟩) := by
  unfold lane
  refine ((b_l2 m c t _ r _).trans (e_l2 m c _ _ _)).trans (congrArg (m ((c : Thread nD τ).loc main_arg6)) ?_)
  refine congrArg (ix3 _ _) (Fin.ext ?_); simp only []; omega

/-- The result array: each row the closing row of its batch entry and position. -/
def postArr : (⟨S128x1024, .f32⟩ : BufTy).Contents (Elt Ideal) := fun i =>
  rowAt comb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (bOf (i 0)) (tOf (i 0)) (i 1)

set_option maxHeartbeats 1000000 in
theorem point (t : Fin cfg0.N) (r : Fin 128) (j : Fin 1024) :
    k0_pay1 (F := Ideal) (k0_pay14 (k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) (iblk m c 16 t) (iblk m c 17 t))
      (k0_pay15 (k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) (iblk m c 16 t) (iblk m c 17 t) (iblk m c 18 t) (iblk m c 19 t)) (k0_pay16 (iblk m c 9 t)) (iblk m c 20 t) (ix2 r j)
    = postArr m c (ix2 (row t r) j) := by
  refine (out_apply _ _ _ _ _ _ _ _ _ _ _ _ _ _ _ _ _ _ _ _ _ r j).trans ?_
  show _ = rowAt _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (bOf (row t r)) (tOf (row t r)) j
  unfold rowAt
  refine postRow_congr ?_ ?_ ?_ ?_ ?_ ?_ ?_ ?_ ?_ ?_ ?_ ?_ ?_ ?_ ?_ ?_ ?_ ?_ j
  · funext d
    rw [lane_l0, lane_l1, lane_l2, lane_o0, lane_o1, lane_o2]
  · exact funext fun k => (b_x m c t r k).trans (e_x m c _ k)
  · exact funext fun k => (b_c m c t r k).trans (e_c m c _ k)
  · exact funext fun k => (b_g m c t r _).trans (e_g m c _ _)
  · exact funext fun k => (b_g m c t r _).trans (e_g m c _ _)
  · exact funext fun k => (b_p m c t r k).trans (e_p m c _ k)
  · exact funext fun k => funext fun l => (b_wa m c t k l).trans (e_wa m c k l)
  · exact funext fun k => funext fun l => (b_wc m c t k l).trans (e_wc m c k l)
  · exact funext fun k => funext fun l => (b_wo m c t k l).trans (e_wo m c k l)
  · exact funext fun l => (b_n1 m c t l).trans (e_n1 m c l)
  · exact funext fun l => (b_n2 m c t l).trans (e_n2 m c l)
  · exact funext fun k => funext fun l => (b_wfi m c t k _).trans (e_wfi m c k _)
  · exact funext fun k => funext fun l => (b_wfi m c t k _).trans (e_wfi m c k _)
  · exact funext fun k => funext fun l => (b_wfo m c t k l).trans (e_wfo m c k l)
  · exact funext fun l => (b_n3 m c t l).trans (e_n3 m c l)
  · exact funext fun l => (b_n4 m c t l).trans (e_n4 m c l)
  · exact funext fun k => funext fun l => (b_wpg m c t k l).trans (e_wpg m c k l)
  · exact funext fun k => funext fun l => (b_wpp m c t k l).trans (e_wpp m c k l)

theorem final : (dats m 0 c).arrAt 21 cfg0.N = postArr m c := by
  refine (dats m 0 c).arrAt_eq_of_covers 21 _ (by decide +kernel) fun t _ (y : S128x1024.Idx) => ?_
  blk_simp
  rw [after0_21]
  frame_out
  have hy : y = ix2 (y 0) (y 1) := by funext a; fin_cases a <;> rfl
  have hi : ((View.whole main_v33).slice (win0_21.rect t)).emb y = ix2 (row t (y 0)) (y 1) := by
    blk_ext [idx t, row]
  rw [hi]
  exact (congrArg _ hy).trans (point m c t (y 0) (y 1))

end Cert.Kernel4Ideal.Value

end

end
-- ==== Proof.SampleRef.lean ====
/- The reference of the closing call on the samples, row by row. -/
module

public import proofs.«01_k».proof.Proof.Rows
public import proofs.«01_k».proof.Proof.Gen.Reference4Ideal.Run
public import proofs.«01_k».proof.Proof.Gen.Reference4Ideal.Read

@[expose] public section

set_option maxRecDepth 16384

noncomputable section

open Idealize.ShloMosaic Idealize.ShloMosaic.TcCoe Idealize.SL.Sem

namespace Cert.Reference4Ideal.Value

open Cert.Reference4Ideal Cert.Reference4Ideal.Gen Cert.Rows Cert.Reference4Ideal.Read

variable (x0 : FVec Ideal S128x1x1024 .f32) (x1 x2 x3 : FVec Ideal S128x1x4x64 .f32) (x4 x5 x6 : FVec Ideal S128x1x4 .f32)
  (x7 : FVec Ideal S128x1x1024 .f32) (x8 : FVec Ideal S128x1x2048 .f32) (x9 : FVec Ideal S128x1x256 .f32)
  (x10 : FVec Ideal S256x1024 .f32) (x11 x12 : FVec Ideal S1024x1024 .f32) (x13 x14 : FVec Ideal S1024 .f32)
  (x15 : FVec Ideal S1024x5632 .f32) (x16 : FVec Ideal S2816x1024 .f32) (x17 x18 : FVec Ideal S1024 .f32)
  (x19 : FVec Ideal S1024x1024 .f32) (x20 : FVec Ideal S256x1024 .f32)

theorem lses_apply (g : Fin 3) (b : Fin 128) (t : Fin 1) (h : Fin 4) : val_main_v3 (F := Ideal) x4 x5 x6 (ix4 g b t h)
    = ![x4 (ix3 b t h), x5 (ix3 b t h), x6 (ix3 b t h)] g := by
  obtain rfl : t = 0 := Subsingleton.elim _ _
  fin_cases g <;> pointwise [val_main_v3, val_main_v0, val_main_v1, val_main_v2]

theorem outs_apply (g : Fin 3) (b : Fin 128) (t : Fin 1) (h : Fin 4) (d : Fin 64) : val_main_v18 (F := Ideal) x1 x2 x3 (ix5 g b t h d)
    = ![x1 (ix4 b t h d), x2 (ix4 b t h d), x3 (ix4 b t h d)] g := by
  obtain rfl : t = 0 := Subsingleton.elim _ _
  fin_cases g <;> pointwise [val_main_v18, val_main_v15, val_main_v16, val_main_v17]

theorem max_apply (b : Fin 128) (t : Fin 1) (h : Fin 4) : val_main_v6 (F := Ideal) x4 x5 x6 (ix3 b t h)
    = max (max (x4 (ix3 b t h)) (x5 (ix3 b t h))) (x6 (ix3 b t h)) := by
  obtain rfl : t = 0 := Subsingleton.elim _ _
  pointwise [val_main_v6, val_main_v5, val_main_v4, val_main_cst, val_main_cst_0]
  rw [negInf, fold_max3, max_eq_right bot_le]
  simp only [lses_apply]
  rfl

theorem soft_apply (b : Fin 128) (t : Fin 1) (d : Fin 256) : val_main_v20 (F := Ideal) x1 x2 x3 x4 x5 x6 (ix3 b t d)
    = soft (x4 (ix3 b t ⟨d / 64, by omega⟩)) (x5 (ix3 b t ⟨d / 64, by omega⟩)) (x6 (ix3 b t ⟨d / 64, by omega⟩))
      (x1 (ix4 b t ⟨d / 64, by omega⟩ ⟨d % 64, by omega⟩)) (x2 (ix4 b t ⟨d / 64, by omega⟩ ⟨d % 64, by omega⟩))
      (x3 (ix4 b t ⟨d / 64, by omega⟩ ⟨d % 64, by omega⟩)) := by
  obtain rfl : t = 0 := Subsingleton.elim _ _
  pointwise [val_main_v20, val_main_v19, val_main_v7, val_main_v8, val_main_v9, val_main_v10, val_main_cst_1, val_main_v11, val_main_v12, val_main_v13, val_main_v14]
  simp only [lses_apply, outs_apply, max_apply, Fin.sum_univ_three]
  rfl

theorem mix_apply (b : Fin 128) (t : Fin 1) (j : Fin 1024) : val_main_v31 (F := Ideal) x1 x2 x3 x4 x5 x6 x7 x8 x10 x11 x12 (ix3 b t j)
    = mixRow (fun d => val_main_v20 (F := Ideal) x1 x2 x3 x4 x5 x6 (ix3 b t d)) (fun k => x7 (ix3 b t k)) (fun k => x8 (ix3 b t ⟨k, by omega⟩)) (fun k => x8 (ix3 b t ⟨1024 + k, by omega⟩))
        (fun d k => x10 (ix2 d k)) (fun k l => x11 (ix2 k l)) (fun k l => x12 (ix2 k l)) j := by
  obtain rfl : t = 0 := Subsingleton.elim _ _
  unfold mixRow lin
  pointwise [val_main_v21, val_main_v22, val_main_v23, val_main_v24, val_main_v25, val_main_v26, val_main_v27, val_main_v28, val_main_v29, val_main_v30, val_main_v31]

theorem stream1_apply (b : Fin 128) (t : Fin 1) (j : Fin 1024) : val_main_v45 (F := Ideal) x0 x1 x2 x3 x4 x5 x6 x7 x8 x10 x11 x12 x13 (ix3 b t j)
    = stream1 (fun k => val_main_v31 (F := Ideal) x1 x2 x3 x4 x5 x6 x7 x8 x10 x11 x12 (ix3 b t k)) (fun k => x0 (ix3 b t k)) (fun k => x13 (ix1 k)) j := by
  obtain rfl : t = 0 := Subsingleton.elim _ _
  unfold stream1 rms
  pointwise [val_main_v32, val_main_cst_2, val_main_v33, val_main_v34, val_main_cst_3, val_main_v35, val_main_v36, val_main_cst_4, val_main_v37, val_main_v38, val_main_v39, val_main_v40, val_main_v41, val_main_v42, val_main_v43, val_main_v44, val_main_v45]

theorem hidden_apply (b : Fin 128) (t : Fin 1) (j : Fin 2816) : val_main_v63 (F := Ideal) x0 x1 x2 x3 x4 x5 x6 x7 x8 x10 x11 x12 x13 x14 x15 (ix3 b t j)
    = ffHidden (fun k => val_main_v45 (F := Ideal) x0 x1 x2 x3 x4 x5 x6 x7 x8 x10 x11 x12 x13 (ix3 b t k)) (fun k => x14 (ix1 k)) (fun k l => x15 (ix2 k ⟨l, by omega⟩)) (fun k l => x15 (ix2 k ⟨2816 + l, by omega⟩)) j := by
  obtain rfl : t = 0 := Subsingleton.elim _ _
  unfold ffHidden lin rms Ideal.logistic
  pointwise [val_main_v46, val_main_cst_5, val_main_v47, val_main_v48, val_main_cst_6, val_main_v49, val_main_v50, val_main_cst_7, val_main_v51, val_main_v52, val_main_v53, val_main_v54, val_main_v55, val_main_v56, val_main_v57, val_main_v58, val_main_v59, val_main_v60, val_main_v61, val_main_call0_v0, val_main_call0_v1, val_main_call0_cst, val_main_call0_v2, val_main_call0_v3, val_main_call0_cst_0, val_main_call0_v4, val_main_call0_v5, val_main_v62, val_main_v63]

theorem stream2_apply (b : Fin 128) (t : Fin 1) (j : Fin 1024) : val_main_v78 (F := Ideal) x0 x1 x2 x3 x4 x5 x6 x7 x8 x10 x11 x12 x13 x14 x15 x16 x17 (ix3 b t j)
    = stream1 (lin (fun k => val_main_v63 (F := Ideal) x0 x1 x2 x3 x4 x5 x6 x7 x8 x10 x11 x12 x13 x14 x15 (ix3 b t k)) fun k l => x16 (ix2 k l)) (fun k => val_main_v45 (F := Ideal) x0 x1 x2 x3 x4 x5 x6 x7 x8 x10 x11 x12 x13 (ix3 b t k)) (fun k => x17 (ix1 k)) j := by
  obtain rfl : t = 0 := Subsingleton.elim _ _
  unfold stream1 rms lin
  pointwise [val_main_v64, val_main_v65, val_main_cst_8, val_main_v66, val_main_v67, val_main_cst_9, val_main_v68, val_main_v69, val_main_cst_10, val_main_v70, val_main_v71, val_main_v72, val_main_v73, val_main_v74, val_main_v75, val_main_v76, val_main_v77, val_main_v78]

theorem last_apply (b : Fin 128) (t : Fin 1) (j : Fin 1024) : val_main_v101 (F := Ideal) x0 x1 x2 x3 x4 x5 x6 x7 x8 x9 x10 x11 x12 x13 x14 x15 x16 x17 x18 x19 x20 (ix3 b t j)
    = val_main_v78 (F := Ideal) x0 x1 x2 x3 x4 x5 x6 x7 x8 x10 x11 x12 x13 x14 x15 x16 x17 (ix3 b t j) + pgate (fun k => val_main_v78 (F := Ideal) x0 x1 x2 x3 x4 x5 x6 x7 x8 x10 x11 x12 x13 x14 x15 x16 x17 (ix3 b t k)) (fun k => x18 (ix1 k)) (fun k l => x19 (ix2 k l)) j
      * lin (fun k => x9 (ix3 b t k)) (fun k l => x20 (ix2 k l)) j := by
  obtain rfl : t = 0 := Subsingleton.elim _ _
  unfold pgate rms lin Ideal.logistic
  pointwise [val_main_v79, val_main_cst_11, val_main_v80, val_main_v81, val_main_cst_12, val_main_v82, val_main_v83, val_main_cst_13, val_main_v84, val_main_v85, val_main_v86, val_main_v87, val_main_v88, val_main_v89, val_main_v90, val_main_v91, val_main_v92, val_main_v93, val_main_v94, val_main_cst_14, val_main_v95, val_main_v96, val_main_cst_15, val_main_v97, val_main_v98, val_main_v99, val_main_v100, val_main_v101]

theorem ref_apply (n : Fin 128) (j : Fin 1024) : val_main_v102 (F := Ideal) x0 x1 x2 x3 x4 x5 x6 x7 x8 x9 x10 x11 x12 x13 x14 x15 x16 x17 x18 x19 x20 (ix2 n j)
    = val_main_v101 (F := Ideal) x0 x1 x2 x3 x4 x5 x6 x7 x8 x9 x10 x11 x12 x13 x14 x15 x16 x17 x18 x19 x20 (ix3 n 0 j) := by
  pointwise [val_main_v102]

end Cert.Reference4Ideal.Value

end

end
-- ==== Proof.SampleBoth.lean ====
/- The closing call on the samples and its reference, row against row. -/
module

public import proofs.«01_k».proof.Defs
public import proofs.«01_k».proof.Proof.SampleFinal
public import proofs.«01_k».proof.Proof.SampleRef
public import proofs.«01_k».proof.Proof.Gen.Reference4Ideal.Run
public import Idealize.ShloMosaic.Adequacy
public import Idealize.ShloMosaic.Init

@[expose] public section

set_option maxRecDepth 16384

noncomputable section

open Idealize.ShloMosaic Idealize.ShloMosaic.TcCoe Idealize.SL.Sem

namespace Cert.PostSample

open Cert.Rows Cert.Reference4Ideal Cert.Reference4Ideal.Gen Cert.Reference4Ideal.Read Cert.Reference4Ideal.Value
open Cert.Kernel4Ideal.Value (rowAt bOf tOf postArr)

variable (x0 : FVec Ideal S128x1x1024 .f32) (x1 x2 x3 : FVec Ideal S128x1x4x64 .f32) (x4 x5 x6 : FVec Ideal S128x1x4 .f32)
  (x7 : FVec Ideal S128x1x1024 .f32) (x8 : FVec Ideal S128x1x2048 .f32) (x9 : FVec Ideal S128x1x256 .f32)
  (x10 : FVec Ideal S256x1024 .f32) (x11 x12 : FVec Ideal S1024x1024 .f32) (x13 x14 : FVec Ideal S1024 .f32)
  (x15 : FVec Ideal S1024x5632 .f32) (x16 : FVec Ideal S2816x1024 .f32) (x17 x18 : FVec Ideal S1024 .f32)
  (x19 : FVec Ideal S1024x1024 .f32) (x20 : FVec Ideal S256x1024 .f32)

/-- The reference's result where at each position and head the largest logarithm of a denominator is a number. -/
theorem ref_eq (hp : ∀ (b : Fin 128) (t : Fin 1) (h : Fin 4), ⊥ < max (max (x4 (ix3 b t h)) (x5 (ix3 b t h))) (x6 (ix3 b t h))
      ∧ max (max (x4 (ix3 b t h)) (x5 (ix3 b t h))) (x6 (ix3 b t h)) < ⊤) :
    val_main_v102 (F := Ideal) x0 x1 x2 x3 x4 x5 x6 x7 x8 x9 x10 x11 x12 x13 x14 x15 x16 x17 x18 x19 x20 = fun i => rowAt comb x0 x1 x2 x3 x4 x5 x6 x7 x8 x9 x10 x11 x12 x13 x14 x15 x16 x17 x18 x19 x20 (bOf (i 0)) (tOf (i 0)) (i 1) := by
  funext i
  obtain ⟨n, j, rfl⟩ : ∃ (n : Fin 128) (j : Fin 1024), i = ix2 n j := ⟨i 0, i 1, by funext a; fin_cases a <;> rfl⟩
  refine (ref_apply x0 x1 x2 x3 x4 x5 x6 x7 x8 x9 x10 x11 x12 x13 x14 x15 x16 x17 x18 x19 x20 n j).trans ?_
  show _ = rowAt comb x0 x1 x2 x3 x4 x5 x6 x7 x8 x9 x10 x11 x12 x13 x14 x15 x16 x17 x18 x19 x20 (bOf n) (tOf n) j
  rw [last_apply]
  unfold rowAt postRow
  simp only [stream2_apply, hidden_apply, stream1_apply, mix_apply, soft_apply, comb_eq_soft _ _ _ (hp _ _ _).1 (hp _ _ _).2]
  rfl

/-- The precondition, element by element. -/
theorem pre_row [Cert.Pre_some_denominator_sample.Facts] (h : Cert.Pre_some_denominator_sample.fn (F := Ideal) x0 x1 x2 x3 x4 x5 x6 x7 x8 x9 x10 x11 x12 x13 x14 x15 x16 x17 x18 x19 x20 = fun _ => 1#1) (b : Fin 128) (t : Fin 1) (k : Fin 4) :
    ⊥ < max (max (x4 (ix3 b t k)) (x5 (ix3 b t k))) (x6 (ix3 b t k))
      ∧ max (max (x4 (ix3 b t k)) (x5 (ix3 b t k))) (x6 (ix3 b t k)) < ⊤ := by
  have := congrFun h (ix3 b t k)
  revert this
  pointwise [Cert.Pre_some_denominator_sample.fn]
  rw [negInf, show Ideal.ofBits FTy.f32 2139095040#32 = ⊤ by simp [Ideal.ofBits, Ideal.ieee]]
  by_cases h1 : ⊥ < max (max (x4 (ix3 b t k)) (x5 (ix3 b t k))) (x6 (ix3 b t k)) <;>
    by_cases h2 : max (max (x4 (ix3 b t k)) (x5 (ix3 b t k))) (x6 (ix3 b t k)) < ⊤ <;>
    simp only [h1, h2, decide_true, decide_false] <;> intro hh
  · exact ⟨trivial, trivial⟩
  all_goals exact absurd hh (by decide)

/-- The same with the arguments read elsewhere. -/
theorem ref_final [Cert.Pre_some_denominator_sample.Facts] {x0 y0 : FVec Ideal S128x1x1024 .f32} {x1 y1 x2 y2 x3 y3 : FVec Ideal S128x1x4x64 .f32} {x4 y4 x5 y5 x6 y6 : FVec Ideal S128x1x4 .f32}
  {x7 y7 : FVec Ideal S128x1x1024 .f32} {x8 y8 : FVec Ideal S128x1x2048 .f32} {x9 y9 : FVec Ideal S128x1x256 .f32}
  {x10 y10 : FVec Ideal S256x1024 .f32} {x11 y11 x12 y12 : FVec Ideal S1024x1024 .f32} {x13 y13 x14 y14 : FVec Ideal S1024 .f32}
  {x15 y15 : FVec Ideal S1024x5632 .f32} {x16 y16 : FVec Ideal S2816x1024 .f32} {x17 y17 x18 y18 : FVec Ideal S1024 .f32}
  {x19 y19 : FVec Ideal S1024x1024 .f32} {x20 y20 : FVec Ideal S256x1024 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20)
    (h : Cert.Pre_some_denominator_sample.fn (F := Ideal) y0 y1 y2 y3 y4 y5 y6 y7 y8 y9 y10 y11 y12 y13 y14 y15 y16 y17 y18 y19 y20 = fun _ => 1#1) :
    val_main_v102 (F := Ideal) x0 x1 x2 x3 x4 x5 x6 x7 x8 x9 x10 x11 x12 x13 x14 x15 x16 x17 x18 x19 x20 = fun i => rowAt comb y0 y1 y2 y3 y4 y5 y6 y7 y8 y9 y10 y11 y12 y13 y14 y15 y16 y17 y18 y19 y20 (bOf (i 0)) (tOf (i 0)) (i 1) := by
  subst h0 h1 h2 h3 h4 h5 h6 h7 h8 h9 h10 h11 h12 h13 h14 h15 h16 h17 h18 h19 h20
  exact ref_eq x0 x1 x2 x3 x4 x5 x6 x7 x8 x9 x10 x11 x12 x13 x14 x15 x16 x17 x18 x19 x20 (pre_row x0 x1 x2 x3 x4 x5 x6 x7 x8 x9 x10 x11 x12 x13 x14 x15 x16 x17 x18 x19 x20 h)

attribute [local instance] Cert.Kernel4Ideal.Gen.facts Cert.Reference4Ideal.Gen.facts

/-- Both programs end with the same rows, wherever each position and head has some denominator. -/
theorem algebraic [hpre_ : Cert.Pre_some_denominator_sample.Facts] : Cert.algebraic_Kernel4Ideal_Reference4Ideal_pre_some_denominator_sample := by
  intro m g m' g' hpre hagree
  refine ⟨fun c => postArr m c, ?_, ?_⟩
  · refine (θ_run _ _ _).mono (fun r h c => ?_) (Cert.Kernel4Ideal.Value.run_blocks m g)
    have hc := h c
    rw [Cert.Kernel4Ideal.Value.final] at hc
    exact hc
  · refine (θ_run _ _ _).mono (fun r h c => ⟨(h c).1.trans ?_, (h c).2⟩) (Cert.Reference4Ideal.Value.run m' g')
    refine (val_main_v102_eq (StableHlo.launchContents m' c)).trans ?_
    obtain ⟨h0, h1, h2, h3, h4, h5, h6, h7, h8, h9, h10, h11, h12, h13, h14, h15, h16, h17, h18, h19, h20⟩ := hagree c
    exact ref_final h0 h1 h2 h3 h4 h5 h6 h7 h8 h9 h10 h11 h12 h13 h14 h15 h16 h17 h18 h19 h20 (hpre c)

end Cert.PostSample

end

end
-- ==== Proof.CacheKernel.lean ====
/- The decode call: what its body leaves in each block of the kept keys and values. -/
module

public import proofs.«01_k».proof.Proof.Rows
public import proofs.«01_k».proof.Proof.Gen.Kernel5Ideal.Frame
public import Idealize.ShloMosaic.Lib.KernelVsHost
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Rows

/-- A choice between two values by the equality of two small numbers. -/
theorem choose {α : Type} (a b : ℕ) (ha : a < 4294967296) (hb : b < 4294967296) (u v : α) :
    Scalar.select (IntOp.cmpi .eq (BitVec.ofNat 32 a) (BitVec.ofNat 32 b)) u v = if a = b then u else v := by
  rw [WordCmp.cmpi_eq_eq_toNat, BitVec.toNat_ofNat, BitVec.toNat_ofNat, Nat.mod_eq_of_lt ha, Nat.mod_eq_of_lt hb]
  by_cases h : a = b
  · simp [h, Scalar.select]
  · simp [h, Scalar.select]

/-- The sum of a row in which every other entry is put to zero is the entry kept. -/
theorem one_left (b : ℕ) (hb : b < 128) (y : Fin 128 → EReal) :
    (∑ x : Fin 128, Scalar.select (IntOp.cmpi .eq (BitVec.ofNat 32 x.val) (BitVec.ofNat 32 b)) (y x) 0) = y ⟨b, hb⟩ := by
  simp only [choose _ b (Nat.lt_trans (Fin.isLt _) (by omega : 128 < 4294967296)) (by omega : b < 4294967296)]
  refine (Finset.sum_eq_single (⟨b, hb⟩ : Fin 128) (fun x _ hx => if_neg fun h => hx (Fin.ext h)) (fun h => absurd (Finset.mem_univ _) h)).trans ?_
  exact if_pos rfl

/-- A block turned back by one position, read at every position but the last. -/
theorem turn128 (x : Vec Ideal S1x1x256x128 .f32) (r : Fin 256) (l : Fin 128) (h : l.val < 127) :
    dynamicRotate 1 127#32 none (shapeCast S256x128 x shapeCasts_S1x1x256x128_S256x128) rotates_S256x128_d1 (ix2 r l) = x (ix4 0 0 r ⟨l.val + 1, by omega⟩) := by
  refine (dynamicRotate_apply _ _ _ _ _ (ix2 r (⟨l.val + 1, by omega⟩ : Fin 128)) fun b => ?_).trans ?_
  · match b with
    | ⟨0, _⟩ => rfl
    | ⟨1, _⟩ => show l.val + 1 = (l.val + 128 - 127 % 128) % 128; omega
  · pointwise []

theorem vBlock128 (b : ℕ) (hb : b < 128) (y : Vec Ideal S256x128 .f32) (x : Vec Ideal S1x1x256x128 .f32) (r : Fin 256) (l : Fin 128) :
    k0_pay19 (F := Ideal) (iota .tc S1x128 32 [1] iota_S1x128_d1_w32) (iota .tc S1x128 32 [1] iota_S1x128_d1_w32) (k0_pay18 (BitVec.ofNat 32 b)) y x (ix4 0 0 r l)
      = if h : l.val < 127 then x (ix4 0 0 r ⟨l.val + 1, by omega⟩) else y (ix2 r ⟨b, hb⟩) := by
  have turned := turn128 x r l
  unfold k0_pay19 k0_pay18
  dsimp only
  generalize dynamicRotate 1 127#32 none _ rotates_S256x128_d1 = z at turned ⊢
  pointwise []
  rw [one_left b hb fun k => y (ix2 r k)]
  refine (choose l.val 127 (by omega) (by omega) _ _).trans ?_
  by_cases h : l.val < 127
  · rw [if_neg (by omega), dif_pos h]
    exact turned h
  · rw [if_pos (by omega), dif_neg h]

theorem kBlock128 (b : ℕ) (hb : b < 128) (y : Vec Ideal S256x128 .f32) (x : Vec Ideal S1x1x256x128 .f32) (r : Fin 256) (l : Fin 128) :
    k0_pay17 (F := Ideal) (BitVec.ofNat 32 b) (iota .tc S1x128 32 [1] iota_S1x128_d1_w32) y x (ix4 0 0 r l)
      = if h : l.val < 127 then x (ix4 0 0 r ⟨l.val + 1, by omega⟩) else y (ix2 r ⟨b, hb⟩) := by
  have turned := turn128 x r l
  unfold k0_pay17
  dsimp only
  generalize dynamicRotate 1 127#32 none _ rotates_S256x128_d1 = z at turned ⊢
  pointwise []
  rw [one_left b hb fun k => y (ix2 r k)]
  refine (choose l.val 127 (by omega) (by omega) _ _).trans ?_
  by_cases h : l.val < 127
  · rw [if_neg (by omega), dif_pos h]
    exact turned h
  · rw [if_pos (by omega), dif_neg h]

theorem two128 (P1 P0 : Vec Ideal S1x1x256x128 .f32) (f : Fin 2 → Fin 256 → Fin 128 → EReal)
    (h1 : ∀ r l, P1 (ix4 0 0 r l) = f 1 r l) (h0 : ∀ r l, P0 (ix4 0 0 r l) = f 0 r l) (k : Fin 2) (r : Fin 256) (l : Fin 128) :
    View.canon (Val := Elt Ideal) (s := S1x2x256x128) (e := .f32) [⟨r0_1, P1⟩, ⟨r0_0, P0⟩] (ix4 0 k r l) = f k r l := by
  refine (View.canon_apply_of_pieces (Val := Elt Ideal) (S := S1x2x256x128) (e := .f32) (fun y => f (y 1) (y 2) (y 3)) _ ?_ _
    (cover0_14 P1 P0 _))
  intro pc hpc
  rcases List.mem_cons.mp hpc with rfl | hpc
  · intro (x : S1x1x256x128.Idx)
    have hx : x = ix4 0 0 (x 2) (x 3) := by funext a; fin_cases a <;> simp [ix4] <;> exact Subsingleton.elim (α := Fin 1) _ _
    refine (congrArg P1 hx).trans ((h1 _ _).trans ?_)
    have hx0 : (x 1).val < 1 := (x 1).isLt
    refine congr (congr (congrArg f ?_) ?_) ?_
    · exact Fin.ext (by show 1 = 1 + 1 * (x 1).val; omega)
    · exact Fin.ext (by show (x 2).val = 0 + 1 * (x 2).val; omega)
    · exact Fin.ext (by show (x 3).val = 0 + 1 * (x 3).val; omega)
  rcases List.mem_cons.mp hpc with rfl | hpc
  · intro (x : S1x1x256x128.Idx)
    have hx : x = ix4 0 0 (x 2) (x 3) := by funext a; fin_cases a <;> simp [ix4] <;> exact Subsingleton.elim (α := Fin 1) _ _
    refine (congrArg P0 hx).trans ((h0 _ _).trans ?_)
    have hx0 : (x 1).val < 1 := (x 1).isLt
    refine congr (congr (congrArg f ?_) ?_) ?_
    · exact Fin.ext (by show 0 = 0 + 1 * (x 1).val; omega)
    · exact Fin.ext (by show (x 2).val = 0 + 1 * (x 2).val; omega)
    · exact Fin.ext (by show (x 3).val = 0 + 1 * (x 3).val; omega)
  nomatch hpc

theorem ldk128 (x : Vec Ideal S1x2x256x128 .f32) (r : Fin 256) (l : Fin 128) : View.ld x r0_0 (ix4 0 0 r l) = x (ix4 0 0 r l) := by
  exact View.ld_unit_apply_of x _ _ _ _ _ fun a => by fin_cases a <;> simp [ix4]

theorem ldv128 (x : Vec Ideal S1x2x256x128 .f32) (r : Fin 256) (l : Fin 128) : View.ld x r0_1 (ix4 0 0 r l) = x (ix4 0 1 r l) := by
  exact View.ld_unit_apply_of x _ _ _ _ _ fun a => by fin_cases a <;> simp [ix4]

theorem ldn128 (x : Vec Ideal S768x128 .f32) (r : Fin 256) (b : Fin 128) : View.ld x r0_5 (ix2 r b) = x (ix2 ⟨r.val + 0, by omega⟩ b) := by
  exact View.ld_unit_apply_of x _ _ _ _ _ fun a => by fin_cases a <;> simp [ix2] <;> omega

/-- A block turned back by one position, read at every position but the last. -/
theorem turn512 (x : Vec Ideal S1x1x256x512 .f32) (r : Fin 256) (l : Fin 512) (h : l.val < 511) :
    dynamicRotate 1 511#32 none (shapeCast S256x512 x shapeCasts_S1x1x256x512_S256x512) rotates_S256x512_d1 (ix2 r l) = x (ix4 0 0 r ⟨l.val + 1, by omega⟩) := by
  refine (dynamicRotate_apply _ _ _ _ _ (ix2 r (⟨l.val + 1, by omega⟩ : Fin 512)) fun b => ?_).trans ?_
  · match b with
    | ⟨0, _⟩ => rfl
    | ⟨1, _⟩ => show l.val + 1 = (l.val + 512 - 511 % 512) % 512; omega
  · pointwise []

theorem vBlock512 (b : ℕ) (hb : b < 128) (y : Vec Ideal S256x128 .f32) (x : Vec Ideal S1x1x256x512 .f32) (r : Fin 256) (l : Fin 512) :
    k0_pay35 (F := Ideal) (BitVec.ofNat 32 b) (iota .tc S1x128 32 [1] iota_S1x128_d1_w32) (iota .tc S1x512 32 [1] iota_S1x512_d1_w32) y x (ix4 0 0 r l)
      = if h : l.val < 511 then x (ix4 0 0 r ⟨l.val + 1, by omega⟩) else y (ix2 r ⟨b, hb⟩) := by
  have turned := turn512 x r l
  unfold k0_pay35
  dsimp only
  generalize dynamicRotate 1 511#32 none _ rotates_S256x512_d1 = z at turned ⊢
  pointwise []
  rw [one_left b hb fun k => y (ix2 r k)]
  refine (choose l.val 511 (by omega) (by omega) _ _).trans ?_
  by_cases h : l.val < 511
  · rw [if_neg (by omega), dif_pos h]
    exact turned h
  · rw [if_pos (by omega), dif_neg h]

theorem kBlock512 (b : ℕ) (hb : b < 128) (y : Vec Ideal S256x128 .f32) (x : Vec Ideal S1x1x256x512 .f32) (r : Fin 256) (l : Fin 512) :
    k0_pay34 (F := Ideal) (BitVec.ofNat 32 b) (iota .tc S1x128 32 [1] iota_S1x128_d1_w32) y x (ix4 0 0 r l)
      = if h : l.val < 511 then x (ix4 0 0 r ⟨l.val + 1, by omega⟩) else y (ix2 r ⟨b, hb⟩) := by
  have turned := turn512 x r l
  unfold k0_pay34
  dsimp only
  generalize dynamicRotate 1 511#32 none _ rotates_S256x512_d1 = z at turned ⊢
  pointwise []
  rw [one_left b hb fun k => y (ix2 r k)]
  refine (choose l.val 511 (by omega) (by omega) _ _).trans ?_
  by_cases h : l.val < 511
  · rw [if_neg (by omega), dif_pos h]
    exact turned h
  · rw [if_pos (by omega), dif_neg h]

theorem two512 (P1 P0 : Vec Ideal S1x1x256x512 .f32) (f : Fin 2 → Fin 256 → Fin 512 → EReal)
    (h1 : ∀ r l, P1 (ix4 0 0 r l) = f 1 r l) (h0 : ∀ r l, P0 (ix4 0 0 r l) = f 0 r l) (k : Fin 2) (r : Fin 256) (l : Fin 512) :
    View.canon (Val := Elt Ideal) (s := S1x2x256x512) (e := .f32) [⟨r0_7, P1⟩, ⟨r0_6, P0⟩] (ix4 0 k r l) = f k r l := by
  refine (View.canon_apply_of_pieces (Val := Elt Ideal) (S := S1x2x256x512) (e := .f32) (fun y => f (y 1) (y 2) (y 3)) _ ?_ _
    (cover0_15 P1 P0 _))
  intro pc hpc
  rcases List.mem_cons.mp hpc with rfl | hpc
  · intro (x : S1x1x256x512.Idx)
    have hx : x = ix4 0 0 (x 2) (x 3) := by funext a; fin_cases a <;> simp [ix4] <;> exact Subsingleton.elim (α := Fin 1) _ _
    refine (congrArg P1 hx).trans ((h1 _ _).trans ?_)
    have hx0 : (x 1).val < 1 := (x 1).isLt
    refine congr (congr (congrArg f ?_) ?_) ?_
    · exact Fin.ext (by show 1 = 1 + 1 * (x 1).val; omega)
    · exact Fin.ext (by show (x 2).val = 0 + 1 * (x 2).val; omega)
    · exact Fin.ext (by show (x 3).val = 0 + 1 * (x 3).val; omega)
  rcases List.mem_cons.mp hpc with rfl | hpc
  · intro (x : S1x1x256x512.Idx)
    have hx : x = ix4 0 0 (x 2) (x 3) := by funext a; fin_cases a <;> simp [ix4] <;> exact Subsingleton.elim (α := Fin 1) _ _
    refine (congrArg P0 hx).trans ((h0 _ _).trans ?_)
    have hx0 : (x 1).val < 1 := (x 1).isLt
    refine congr (congr (congrArg f ?_) ?_) ?_
    · exact Fin.ext (by show 0 = 0 + 1 * (x 1).val; omega)
    · exact Fin.ext (by show (x 2).val = 0 + 1 * (x 2).val; omega)
    · exact Fin.ext (by show (x 3).val = 0 + 1 * (x 3).val; omega)
  nomatch hpc

theorem ldk512 (x : Vec Ideal S1x2x256x512 .f32) (r : Fin 256) (l : Fin 512) : View.ld x r0_6 (ix4 0 0 r l) = x (ix4 0 0 r l) := by
  exact View.ld_unit_apply_of x _ _ _ _ _ fun a => by fin_cases a <;> simp [ix4]

theorem ldv512 (x : Vec Ideal S1x2x256x512 .f32) (r : Fin 256) (l : Fin 512) : View.ld x r0_7 (ix4 0 0 r l) = x (ix4 0 1 r l) := by
  exact View.ld_unit_apply_of x _ _ _ _ _ fun a => by fin_cases a <;> simp [ix4]

theorem ldn512 (x : Vec Ideal S768x128 .f32) (r : Fin 256) (b : Fin 128) : View.ld x r0_11 (ix2 r b) = x (ix2 ⟨r.val + 256, by omega⟩ b) := by
  exact View.ld_unit_apply_of x _ _ _ _ _ fun a => by fin_cases a <;> simp [ix2] <;> omega

/-- A block turned back by one position, read at every position but the last. -/
theorem turn2048 (x : Vec Ideal S1x1x256x2048 .f32) (r : Fin 256) (l : Fin 2048) (h : l.val < 2047) :
    dynamicRotate 1 2047#32 none (shapeCast S256x2048 x shapeCasts_S1x1x256x2048_S256x2048) rotates_S256x2048_d1 (ix2 r l) = x (ix4 0 0 r ⟨l.val + 1, by omega⟩) := by
  refine (dynamicRotate_apply _ _ _ _ _ (ix2 r (⟨l.val + 1, by omega⟩ : Fin 2048)) fun b => ?_).trans ?_
  · match b with
    | ⟨0, _⟩ => rfl
    | ⟨1, _⟩ => show l.val + 1 = (l.val + 2048 - 2047 % 2048) % 2048; omega
  · pointwise []

theorem vBlock2048 (b : ℕ) (hb : b < 128) (y : Vec Ideal S256x128 .f32) (x : Vec Ideal S1x1x256x2048 .f32) (r : Fin 256) (l : Fin 2048) :
    k0_pay1 (F := Ideal) (BitVec.ofNat 32 b) (iota .tc S1x128 32 [1] iota_S1x128_d1_w32) (iota .tc S1x2048 32 [1] iota_S1x2048_d1_w32) y x (ix4 0 0 r l)
      = if h : l.val < 2047 then x (ix4 0 0 r ⟨l.val + 1, by omega⟩) else y (ix2 r ⟨b, hb⟩) := by
  have turned := turn2048 x r l
  unfold k0_pay1
  dsimp only
  generalize dynamicRotate 1 2047#32 none _ rotates_S256x2048_d1 = z at turned ⊢
  pointwise []
  rw [one_left b hb fun k => y (ix2 r k)]
  refine (choose l.val 2047 (by omega) (by omega) _ _).trans ?_
  by_cases h : l.val < 2047
  · rw [if_neg (by omega), dif_pos h]
    exact turned h
  · rw [if_pos (by omega), dif_neg h]

theorem kBlock2048 (b : ℕ) (hb : b < 128) (y : Vec Ideal S256x128 .f32) (x : Vec Ideal S1x1x256x2048 .f32) (r : Fin 256) (l : Fin 2048) :
    k0_pay49 (F := Ideal) (BitVec.ofNat 32 b) (iota .tc S1x128 32 [1] iota_S1x128_d1_w32) y x (ix4 0 0 r l)
      = if h : l.val < 2047 then x (ix4 0 0 r ⟨l.val + 1, by omega⟩) else y (ix2 r ⟨b, hb⟩) := by
  have turned := turn2048 x r l
  unfold k0_pay49
  dsimp only
  generalize dynamicRotate 1 2047#32 none _ rotates_S256x2048_d1 = z at turned ⊢
  pointwise []
  rw [one_left b hb fun k => y (ix2 r k)]
  refine (choose l.val 2047 (by omega) (by omega) _ _).trans ?_
  by_cases h : l.val < 2047
  · rw [if_neg (by omega), dif_pos h]
    exact turned h
  · rw [if_pos (by omega), dif_neg h]

theorem two2048 (P1 P0 : Vec Ideal S1x1x256x2048 .f32) (f : Fin 2 → Fin 256 → Fin 2048 → EReal)
    (h1 : ∀ r l, P1 (ix4 0 0 r l) = f 1 r l) (h0 : ∀ r l, P0 (ix4 0 0 r l) = f 0 r l) (k : Fin 2) (r : Fin 256) (l : Fin 2048) :
    View.canon (Val := Elt Ideal) (s := S1x2x256x2048) (e := .f32) [⟨r0_13, P1⟩, ⟨r0_12, P0⟩] (ix4 0 k r l) = f k r l := by
  refine (View.canon_apply_of_pieces (Val := Elt Ideal) (S := S1x2x256x2048) (e := .f32) (fun y => f (y 1) (y 2) (y 3)) _ ?_ _
    (cover0_16 P1 P0 _))
  intro pc hpc
  rcases List.mem_cons.mp hpc with rfl | hpc
  · intro (x : S1x1x256x2048.Idx)
    have hx : x = ix4 0 0 (x 2) (x 3) := by funext a; fin_cases a <;> simp [ix4] <;> exact Subsingleton.elim (α := Fin 1) _ _
    refine (congrArg P1 hx).trans ((h1 _ _).trans ?_)
    have hx0 : (x 1).val < 1 := (x 1).isLt
    refine congr (congr (congrArg f ?_) ?_) ?_
    · exact Fin.ext (by show 1 = 1 + 1 * (x 1).val; omega)
    · exact Fin.ext (by show (x 2).val = 0 + 1 * (x 2).val; omega)
    · exact Fin.ext (by show (x 3).val = 0 + 1 * (x 3).val; omega)
  rcases List.mem_cons.mp hpc with rfl | hpc
  · intro (x : S1x1x256x2048.Idx)
    have hx : x = ix4 0 0 (x 2) (x 3) := by funext a; fin_cases a <;> simp [ix4] <;> exact Subsingleton.elim (α := Fin 1) _ _
    refine (congrArg P0 hx).trans ((h0 _ _).trans ?_)
    have hx0 : (x 1).val < 1 := (x 1).isLt
    refine congr (congr (congrArg f ?_) ?_) ?_
    · exact Fin.ext (by show 0 = 0 + 1 * (x 1).val; omega)
    · exact Fin.ext (by show (x 2).val = 0 + 1 * (x 2).val; omega)
    · exact Fin.ext (by show (x 3).val = 0 + 1 * (x 3).val; omega)
  nomatch hpc

theorem ldk2048 (x : Vec Ideal S1x2x256x2048 .f32) (r : Fin 256) (l : Fin 2048) : View.ld x r0_12 (ix4 0 0 r l) = x (ix4 0 0 r l) := by
  exact View.ld_unit_apply_of x _ _ _ _ _ fun a => by fin_cases a <;> simp [ix4]

theorem ldv2048 (x : Vec Ideal S1x2x256x2048 .f32) (r : Fin 256) (l : Fin 2048) : View.ld x r0_13 (ix4 0 0 r l) = x (ix4 0 1 r l) := by
  exact View.ld_unit_apply_of x _ _ _ _ _ fun a => by fin_cases a <;> simp [ix4]

theorem ldn2048 (x : Vec Ideal S768x128 .f32) (r : Fin 256) (b : Fin 128) : View.ld x r0_17 (ix2 r b) = x (ix2 ⟨r.val + 512, by omega⟩ b) := by
  exact View.ld_unit_apply_of x _ _ _ _ _ fun a => by fin_cases a <;> simp [ix2] <;> omega

variable (m : (ℓ : Loc nD τ sig) → Buf (Elt Ideal) ℓ) (c : Dev nD)

theorem at_step : ∀ t : Fin cfg0.N, (grid0.coords t 0).val = t.val := by decide +kernel

theorem point14 (t : Fin cfg0.N) (k : Fin 2) (r : Fin 256) (l : Fin 128) : (dats (F := Ideal) m 0 c).after 14 t (ix4 0 k r l)
    = if h : l.val < 127 then (iblk m c 5 t : Vec Ideal S1x2x256x128 .f32) (ix4 0 k r ⟨l.val + 1, by omega⟩)
      else if k = 0 then (iblk m c 3 t : Vec Ideal S768x128 .f32) (ix2 ⟨r.val + 0, by omega⟩ t)
      else (iblk m c 4 t : Vec Ideal S768x128 .f32) (ix2 ⟨r.val + 0, by omega⟩ t) := by
  rw [after0_14]
  unfold out0_14 k0_pay50
  rw [at_step t]
  generalize (iblk m c 5 t : Vec Ideal S1x2x256x128 .f32) = x
  generalize (iblk m c 3 t : Vec Ideal S768x128 .f32) = y3
  generalize (iblk m c 4 t : Vec Ideal S768x128 .f32) = y4
  refine two128 _ _ (fun k r l => if h : l.val < 127 then x (ix4 0 k r ⟨l.val + 1, by omega⟩)
      else if k = 0 then y3 (ix2 ⟨r.val + 0, by omega⟩ t) else y4 (ix2 ⟨r.val + 0, by omega⟩ t)) ?_ ?_ k r l
  · intro r l
    refine (vBlock128 t.val t.isLt _ _ r l).trans (dite_congr rfl (fun h => ldv128 x r _) (fun h => ?_))
    exact ldn128 y4 r _
  · intro r l
    refine (kBlock128 t.val t.isLt _ _ r l).trans (dite_congr rfl (fun h => ldk128 x r _) (fun h => ?_))
    exact ldn128 y3 r _

theorem point15 (t : Fin cfg0.N) (k : Fin 2) (r : Fin 256) (l : Fin 512) : (dats (F := Ideal) m 0 c).after 15 t (ix4 0 k r l)
    = if h : l.val < 511 then (iblk m c 6 t : Vec Ideal S1x2x256x512 .f32) (ix4 0 k r ⟨l.val + 1, by omega⟩)
      else if k = 0 then (iblk m c 3 t : Vec Ideal S768x128 .f32) (ix2 ⟨r.val + 256, by omega⟩ t)
      else (iblk m c 4 t : Vec Ideal S768x128 .f32) (ix2 ⟨r.val + 256, by omega⟩ t) := by
  rw [after0_15]
  unfold out0_15 k0_pay50
  rw [at_step t]
  generalize (iblk m c 6 t : Vec Ideal S1x2x256x512 .f32) = x
  generalize (iblk m c 3 t : Vec Ideal S768x128 .f32) = y3
  generalize (iblk m c 4 t : Vec Ideal S768x128 .f32) = y4
  refine two512 _ _ (fun k r l => if h : l.val < 511 then x (ix4 0 k r ⟨l.val + 1, by omega⟩)
      else if k = 0 then y3 (ix2 ⟨r.val + 256, by omega⟩ t) else y4 (ix2 ⟨r.val + 256, by omega⟩ t)) ?_ ?_ k r l
  · intro r l
    refine (vBlock512 t.val t.isLt _ _ r l).trans (dite_congr rfl (fun h => ldv512 x r _) (fun h => ?_))
    exact ldn512 y4 r _
  · intro r l
    refine (kBlock512 t.val t.isLt _ _ r l).trans (dite_congr rfl (fun h => ldk512 x r _) (fun h => ?_))
    exact ldn512 y3 r _

theorem point16 (t : Fin cfg0.N) (k : Fin 2) (r : Fin 256) (l : Fin 2048) : (dats (F := Ideal) m 0 c).after 16 t (ix4 0 k r l)
    = if h : l.val < 2047 then (iblk m c 7 t : Vec Ideal S1x2x256x2048 .f32) (ix4 0 k r ⟨l.val + 1, by omega⟩)
      else if k = 0 then (iblk m c 3 t : Vec Ideal S768x128 .f32) (ix2 ⟨r.val + 512, by omega⟩ t)
      else (iblk m c 4 t : Vec Ideal S768x128 .f32) (ix2 ⟨r.val + 512, by omega⟩ t) := by
  rw [after0_16]
  unfold out0_16 k0_pay50
  rw [at_step t]
  generalize (iblk m c 7 t : Vec Ideal S1x2x256x2048 .f32) = x
  generalize (iblk m c 3 t : Vec Ideal S768x128 .f32) = y3
  generalize (iblk m c 4 t : Vec Ideal S768x128 .f32) = y4
  refine two2048 _ _ (fun k r l => if h : l.val < 2047 then x (ix4 0 k r ⟨l.val + 1, by omega⟩)
      else if k = 0 then y3 (ix2 ⟨r.val + 512, by omega⟩ t) else y4 (ix2 ⟨r.val + 512, by omega⟩ t)) ?_ ?_ k r l
  · intro r l
    refine (vBlock2048 t.val t.isLt _ _ r l).trans (dite_congr rfl (fun h => ldv2048 x r _) (fun h => ?_))
    exact ldn2048 y4 r _
  · intro r l
    refine (kBlock2048 t.val t.isLt _ _ r l).trans (dite_congr rfl (fun h => ldk2048 x r _) (fun h => ?_))
    exact ldn2048 y3 r _

end Cert.Kernel5Ideal.Value

end

end
-- ==== Proof.CacheFinal.lean ====
/- The decode call: the kept keys and values as the call leaves them, and the results of the program. -/
module

public import proofs.«01_k».proof.Proof.CacheKernel
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Rows

variable (m : (ℓ : Loc nD τ sig) → Buf (Elt Ideal) ℓ) (c : Dev nD)

theorem e_new1 (j : Fin 768) (n : Fin 128) : V m c main_v14 (ix2 j n) = m ((c : Thread nD τ).loc main_arg1) (ix4 n 0 ⟨j.val / 64, by omega⟩ ⟨j.val % 64, by omega⟩) := by
  show StableHlo.after (List.flatten [hostOps0]) _ (Proc.devRef .tc main_v14) _ = _
  simp only [List.flatten_cons, List.flatten_nil, List.append_nil]
  after_results
  pointwise []

theorem e_new2 (j : Fin 768) (n : Fin 128) : V m c main_v15 (ix2 j n) = m ((c : Thread nD τ).loc main_arg2) (ix4 n 0 ⟨j.val / 64, by omega⟩ ⟨j.val % 64, by omega⟩) := by
  show StableHlo.after (List.flatten [hostOps0]) _ (Proc.devRef .tc main_v15) _ = _
  simp only [List.flatten_cons, List.flatten_nil, List.append_nil]
  after_results
  pointwise []

theorem e_kept128 (n : Fin 128) (k : Fin 2) (r : Fin 256) (l : Fin 128) :
    V m c main_v6 (ix4 n k r l) = m ((c : Thread nD τ).loc main_arg3) (ix5 n l k ⟨r.val / 64, by omega⟩ ⟨r.val % 64, by omega⟩) := by
  show StableHlo.after (List.flatten [hostOps0]) _ (Proc.devRef .tc main_v6) _ = _
  simp only [List.flatten_cons, List.flatten_nil, List.append_nil]
  after_results
  pointwise []

theorem e_kept512 (n : Fin 128) (k : Fin 2) (r : Fin 256) (l : Fin 512) :
    V m c main_v8 (ix4 n k r l) = m ((c : Thread nD τ).loc main_arg4) (ix5 n l k ⟨r.val / 64, by omega⟩ ⟨r.val % 64, by omega⟩) := by
  show StableHlo.after (List.flatten [hostOps0]) _ (Proc.devRef .tc main_v8) _ = _
  simp only [List.flatten_cons, List.flatten_nil, List.append_nil]
  after_results
  pointwise []

theorem e_kept2048 (n : Fin 128) (k : Fin 2) (r : Fin 256) (l : Fin 2048) :
    V m c main_v10 (ix4 n k r l) = m ((c : Thread nD τ).loc main_arg5) (ix5 n l k ⟨r.val / 64, by omega⟩ ⟨r.val % 64, by omega⟩) := by
  show StableHlo.after (List.flatten [hostOps0]) _ (Proc.devRef .tc main_v10) _ = _
  simp only [List.flatten_cons, List.flatten_nil, List.append_nil]
  after_results
  pointwise []

theorem idx : ∀ t : Fin cfg0.N, win0_3.index t = ![0, 0]
    ∧ win0_4.index t = ![0, 0]
    ∧ win0_5.index t = ![(t : ℕ), 0, 0, 0]
    ∧ win0_6.index t = ![(t : ℕ), 0, 0, 0]
    ∧ win0_7.index t = ![(t : ℕ), 0, 0, 0]
    ∧ win0_14.index t = ![(t : ℕ), 0, 0, 0]
    ∧ win0_15.index t = ![(t : ℕ), 0, 0, 0]
    ∧ win0_16.index t = ![(t : ℕ), 0, 0, 0] := by decide +kernel

/-- The sample that step `t` serves. -/
def sample (t : Fin cfg0.N) : Fin 128 := t

theorem b_new1 (t : Fin cfg0.N) (j : Fin 768) (n : Fin 128) : iblk m c 3 t (ix2 j n) = V m c main_v14 (ix2 j n) := by
  unfold iblk
  generalize V m c = W
  blk_point [idx t]

theorem b_new2 (t : Fin cfg0.N) (j : Fin 768) (n : Fin 128) : iblk m c 4 t (ix2 j n) = V m c main_v15 (ix2 j n) := by
  unfold iblk
  generalize V m c = W
  blk_point [idx t]

theorem b_kept128 (t : Fin cfg0.N) (k : Fin 2) (r : Fin 256) (l : Fin 128) : iblk m c 5 t (ix4 0 k r l) = V m c main_v6 (ix4 (sample t) k r l) := by
  unfold iblk
  generalize V m c = W
  blk_point [idx t, sample]

/-- The kept keys and values of the heads of window 128, moved back by one position, the new ones last. -/
def kept128 : (⟨S128x2x256x128, .f32⟩ : BufTy).Contents (Elt Ideal) := fun i =>
  (fun (n : Fin 128) (k : Fin 2) (r : Fin 256) (l : Fin 128) =>
    if h : l.val < 127 then m ((c : Thread nD τ).loc main_arg3) (ix5 n ⟨l.val + 1, by omega⟩ k ⟨r.val / 64, by omega⟩ ⟨r.val % 64, by omega⟩)
    else if k = 0 then m ((c : Thread nD τ).loc main_arg1) (ix4 n 0 ⟨(r.val + 0) / 64, by omega⟩ ⟨(r.val + 0) % 64, by omega⟩)
    else m ((c : Thread nD τ).loc main_arg2) (ix4 n 0 ⟨(r.val + 0) / 64, by omega⟩ ⟨(r.val + 0) % 64, by omega⟩)) (i 0) (i 1) (i 2) (i 3)

theorem left_block14 (t : Fin cfg0.N) (k : Fin 2) (r : Fin 256) (l : Fin 128) :
    (dats m 0 c).after 14 t (ix4 0 k r l) = kept128 m c (ix4 (sample t) k r l) := by
  refine (point14 m c t k r l).trans ?_
  by_cases h : l.val < 127
  · rw [dif_pos h]
    exact ((b_kept128 m c t k r _).trans (e_kept128 m c (sample t) k r _)).trans (Eq.symm (dif_pos h))
  · rw [dif_neg h]
    by_cases hk : k = 0
    · rw [if_pos hk]
      exact (((b_new1 m c t _ t).trans (e_new1 m c _ _)).trans (Eq.symm (if_pos hk))).trans (Eq.symm (dif_neg h))
    · rw [if_neg hk]
      exact (((b_new2 m c t _ t).trans (e_new2 m c _ _)).trans (Eq.symm (if_neg hk))).trans (Eq.symm (dif_neg h))

theorem final14 : (dats m 0 c).arrAt 14 cfg0.N = kept128 m c := by
  refine (dats m 0 c).arrAt_eq_of_covers 14 _ (by decide +kernel) fun t _ (y : S1x2x256x128.Idx) => ?_
  blk_simp
  have hy : y = ix4 0 (y 1) (y 2) (y 3) := by funext a; fin_cases a <;> first | rfl | exact Subsingleton.elim (α := Fin 1) _ _
  have hi : ((View.whole main_v16_2).slice (win0_14.rect t)).emb y = ix4 (sample t) (y 1) (y 2) (y 3) := by
    blk_ext [idx t, sample]
  rw [hi]
  exact (congrArg _ hy).trans (left_block14 m c t (y 1) (y 2) (y 3))

theorem b_kept512 (t : Fin cfg0.N) (k : Fin 2) (r : Fin 256) (l : Fin 512) : iblk m c 6 t (ix4 0 k r l) = V m c main_v8 (ix4 (sample t) k r l) := by
  unfold iblk
  generalize V m c = W
  blk_point [idx t, sample]

/-- The kept keys and values of the heads of window 512, moved back by one position, the new ones last. -/
def kept512 : (⟨S128x2x256x512, .f32⟩ : BufTy).Contents (Elt Ideal) := fun i =>
  (fun (n : Fin 128) (k : Fin 2) (r : Fin 256) (l : Fin 512) =>
    if h : l.val < 511 then m ((c : Thread nD τ).loc main_arg4) (ix5 n ⟨l.val + 1, by omega⟩ k ⟨r.val / 64, by omega⟩ ⟨r.val % 64, by omega⟩)
    else if k = 0 then m ((c : Thread nD τ).loc main_arg1) (ix4 n 0 ⟨(r.val + 256) / 64, by omega⟩ ⟨(r.val + 256) % 64, by omega⟩)
    else m ((c : Thread nD τ).loc main_arg2) (ix4 n 0 ⟨(r.val + 256) / 64, by omega⟩ ⟨(r.val + 256) % 64, by omega⟩)) (i 0) (i 1) (i 2) (i 3)

theorem left_block15 (t : Fin cfg0.N) (k : Fin 2) (r : Fin 256) (l : Fin 512) :
    (dats m 0 c).after 15 t (ix4 0 k r l) = kept512 m c (ix4 (sample t) k r l) := by
  refine (point15 m c t k r l).trans ?_
  by_cases h : l.val < 511
  · rw [dif_pos h]
    exact ((b_kept512 m c t k r _).trans (e_kept512 m c (sample t) k r _)).trans (Eq.symm (dif_pos h))
  · rw [dif_neg h]
    by_cases hk : k = 0
    · rw [if_pos hk]
      exact (((b_new1 m c t _ t).trans (e_new1 m c _ _)).trans (Eq.symm (if_pos hk))).trans (Eq.symm (dif_neg h))
    · rw [if_neg hk]
      exact (((b_new2 m c t _ t).trans (e_new2 m c _ _)).trans (Eq.symm (if_neg hk))).trans (Eq.symm (dif_neg h))

theorem final15 : (dats m 0 c).arrAt 15 cfg0.N = kept512 m c := by
  refine (dats m 0 c).arrAt_eq_of_covers 15 _ (by decide +kernel) fun t _ (y : S1x2x256x512.Idx) => ?_
  blk_simp
  have hy : y = ix4 0 (y 1) (y 2) (y 3) := by funext a; fin_cases a <;> first | rfl | exact Subsingleton.elim (α := Fin 1) _ _
  have hi : ((View.whole main_v16_3).slice (win0_15.rect t)).emb y = ix4 (sample t) (y 1) (y 2) (y 3) := by
    blk_ext [idx t, sample]
  rw [hi]
  exact (congrArg _ hy).trans (left_block15 m c t (y 1) (y 2) (y 3))

theorem b_kept2048 (t : Fin cfg0.N) (k : Fin 2) (r : Fin 256) (l : Fin 2048) : iblk m c 7 t (ix4 0 k r l) = V m c main_v10 (ix4 (sample t) k r l) := by
  unfold iblk
  generalize V m c = W
  blk_point [idx t, sample]

/-- The kept keys and values of the heads of window 2048, moved back by one position, the new ones last. -/
def kept2048 : (⟨S128x2x256x2048, .f32⟩ : BufTy).Contents (Elt Ideal) := fun i =>
  (fun (n : Fin 128) (k : Fin 2) (r : Fin 256) (l : Fin 2048) =>
    if h : l.val < 2047 then m ((c : Thread nD τ).loc main_arg5) (ix5 n ⟨l.val + 1, by omega⟩ k ⟨r.val / 64, by omega⟩ ⟨r.val % 64, by omega⟩)
    else if k = 0 then m ((c : Thread nD τ).loc main_arg1) (ix4 n 0 ⟨(r.val + 512) / 64, by omega⟩ ⟨(r.val + 512) % 64, by omega⟩)
    else m ((c : Thread nD τ).loc main_arg2) (ix4 n 0 ⟨(r.val + 512) / 64, by omega⟩ ⟨(r.val + 512) % 64, by omega⟩)) (i 0) (i 1) (i 2) (i 3)

theorem left_block16 (t : Fin cfg0.N) (k : Fin 2) (r : Fin 256) (l : Fin 2048) :
    (dats m 0 c).after 16 t (ix4 0 k r l) = kept2048 m c (ix4 (sample t) k r l) := by
  refine (point16 m c t k r l).trans ?_
  by_cases h : l.val < 2047
  · rw [dif_pos h]
    exact ((b_kept2048 m c t k r _).trans (e_kept2048 m c (sample t) k r _)).trans (Eq.symm (dif_pos h))
  · rw [dif_neg h]
    by_cases hk : k = 0
    · rw [if_pos hk]
      exact (((b_new1 m c t _ t).trans (e_new1 m c _ _)).trans (Eq.symm (if_pos hk))).trans (Eq.symm (dif_neg h))
    · rw [if_neg hk]
      exact (((b_new2 m c t _ t).trans (e_new2 m c _ _)).trans (Eq.symm (if_neg hk))).trans (Eq.symm (dif_neg h))

theorem final16 : (dats m 0 c).arrAt 16 cfg0.N = kept2048 m c := by
  refine (dats m 0 c).arrAt_eq_of_covers 16 _ (by decide +kernel) fun t _ (y : S1x2x256x2048.Idx) => ?_
  blk_simp
  have hy : y = ix4 0 (y 1) (y 2) (y 3) := by funext a; fin_cases a <;> first | rfl | exact Subsingleton.elim (α := Fin 1) _ _
  have hi : ((View.whole main_v16_4).slice (win0_16.rect t)).emb y = ix4 (sample t) (y 1) (y 2) (y 3) := by
    blk_ext [idx t, sample]
  rw [hi]
  exact (congrArg _ hy).trans (left_block16 m c t (y 1) (y 2) (y 3))

/-- The arrays as the call leaves them. -/
def left : Valuation τ sig (Elt Ideal) :=
  Pipeline.withArrays (cfgs 0).spec c (V0 m c) fun w => (dats m 0 c).arrAt w (cfgs 0).N

theorem spec_inj : Function.Injective (Pipeline.arrRef (cfgs 0).spec) := by
  show Function.Injective (Pipeline.arrRef spec0)
  decide

theorem left14 : left m c (Proc.devRef .tc main_v16_2) = kept128 m c :=
  (Pipeline.withArrays_arr (cfgs 0).spec spec_inj c (V0 m c) (fun w => (dats m 0 c).arrAt w (cfgs 0).N) 14).trans (final14 m c)

theorem tail128 (n : Fin 128) (l : Fin 128) (k : Fin 2) (h : Fin 4) (d : Fin 64) :
    Pipeline.afterTail₀ cfgs (dats m) 0 (V0 m) [hostOps1] c main_v18 (ix5 n l k h d) = kept128 m c (ix4 n k ⟨h.val * 64 + d.val, by omega⟩ l) := by
  show StableHlo.after (List.flatten [hostOps1]) (left m c) (Proc.devRef .tc main_v18) (ix5 n l k h d) = _
  have h0 := left14 m c
  generalize left m c = W at h0 ⊢
  simp only [List.flatten_cons, List.flatten_nil, List.append_nil]
  after_reads_simp
  clean_types
  rw [h0]
  generalize kept128 m c = y
  pointwise []

theorem left15 : left m c (Proc.devRef .tc main_v16_3) = kept512 m c :=
  (Pipeline.withArrays_arr (cfgs 0).spec spec_inj c (V0 m c) (fun w => (dats m 0 c).arrAt w (cfgs 0).N) 15).trans (final15 m c)

theorem tail512 (n : Fin 128) (l : Fin 512) (k : Fin 2) (h : Fin 4) (d : Fin 64) :
    Pipeline.afterTail₀ cfgs (dats m) 0 (V0 m) [hostOps1] c main_v20 (ix5 n l k h d) = kept512 m c (ix4 n k ⟨h.val * 64 + d.val, by omega⟩ l) := by
  show StableHlo.after (List.flatten [hostOps1]) (left m c) (Proc.devRef .tc main_v20) (ix5 n l k h d) = _
  have h0 := left15 m c
  generalize left m c = W at h0 ⊢
  simp only [List.flatten_cons, List.flatten_nil, List.append_nil]
  after_reads_simp
  clean_types
  rw [h0]
  generalize kept512 m c = y
  pointwise []

theorem left16 : left m c (Proc.devRef .tc main_v16_4) = kept2048 m c :=
  (Pipeline.withArrays_arr (cfgs 0).spec spec_inj c (V0 m c) (fun w => (dats m 0 c).arrAt w (cfgs 0).N) 16).trans (final16 m c)

theorem tail2048 (n : Fin 128) (l : Fin 2048) (k : Fin 2) (h : Fin 4) (d : Fin 64) :
    Pipeline.afterTail₀ cfgs (dats m) 0 (V0 m) [hostOps1] c main_v22 (ix5 n l k h d) = kept2048 m c (ix4 n k ⟨h.val * 64 + d.val, by omega⟩ l) := by
  show StableHlo.after (List.flatten [hostOps1]) (left m c) (Proc.devRef .tc main_v22) (ix5 n l k h d) = _
  have h0 := left16 m c
  generalize left m c = W at h0 ⊢
  simp only [List.flatten_cons, List.flatten_nil, List.append_nil]
  after_reads_simp
  clean_types
  rw [h0]
  generalize kept2048 m c = y
  pointwise []

end Cert.Kernel5Ideal.Value

end

end
-- ==== Proof.CacheRef.lean ====
/- The reference of the kept keys and values, entry by entry. -/
module

public import proofs.«01_k».proof.Proof.Rows
public import proofs.«01_k».proof.Proof.Gen.Reference5Ideal.Run
public import proofs.«01_k».proof.Proof.Gen.Reference5Ideal.Read
public import Idealize.ShloMosaic.Lib.StableHlo.ReadAt

@[expose] public section

set_option maxRecDepth 16384

noncomputable section

open Idealize.ShloMosaic Idealize.ShloMosaic.TcCoe Idealize.SL.Sem

namespace Cert.Reference5Ideal.Value

open Cert.Reference5Ideal Cert.Reference5Ideal.Gen Cert.Rows Cert.Reference5Ideal.Read

theorem at_head (x : FVec Ideal S128x1x12x64 .f32) (n : Fin 128) (u v : Fin 1) (a b : Fin 12) (d : Fin 64) (e : a.val = b.val) :
    x (ix4 n u a d) = x (ix4 n v b d) := by
  obtain rfl := Fin.ext e
  rw [Subsingleton.elim u v]

variable (x1 x2 : FVec Ideal S128x1x12x64 .f32)

theorem k_old128 (x : FVec Ideal S128x128x2x4x64 .f32) (n : Fin 128) (l : Fin 129) (h : Fin 4) (d : Fin 64) (hl : l.val < 128) :
    val_main_v3 (F := Ideal) x1 x (ix4 n l h d) = x (ix5 n ⟨l.val, hl⟩ 0 h d) := by
  pointwise [val_main_v3, val_main_v0, val_main_v1, val_main_v2]
  exact dif_pos hl

theorem k_new128 (x : FVec Ideal S128x128x2x4x64 .f32) (n : Fin 128) (l : Fin 129) (h : Fin 4) (d : Fin 64) (hl : ¬ l.val < 128) :
    val_main_v3 (F := Ideal) x1 x (ix4 n l h d) = x1 (ix4 n 0 ⟨h.val + 0, by omega⟩ d) := by
  pointwise [val_main_v3, val_main_v0, val_main_v1, val_main_v2]
  exact (dif_neg hl).trans (at_head x1 n _ _ _ _ d (by show h.val = h.val + 0; omega))

theorem k_row128 (x : FVec Ideal S128x128x2x4x64 .f32) (n : Fin 128) (l : Fin 128) (h : Fin 4) (d : Fin 64) :
    val_main_v8 (F := Ideal) x1 x (ix4 n l h d)
      = if hl : l.val < 127 then x (ix5 n ⟨l.val + 1, by omega⟩ 0 h d) else x1 (ix4 n 0 ⟨h.val + 0, by omega⟩ d) := by
  have e : val_main_v8 (F := Ideal) x1 x (ix4 n l h d) = val_main_v3 (F := Ideal) x1 x (ix4 n ⟨l.val + 1, by omega⟩ h d) := by
    unfold val_main_v8
    generalize val_main_v3 (F := Ideal) x1 x = y
    pointwise []
    exact congrArg y (congrArg (fun u => ix4 n u h d) (Fin.ext (Nat.add_comm _ _)))
  rw [e]
  by_cases hl : l.val < 127
  · rw [dif_pos hl, k_old128 x1 x n _ h d (by show l.val + 1 < 128; omega)]
  · rw [dif_neg hl, k_new128 x1 x n _ h d (by show ¬ l.val + 1 < 128; omega)]

theorem v_old128 (x : FVec Ideal S128x128x2x4x64 .f32) (n : Fin 128) (l : Fin 129) (h : Fin 4) (d : Fin 64) (hl : l.val < 128) :
    val_main_v7 (F := Ideal) x2 x (ix4 n l h d) = x (ix5 n ⟨l.val, hl⟩ 1 h d) := by
  pointwise [val_main_v7, val_main_v4, val_main_v5, val_main_v6]
  exact dif_pos hl

theorem v_new128 (x : FVec Ideal S128x128x2x4x64 .f32) (n : Fin 128) (l : Fin 129) (h : Fin 4) (d : Fin 64) (hl : ¬ l.val < 128) :
    val_main_v7 (F := Ideal) x2 x (ix4 n l h d) = x2 (ix4 n 0 ⟨h.val + 0, by omega⟩ d) := by
  pointwise [val_main_v7, val_main_v4, val_main_v5, val_main_v6]
  exact (dif_neg hl).trans (at_head x2 n _ _ _ _ d (by show h.val = h.val + 0; omega))

theorem v_row128 (x : FVec Ideal S128x128x2x4x64 .f32) (n : Fin 128) (l : Fin 128) (h : Fin 4) (d : Fin 64) :
    val_main_v9 (F := Ideal) x2 x (ix4 n l h d)
      = if hl : l.val < 127 then x (ix5 n ⟨l.val + 1, by omega⟩ 1 h d) else x2 (ix4 n 0 ⟨h.val + 0, by omega⟩ d) := by
  have e : val_main_v9 (F := Ideal) x2 x (ix4 n l h d) = val_main_v7 (F := Ideal) x2 x (ix4 n ⟨l.val + 1, by omega⟩ h d) := by
    unfold val_main_v9
    generalize val_main_v7 (F := Ideal) x2 x = y
    pointwise []
    exact congrArg y (congrArg (fun u => ix4 n u h d) (Fin.ext (Nat.add_comm _ _)))
  rw [e]
  by_cases hl : l.val < 127
  · rw [dif_pos hl, v_old128 x2 x n _ h d (by show l.val + 1 < 128; omega)]
  · rw [dif_neg hl, v_new128 x2 x n _ h d (by show ¬ l.val + 1 < 128; omega)]

/-- The kept keys and values of the heads of window 128: every position but the first, and the new one. -/
def moved128 (x : FVec Ideal S128x128x2x4x64 .f32) : FVec Ideal S128x128x2x4x64 .f32 := fun i =>
  (fun (n : Fin 128) (l : Fin 128) (k : Fin 2) (h : Fin 4) (d : Fin 64) =>
    if hl : l.val < 127 then x (ix5 n ⟨l.val + 1, by omega⟩ k h d)
    else if k = 0 then x1 (ix4 n 0 ⟨h.val + 0, by omega⟩ d) else x2 (ix4 n 0 ⟨h.val + 0, by omega⟩ d)) (i 0) (i 1) (i 2) (i 3) (i 4)

theorem moved128_apply (x : FVec Ideal S128x128x2x4x64 .f32) (n : Fin 128) (l : Fin 128) (k : Fin 2) (h : Fin 4) (d : Fin 64) :
    val_main_v12 (F := Ideal) x1 x2 x (ix5 n l k h d) = moved128 x1 x2 x (ix5 n l k h d) := by
  have hk := k_row128 x1 x n l h d
  have hv := v_row128 x2 x n l h d
  unfold val_main_v12 val_main_v10 val_main_v11
  generalize val_main_v8 (F := Ideal) x1 x = yk at hk ⊢
  generalize val_main_v9 (F := Ideal) x2 x = yv at hv ⊢
  pointwise []
  match k with
  | ⟨0, _⟩ => exact hk
  | ⟨1, _⟩ => exact hv

theorem moved128_whole (x : FVec Ideal S128x128x2x4x64 .f32) (y1 y2 : FVec Ideal S128x1x12x64 .f32) (y : FVec Ideal S128x128x2x4x64 .f32) (h1 : x1 = y1) (h2 : x2 = y2) (h : x = y) :
    val_main_v12 (F := Ideal) x1 x2 x = moved128 y1 y2 y := by
  subst h1 h2 h
  funext i
  obtain ⟨n, l, k, h, d, rfl⟩ : ∃ (n : Fin 128) (l : Fin 128) (k : Fin 2) (h : Fin 4) (d : Fin 64), i = ix5 n l k h d :=
    ⟨i 0, i 1, i 2, i 3, i 4, by funext a; fin_cases a <;> rfl⟩
  exact moved128_apply x1 x2 x n l k h d

theorem k_old512 (x : FVec Ideal S128x512x2x4x64 .f32) (n : Fin 128) (l : Fin 513) (h : Fin 4) (d : Fin 64) (hl : l.val < 512) :
    val_main_v16 (F := Ideal) x1 x (ix4 n l h d) = x (ix5 n ⟨l.val, hl⟩ 0 h d) := by
  pointwise [val_main_v16, val_main_v13, val_main_v14, val_main_v15]
  exact dif_pos hl

theorem k_new512 (x : FVec Ideal S128x512x2x4x64 .f32) (n : Fin 128) (l : Fin 513) (h : Fin 4) (d : Fin 64) (hl : ¬ l.val < 512) :
    val_main_v16 (F := Ideal) x1 x (ix4 n l h d) = x1 (ix4 n 0 ⟨h.val + 4, by omega⟩ d) := by
  pointwise [val_main_v16, val_main_v13, val_main_v14, val_main_v15]
  exact (dif_neg hl).trans (at_head x1 n _ _ _ _ d (by show 4 + h.val = h.val + 4; omega))

theorem k_row512 (x : FVec Ideal S128x512x2x4x64 .f32) (n : Fin 128) (l : Fin 512) (h : Fin 4) (d : Fin 64) :
    val_main_v21 (F := Ideal) x1 x (ix4 n l h d)
      = if hl : l.val < 511 then x (ix5 n ⟨l.val + 1, by omega⟩ 0 h d) else x1 (ix4 n 0 ⟨h.val + 4, by omega⟩ d) := by
  have e : val_main_v21 (F := Ideal) x1 x (ix4 n l h d) = val_main_v16 (F := Ideal) x1 x (ix4 n ⟨l.val + 1, by omega⟩ h d) := by
    unfold val_main_v21
    generalize val_main_v16 (F := Ideal) x1 x = y
    pointwise []
    exact congrArg y (congrArg (fun u => ix4 n u h d) (Fin.ext (Nat.add_comm _ _)))
  rw [e]
  by_cases hl : l.val < 511
  · rw [dif_pos hl, k_old512 x1 x n _ h d (by show l.val + 1 < 512; omega)]
  · rw [dif_neg hl, k_new512 x1 x n _ h d (by show ¬ l.val + 1 < 512; omega)]

theorem v_old512 (x : FVec Ideal S128x512x2x4x64 .f32) (n : Fin 128) (l : Fin 513) (h : Fin 4) (d : Fin 64) (hl : l.val < 512) :
    val_main_v20 (F := Ideal) x2 x (ix4 n l h d) = x (ix5 n ⟨l.val, hl⟩ 1 h d) := by
  pointwise [val_main_v20, val_main_v17, val_main_v18, val_main_v19]
  exact dif_pos hl

theorem v_new512 (x : FVec Ideal S128x512x2x4x64 .f32) (n : Fin 128) (l : Fin 513) (h : Fin 4) (d : Fin 64) (hl : ¬ l.val < 512) :
    val_main_v20 (F := Ideal) x2 x (ix4 n l h d) = x2 (ix4 n 0 ⟨h.val + 4, by omega⟩ d) := by
  pointwise [val_main_v20, val_main_v17, val_main_v18, val_main_v19]
  exact (dif_neg hl).trans (at_head x2 n _ _ _ _ d (by show 4 + h.val = h.val + 4; omega))

theorem v_row512 (x : FVec Ideal S128x512x2x4x64 .f32) (n : Fin 128) (l : Fin 512) (h : Fin 4) (d : Fin 64) :
    val_main_v22 (F := Ideal) x2 x (ix4 n l h d)
      = if hl : l.val < 511 then x (ix5 n ⟨l.val + 1, by omega⟩ 1 h d) else x2 (ix4 n 0 ⟨h.val + 4, by omega⟩ d) := by
  have e : val_main_v22 (F := Ideal) x2 x (ix4 n l h d) = val_main_v20 (F := Ideal) x2 x (ix4 n ⟨l.val + 1, by omega⟩ h d) := by
    unfold val_main_v22
    generalize val_main_v20 (F := Ideal) x2 x = y
    pointwise []
    exact congrArg y (congrArg (fun u => ix4 n u h d) (Fin.ext (Nat.add_comm _ _)))
  rw [e]
  by_cases hl : l.val < 511
  · rw [dif_pos hl, v_old512 x2 x n _ h d (by show l.val + 1 < 512; omega)]
  · rw [dif_neg hl, v_new512 x2 x n _ h d (by show ¬ l.val + 1 < 512; omega)]

/-- The kept keys and values of the heads of window 512: every position but the first, and the new one. -/
def moved512 (x : FVec Ideal S128x512x2x4x64 .f32) : FVec Ideal S128x512x2x4x64 .f32 := fun i =>
  (fun (n : Fin 128) (l : Fin 512) (k : Fin 2) (h : Fin 4) (d : Fin 64) =>
    if hl : l.val < 511 then x (ix5 n ⟨l.val + 1, by omega⟩ k h d)
    else if k = 0 then x1 (ix4 n 0 ⟨h.val + 4, by omega⟩ d) else x2 (ix4 n 0 ⟨h.val + 4, by omega⟩ d)) (i 0) (i 1) (i 2) (i 3) (i 4)

theorem moved512_apply (x : FVec Ideal S128x512x2x4x64 .f32) (n : Fin 128) (l : Fin 512) (k : Fin 2) (h : Fin 4) (d : Fin 64) :
    val_main_v25 (F := Ideal) x1 x2 x (ix5 n l k h d) = moved512 x1 x2 x (ix5 n l k h d) := by
  have hk := k_row512 x1 x n l h d
  have hv := v_row512 x2 x n l h d
  unfold val_main_v25 val_main_v23 val_main_v24
  generalize val_main_v21 (F := Ideal) x1 x = yk at hk ⊢
  generalize val_main_v22 (F := Ideal) x2 x = yv at hv ⊢
  pointwise []
  match k with
  | ⟨0, _⟩ => exact hk
  | ⟨1, _⟩ => exact hv

theorem moved512_whole (x : FVec Ideal S128x512x2x4x64 .f32) (y1 y2 : FVec Ideal S128x1x12x64 .f32) (y : FVec Ideal S128x512x2x4x64 .f32) (h1 : x1 = y1) (h2 : x2 = y2) (h : x = y) :
    val_main_v25 (F := Ideal) x1 x2 x = moved512 y1 y2 y := by
  subst h1 h2 h
  funext i
  obtain ⟨n, l, k, h, d, rfl⟩ : ∃ (n : Fin 128) (l : Fin 512) (k : Fin 2) (h : Fin 4) (d : Fin 64), i = ix5 n l k h d :=
    ⟨i 0, i 1, i 2, i 3, i 4, by funext a; fin_cases a <;> rfl⟩
  exact moved512_apply x1 x2 x n l k h d

theorem k_old2048 (x : FVec Ideal S128x2048x2x4x64 .f32) (n : Fin 128) (l : Fin 2049) (h : Fin 4) (d : Fin 64) (hl : l.val < 2048) :
    val_main_v29 (F := Ideal) x1 x (ix4 n l h d) = x (ix5 n ⟨l.val, hl⟩ 0 h d) := by
  pointwise [val_main_v29, val_main_v26, val_main_v27, val_main_v28]
  exact dif_pos hl

theorem k_new2048 (x : FVec Ideal S128x2048x2x4x64 .f32) (n : Fin 128) (l : Fin 2049) (h : Fin 4) (d : Fin 64) (hl : ¬ l.val < 2048) :
    val_main_v29 (F := Ideal) x1 x (ix4 n l h d) = x1 (ix4 n 0 ⟨h.val + 8, by omega⟩ d) := by
  pointwise [val_main_v29, val_main_v26, val_main_v27, val_main_v28]
  exact (dif_neg hl).trans (at_head x1 n _ _ _ _ d (by show 8 + h.val = h.val + 8; omega))

theorem k_row2048 (x : FVec Ideal S128x2048x2x4x64 .f32) (n : Fin 128) (l : Fin 2048) (h : Fin 4) (d : Fin 64) :
    val_main_v34 (F := Ideal) x1 x (ix4 n l h d)
      = if hl : l.val < 2047 then x (ix5 n ⟨l.val + 1, by omega⟩ 0 h d) else x1 (ix4 n 0 ⟨h.val + 8, by omega⟩ d) := by
  have e : val_main_v34 (F := Ideal) x1 x (ix4 n l h d) = val_main_v29 (F := Ideal) x1 x (ix4 n ⟨l.val + 1, by omega⟩ h d) := by
    unfold val_main_v34
    generalize val_main_v29 (F := Ideal) x1 x = y
    pointwise []
    exact congrArg y (congrArg (fun u => ix4 n u h d) (Fin.ext (Nat.add_comm _ _)))
  rw [e]
  by_cases hl : l.val < 2047
  · rw [dif_pos hl, k_old2048 x1 x n _ h d (by show l.val + 1 < 2048; omega)]
  · rw [dif_neg hl, k_new2048 x1 x n _ h d (by show ¬ l.val + 1 < 2048; omega)]

theorem v_old2048 (x : FVec Ideal S128x2048x2x4x64 .f32) (n : Fin 128) (l : Fin 2049) (h : Fin 4) (d : Fin 64) (hl : l.val < 2048) :
    val_main_v33 (F := Ideal) x2 x (ix4 n l h d) = x (ix5 n ⟨l.val, hl⟩ 1 h d) := by
  pointwise [val_main_v33, val_main_v30, val_main_v31, val_main_v32]
  exact dif_pos hl

theorem v_new2048 (x : FVec Ideal S128x2048x2x4x64 .f32) (n : Fin 128) (l : Fin 2049) (h : Fin 4) (d : Fin 64) (hl : ¬ l.val < 2048) :
    val_main_v33 (F := Ideal) x2 x (ix4 n l h d) = x2 (ix4 n 0 ⟨h.val + 8, by omega⟩ d) := by
  pointwise [val_main_v33, val_main_v30, val_main_v31, val_main_v32]
  exact (dif_neg hl).trans (at_head x2 n _ _ _ _ d (by show 8 + h.val = h.val + 8; omega))

theorem v_row2048 (x : FVec Ideal S128x2048x2x4x64 .f32) (n : Fin 128) (l : Fin 2048) (h : Fin 4) (d : Fin 64) :
    val_main_v35 (F := Ideal) x2 x (ix4 n l h d)
      = if hl : l.val < 2047 then x (ix5 n ⟨l.val + 1, by omega⟩ 1 h d) else x2 (ix4 n 0 ⟨h.val + 8, by omega⟩ d) := by
  have e : val_main_v35 (F := Ideal) x2 x (ix4 n l h d) = val_main_v33 (F := Ideal) x2 x (ix4 n ⟨l.val + 1, by omega⟩ h d) := by
    unfold val_main_v35
    generalize val_main_v33 (F := Ideal) x2 x = y
    pointwise []
    exact congrArg y (congrArg (fun u => ix4 n u h d) (Fin.ext (Nat.add_comm _ _)))
  rw [e]
  by_cases hl : l.val < 2047
  · rw [dif_pos hl, v_old2048 x2 x n _ h d (by show l.val + 1 < 2048; omega)]
  · rw [dif_neg hl, v_new2048 x2 x n _ h d (by show ¬ l.val + 1 < 2048; omega)]

/-- The kept keys and values of the heads of window 2048: every position but the first, and the new one. -/
def moved2048 (x : FVec Ideal S128x2048x2x4x64 .f32) : FVec Ideal S128x2048x2x4x64 .f32 := fun i =>
  (fun (n : Fin 128) (l : Fin 2048) (k : Fin 2) (h : Fin 4) (d : Fin 64) =>
    if hl : l.val < 2047 then x (ix5 n ⟨l.val + 1, by omega⟩ k h d)
    else if k = 0 then x1 (ix4 n 0 ⟨h.val + 8, by omega⟩ d) else x2 (ix4 n 0 ⟨h.val + 8, by omega⟩ d)) (i 0) (i 1) (i 2) (i 3) (i 4)

theorem moved2048_apply (x : FVec Ideal S128x2048x2x4x64 .f32) (n : Fin 128) (l : Fin 2048) (k : Fin 2) (h : Fin 4) (d : Fin 64) :
    val_main_v38 (F := Ideal) x1 x2 x (ix5 n l k h d) = moved2048 x1 x2 x (ix5 n l k h d) := by
  have hk := k_row2048 x1 x n l h d
  have hv := v_row2048 x2 x n l h d
  unfold val_main_v38 val_main_v36 val_main_v37
  generalize val_main_v34 (F := Ideal) x1 x = yk at hk ⊢
  generalize val_main_v35 (F := Ideal) x2 x = yv at hv ⊢
  pointwise []
  match k with
  | ⟨0, _⟩ => exact hk
  | ⟨1, _⟩ => exact hv

theorem moved2048_whole (x : FVec Ideal S128x2048x2x4x64 .f32) (y1 y2 : FVec Ideal S128x1x12x64 .f32) (y : FVec Ideal S128x2048x2x4x64 .f32) (h1 : x1 = y1) (h2 : x2 = y2) (h : x = y) :
    val_main_v38 (F := Ideal) x1 x2 x = moved2048 y1 y2 y := by
  subst h1 h2 h
  funext i
  obtain ⟨n, l, k, h, d, rfl⟩ : ∃ (n : Fin 128) (l : Fin 2048) (k : Fin 2) (h : Fin 4) (d : Fin 64), i = ix5 n l k h d :=
    ⟨i 0, i 1, i 2, i 3, i 4, by funext a; fin_cases a <;> rfl⟩
  exact moved2048_apply x1 x2 x n l k h d

end Cert.Reference5Ideal.Value

end

end
-- ==== Proof.CacheBoth.lean ====
/- The kept keys and values of the decode call and of its reference, entry against entry. -/
module

public import proofs.«01_k».proof.Defs
public import proofs.«01_k».proof.Proof.CacheFinal
public import proofs.«01_k».proof.Proof.CacheRef
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Rows

section

variable (m : (ℓ : Loc nD τ sig) → Buf (Elt Ideal) ℓ) (c : Dev nD)

theorem at_heads (x : Vec Ideal S128x1x12x64 .f32) (n : Fin 128) (a a' : Fin 12) (d d' : Fin 64) (e : a.val = a'.val) (f : d.val = d'.val) :
    x (ix4 n 0 a d) = x (ix4 n 0 a' d') := by
  obtain rfl := Fin.ext e
  obtain rfl := Fin.ext f
  rfl

theorem at_kept128 (x : Vec Ideal S128x128x2x4x64 .f32) (n : Fin 128) (l : Fin 128) (k : Fin 2) (a a' : Fin 4) (d d' : Fin 64) (e : a.val = a'.val) (f : d.val = d'.val) :
    x (ix5 n l k a d) = x (ix5 n l k a' d') := by
  obtain rfl := Fin.ext e
  obtain rfl := Fin.ext f
  rfl

theorem movedLeft128 : Pipeline.afterTail₀ cfgs (dats m) 0 (V0 m) [hostOps1] c main_v18
    = Cert.Reference5Ideal.Value.moved128 (m ((c : Thread nD τ).loc main_arg1)) (m ((c : Thread nD τ).loc main_arg2)) (m ((c : Thread nD τ).loc main_arg3)) := by
  funext i
  obtain ⟨n, l, k, h, d, rfl⟩ : ∃ (n : Fin 128) (l : Fin 128) (k : Fin 2) (h : Fin 4) (d : Fin 64), i = ix5 n l k h d :=
    ⟨i 0, i 1, i 2, i 3, i 4, by funext a; fin_cases a <;> rfl⟩
  refine (tail128 m c n l k h d).trans ?_
  by_cases hl : l.val < 127
  · exact ((show kept128 m c (ix4 n k ⟨h.val * 64 + d.val, by omega⟩ l) = _ from dif_pos hl).trans
      (at_kept128 _ n _ k _ h _ d (by show (h.val * 64 + d.val) / 64 = h.val; omega) (by show (h.val * 64 + d.val) % 64 = d.val; omega))).trans (Eq.symm (dif_pos hl))
  · refine Eq.trans (Eq.trans (show kept128 m c (ix4 n k ⟨h.val * 64 + d.val, by omega⟩ l) = _ from dif_neg hl) ?_) (Eq.symm (dif_neg hl))
    by_cases hk : k = 0
    · exact ((if_pos hk).trans (at_heads _ n _ _ _ d (by show (h.val * 64 + d.val + 0) / 64 = h.val + 0; omega)
        (by show (h.val * 64 + d.val + 0) % 64 = d.val; omega))).trans (Eq.symm (if_pos hk))
    · exact ((if_neg hk).trans (at_heads _ n _ _ _ d (by show (h.val * 64 + d.val + 0) / 64 = h.val + 0; omega)
        (by show (h.val * 64 + d.val + 0) % 64 = d.val; omega))).trans (Eq.symm (if_neg hk))

theorem at_kept512 (x : Vec Ideal S128x512x2x4x64 .f32) (n : Fin 128) (l : Fin 512) (k : Fin 2) (a a' : Fin 4) (d d' : Fin 64) (e : a.val = a'.val) (f : d.val = d'.val) :
    x (ix5 n l k a d) = x (ix5 n l k a' d') := by
  obtain rfl := Fin.ext e
  obtain rfl := Fin.ext f
  rfl

theorem movedLeft512 : Pipeline.afterTail₀ cfgs (dats m) 0 (V0 m) [hostOps1] c main_v20
    = Cert.Reference5Ideal.Value.moved512 (m ((c : Thread nD τ).loc main_arg1)) (m ((c : Thread nD τ).loc main_arg2)) (m ((c : Thread nD τ).loc main_arg4)) := by
  funext i
  obtain ⟨n, l, k, h, d, rfl⟩ : ∃ (n : Fin 128) (l : Fin 512) (k : Fin 2) (h : Fin 4) (d : Fin 64), i = ix5 n l k h d :=
    ⟨i 0, i 1, i 2, i 3, i 4, by funext a; fin_cases a <;> rfl⟩
  refine (tail512 m c n l k h d).trans ?_
  by_cases hl : l.val < 511
  · exact ((show kept512 m c (ix4 n k ⟨h.val * 64 + d.val, by omega⟩ l) = _ from dif_pos hl).trans
      (at_kept512 _ n _ k _ h _ d (by show (h.val * 64 + d.val) / 64 = h.val; omega) (by show (h.val * 64 + d.val) % 64 = d.val; omega))).trans (Eq.symm (dif_pos hl))
  · refine Eq.trans (Eq.trans (show kept512 m c (ix4 n k ⟨h.val * 64 + d.val, by omega⟩ l) = _ from dif_neg hl) ?_) (Eq.symm (dif_neg hl))
    by_cases hk : k = 0
    · exact ((if_pos hk).trans (at_heads _ n _ _ _ d (by show (h.val * 64 + d.val + 256) / 64 = h.val + 4; omega)
        (by show (h.val * 64 + d.val + 256) % 64 = d.val; omega))).trans (Eq.symm (if_pos hk))
    · exact ((if_neg hk).trans (at_heads _ n _ _ _ d (by show (h.val * 64 + d.val + 256) / 64 = h.val + 4; omega)
        (by show (h.val * 64 + d.val + 256) % 64 = d.val; omega))).trans (Eq.symm (if_neg hk))

theorem at_kept2048 (x : Vec Ideal S128x2048x2x4x64 .f32) (n : Fin 128) (l : Fin 2048) (k : Fin 2) (a a' : Fin 4) (d d' : Fin 64) (e : a.val = a'.val) (f : d.val = d'.val) :
    x (ix5 n l k a d) = x (ix5 n l k a' d') := by
  obtain rfl := Fin.ext e
  obtain rfl := Fin.ext f
  rfl

theorem movedLeft2048 : Pipeline.afterTail₀ cfgs (dats m) 0 (V0 m) [hostOps1] c main_v22
    = Cert.Reference5Ideal.Value.moved2048 (m ((c : Thread nD τ).loc main_arg1)) (m ((c : Thread nD τ).loc main_arg2)) (m ((c : Thread nD τ).loc main_arg5)) := by
  funext i
  obtain ⟨n, l, k, h, d, rfl⟩ : ∃ (n : Fin 128) (l : Fin 2048) (k : Fin 2) (h : Fin 4) (d : Fin 64), i = ix5 n l k h d :=
    ⟨i 0, i 1, i 2, i 3, i 4, by funext a; fin_cases a <;> rfl⟩
  refine (tail2048 m c n l k h d).trans ?_
  by_cases hl : l.val < 2047
  · exact ((show kept2048 m c (ix4 n k ⟨h.val * 64 + d.val, by omega⟩ l) = _ from dif_pos hl).trans
      (at_kept2048 _ n _ k _ h _ d (by show (h.val * 64 + d.val) / 64 = h.val; omega) (by show (h.val * 64 + d.val) % 64 = d.val; omega))).trans (Eq.symm (dif_pos hl))
  · refine Eq.trans (Eq.trans (show kept2048 m c (ix4 n k ⟨h.val * 64 + d.val, by omega⟩ l) = _ from dif_neg hl) ?_) (Eq.symm (dif_neg hl))
    by_cases hk : k = 0
    · exact ((if_pos hk).trans (at_heads _ n _ _ _ d (by show (h.val * 64 + d.val + 512) / 64 = h.val + 8; omega)
        (by show (h.val * 64 + d.val + 512) % 64 = d.val; omega))).trans (Eq.symm (if_pos hk))
    · exact ((if_neg hk).trans (at_heads _ n _ _ _ d (by show (h.val * 64 + d.val + 512) / 64 = h.val + 8; omega)
        (by show (h.val * 64 + d.val + 512) % 64 = d.val; omega))).trans (Eq.symm (if_neg hk))

end

attribute [local instance] Cert.Kernel5Ideal.Gen.facts Cert.Reference5Ideal.Gen.facts

/-- Both programs end with the same kept keys and values. -/
theorem algebraic : Cert.algebraic_Kernel5Ideal_Reference5Ideal := by
  intro m g m' g' hpre hagree
  refine ⟨fun c => Cert.Reference5Ideal.Value.moved128 (m ((c : Thread nD τ).loc main_arg1)) (m ((c : Thread nD τ).loc main_arg2)) (m ((c : Thread nD τ).loc main_arg3)),
    fun c => Cert.Reference5Ideal.Value.moved512 (m ((c : Thread nD τ).loc main_arg1)) (m ((c : Thread nD τ).loc main_arg2)) (m ((c : Thread nD τ).loc main_arg4)),
    fun c => Cert.Reference5Ideal.Value.moved2048 (m ((c : Thread nD τ).loc main_arg1)) (m ((c : Thread nD τ).loc main_arg2)) (m ((c : Thread nD τ).loc main_arg5)), ?_, ?_⟩
  · refine (θ_run _ _ _).mono (fun r h c => ?_) (θ_run_and (Cert.Kernel5Ideal.Gen.run_main m g) (Cert.Kernel5Ideal.Gen.unchanged m g))
    obtain ⟨h, u⟩ := h
    have rest := fun (b : Ref sig .tc) hu hs => (h c).2 b (Pipeline.mem_restRefs_of b hu hs)
    exact ⟨(rest main_v18 (by decide) (by decide)).trans (movedLeft128 m c), (rest main_v20 (by decide) (by decide)).trans (movedLeft512 m c), (rest main_v22 (by decide) (by decide)).trans (movedLeft2048 m c), u c⟩
  · refine (θ_run _ _ _).mono (fun r h c => ?_) (Cert.Reference5Ideal.Value.run m' g')
    obtain ⟨h0, h1, h2, h3, h4, h5, _⟩ := hagree c
    obtain ⟨r0, r1, r2, ra⟩ := h c
    exact ⟨r0.trans ((Cert.Reference5Ideal.Read.val_main_v12_eq _ _ _).trans (Cert.Reference5Ideal.Value.moved128_whole _ _ _ _ _ _ h1 h2 h3)),
      r1.trans ((Cert.Reference5Ideal.Read.val_main_v25_eq _ _ _).trans (Cert.Reference5Ideal.Value.moved512_whole _ _ _ _ _ _ h1 h2 h4)),
      r2.trans ((Cert.Reference5Ideal.Read.val_main_v38_eq _ _ _).trans (Cert.Reference5Ideal.Value.moved2048_whole _ _ _ _ _ _ h1 h2 h5)), ra⟩

end Cert.Kernel5Ideal.Value

end

end
-- ==== Proof.SconvRows.lean ====
/- The convolution of one channel, and the normalised gate, as functions of rows. -/
module

public import proofs.«01_k».proof.Proof.Rows

@[expose] public section

set_option maxRecDepth 16384

noncomputable section

open Idealize.ShloMosaic

namespace Cert.Rows

/-- One channel of the convolution: thirty kept rows and the new one, weighted, added to the bias. -/
def conv (x : Fin 30 → EReal) (z : EReal) (w : Fin 31 → EReal) (b : EReal) : EReal :=
  (∑ t : Fin 30, x t * w ⟨t.val, by omega⟩) + z * w 30 + b

/-- A row shifted to mean zero, divided by its deviation, times a gain plus a shift. -/
def lnorm (y g b : Fin 1024 → EReal) (j : Fin 1024) : EReal :=
  (y j - Ideal.div (∑ k, y k) (Ideal.ofBits FTy.f32 0x44800000#32))
    * Ideal.rsqrt (Ideal.div (∑ k, (y k - Ideal.div (∑ k, y k) (Ideal.ofBits FTy.f32 0x44800000#32))
        * (y k - Ideal.div (∑ k, y k) (Ideal.ofBits FTy.f32 0x44800000#32))) (Ideal.ofBits FTy.f32 0x44800000#32)
      + Ideal.ofBits FTy.f32 0x358637BD#32) * g j + b j

/-- The normalised row times its logistic. -/
def gate (y g b : Fin 1024 → EReal) (j : Fin 1024) : EReal := lnorm y g b j * Ideal.logistic (lnorm y g b j)

end Cert.Rows

end
-- ==== Proof.SconvKernel.lean ====
/- The gated convolution of the samples: what its body leaves in each block it writes. -/
module

public import proofs.«01_k».proof.Proof.SconvRows
public import proofs.«01_k».proof.Proof.Gen.Kernel6Ideal.Frame

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen Cert.Rows

/-- A chain of thirty additions is a sum. -/
theorem chain (a : EReal) (p : ℕ → EReal) :
    a + p 0 + p 1 + p 2 + p 3 + p 4 + p 5 + p 6 + p 7 + p 8 + p 9 + p 10 + p 11 + p 12 + p 13 + p 14 + p 15 + p 16 + p 17 + p 18 + p 19 + p 20 + p 21 + p 22 + p 23 + p 24 + p 25 + p 26 + p 27 + p 28 + p 29 = a + ∑ k ∈ Finset.range 30, p k := by
  simp only [Finset.sum_range_succ, Finset.sum_range_zero, zero_add, add_assoc]

theorem p4 (v0 : Vec Ideal S32x1024 .f32) (r : Fin 32) (j : Fin 1024) :
    k0_pay4 (F := Ideal) v0 (ix2 r j) = v0 (ix2 r j) := by
  pointwise [k0_pay4]

theorem p5 (v0 : Vec Ideal S32x1024 .f32) (v2 : Vec Ideal S1x1024 .f32) (v5 : Vec Ideal S1x1024 .f32) (v9 : Vec Ideal S1x32x1024 .f32) (v11 : Vec Ideal S1x1024 .f32) (v15 : Vec Ideal S1x32x1024 .f32) (v17 : Vec Ideal S1x1024 .f32) (v21 : Vec Ideal S1x32x1024 .f32) (v23 : Vec Ideal S1x1024 .f32) (v27 : Vec Ideal S1x32x1024 .f32) (v29 : Vec Ideal S1x1024 .f32) (r : Fin 32) (j : Fin 1024) :
    k0_pay5 (F := Ideal) v0 v2 v5 v9 v11 v15 v17 v21 v23 v27 v29 (ix2 r j) = v0 (ix2 r j) * v2 (ix2 0 j) + v5 (ix2 0 j) + v9 (ix3 0 r j) * v11 (ix2 0 j) + v15 (ix3 0 r j) * v17 (ix2 0 j) + v21 (ix3 0 r j) * v23 (ix2 0 j) + v27 (ix3 0 r j) * v29 (ix2 0 j) := by
  pointwise [k0_pay5, p4]

theorem p6 (v32 : Vec Ideal S32x1024 .f32) (v33 : Vec Ideal S1x32x1024 .f32) (v35 : Vec Ideal S1x1024 .f32) (v39 : Vec Ideal S1x32x1024 .f32) (v41 : Vec Ideal S1x1024 .f32) (v45 : Vec Ideal S1x32x1024 .f32) (v47 : Vec Ideal S1x1024 .f32) (v51 : Vec Ideal S1x32x1024 .f32) (v53 : Vec Ideal S1x1024 .f32) (v57 : Vec Ideal S1x32x1024 .f32) (v59 : Vec Ideal S1x1024 .f32) (r : Fin 32) (j : Fin 1024) :
    k0_pay6 (F := Ideal) v32 v33 v35 v39 v41 v45 v47 v51 v53 v57 v59 (ix2 r j) = v32 (ix2 r j) + v33 (ix3 0 r j) * v35 (ix2 0 j) + v39 (ix3 0 r j) * v41 (ix2 0 j) + v45 (ix3 0 r j) * v47 (ix2 0 j) + v51 (ix3 0 r j) * v53 (ix2 0 j) + v57 (ix3 0 r j) * v59 (ix2 0 j) := by
  pointwise [k0_pay6]

theorem p7 (v63 : Vec Ideal S1x32x1024 .f32) (r : Fin 32) (j : Fin 1024) :
    k0_pay7 (F := Ideal) v63 (ix2 r j) = v63 (ix3 0 r j) := by
  pointwise [k0_pay7]

theorem p8 (v62 : Vec Ideal S32x1024 .f32) (v64 : Vec Ideal S32x1024 .f32) (v65 : Vec Ideal S1x1024 .f32) (v69 : Vec Ideal S1x32x1024 .f32) (v71 : Vec Ideal S1x1024 .f32) (v75 : Vec Ideal S1x32x1024 .f32) (v77 : Vec Ideal S1x1024 .f32) (v81 : Vec Ideal S1x32x1024 .f32) (v83 : Vec Ideal S1x1024 .f32) (v87 : Vec Ideal S1x32x1024 .f32) (v89 : Vec Ideal S1x1024 .f32) (r : Fin 32) (j : Fin 1024) :
    k0_pay8 (F := Ideal) v62 v64 v65 v69 v71 v75 v77 v81 v83 v87 v89 (ix2 r j) = v62 (ix2 r j) + v64 (ix2 r j) * v65 (ix2 0 j) + v69 (ix3 0 r j) * v71 (ix2 0 j) + v75 (ix3 0 r j) * v77 (ix2 0 j) + v81 (ix3 0 r j) * v83 (ix2 0 j) + v87 (ix3 0 r j) * v89 (ix2 0 j) := by
  pointwise [k0_pay8]

theorem p9 (v93 : Vec Ideal S1x32x1024 .f32) (v95 : Vec Ideal S1x1024 .f32) (r : Fin 32) (j : Fin 1024) :
    k0_pay9 (F := Ideal) v93 v95 (ix2 r j) = v93 (ix3 0 r j) * v95 (ix2 0 j) := by
  pointwise [k0_pay9]

theorem p10 (v92 : Vec Ideal S32x1024 .f32) (v97 : Vec Ideal S32x1024 .f32) (v99 : Vec Ideal S1x32x1024 .f32) (v101 : Vec Ideal S1x1024 .f32) (v105 : Vec Ideal S1x32x1024 .f32) (v107 : Vec Ideal S1x1024 .f32) (v111 : Vec Ideal S1x32x1024 .f32) (v113 : Vec Ideal S1x1024 .f32) (v117 : Vec Ideal S1x32x1024 .f32) (v119 : Vec Ideal S1x1024 .f32) (v123 : Vec Ideal S1x32x1024 .f32) (v125 : Vec Ideal S1x1024 .f32) (r : Fin 32) (j : Fin 1024) :
    k0_pay10 (F := Ideal) v92 v97 v99 v101 v105 v107 v111 v113 v117 v119 v123 v125 (ix2 r j) = v92 (ix2 r j) + v97 (ix2 r j) + v99 (ix3 0 r j) * v101 (ix2 0 j) + v105 (ix3 0 r j) * v107 (ix2 0 j) + v111 (ix3 0 r j) * v113 (ix2 0 j) + v117 (ix3 0 r j) * v119 (ix2 0 j) + v123 (ix3 0 r j) * v125 (ix2 0 j) := by
  pointwise [k0_pay10]

theorem p11 (v128 : Vec Ideal S32x1024 .f32) (v129 : Vec Ideal S1x32x1024 .f32) (v131 : Vec Ideal S1x1024 .f32) (v135 : Vec Ideal S1x32x1024 .f32) (v137 : Vec Ideal S1x1024 .f32) (v141 : Vec Ideal S1x32x1024 .f32) (v143 : Vec Ideal S1x1024 .f32) (v147 : Vec Ideal S1x32x1024 .f32) (v149 : Vec Ideal S1x1024 .f32) (v153 : Vec Ideal S1x32x1024 .f32) (v155 : Vec Ideal S1x1024 .f32) (r : Fin 32) (j : Fin 1024) :
    k0_pay11 (F := Ideal) v128 v129 v131 v135 v137 v141 v143 v147 v149 v153 v155 (ix2 r j) = v128 (ix2 r j) + v129 (ix3 0 r j) * v131 (ix2 0 j) + v135 (ix3 0 r j) * v137 (ix2 0 j) + v141 (ix3 0 r j) * v143 (ix2 0 j) + v147 (ix3 0 r j) * v149 (ix2 0 j) + v153 (ix3 0 r j) * v155 (ix2 0 j) := by
  pointwise [k0_pay11]

theorem p12 (v159 : Vec Ideal S1x32x1024 .f32) (r : Fin 32) (j : Fin 1024) :
    k0_pay12 (F := Ideal) v159 (ix2 r j) = v159 (ix3 0 r j) := by
  pointwise [k0_pay12]

theorem p13 (v161 : Vec Ideal S1x1024 .f32) (r : Fin 32) (j : Fin 1024) :
    k0_pay13 (F := Ideal) v161 (ix2 r j) = v161 (ix2 0 j) := by
  pointwise [k0_pay13]

theorem p14 (v158 : Vec Ideal S32x1024 .f32) (v160 : Vec Ideal S32x1024 .f32) (v162 : Vec Ideal S32x1024 .f32) (v165 : Vec Ideal S1x32x1024 .f32) (v167 : Vec Ideal S1x1024 .f32) (v171 : Vec Ideal S1x32x1024 .f32) (v173 : Vec Ideal S1x1024 .f32) (v177 : Vec Ideal S1x32x1024 .f32) (v179 : Vec Ideal S1x1024 .f32) (v183 : Vec Ideal S1x32x1024 .f32) (v185 : Vec Ideal S1x1024 .f32) (r : Fin 32) (j : Fin 1024) :
    k0_pay14 (F := Ideal) v158 v160 v162 v165 v167 v171 v173 v177 v179 v183 v185 (ix2 r j) = v158 (ix2 r j) + v160 (ix2 r j) * v162 (ix2 r j) + v165 (ix3 0 r j) * v167 (ix2 0 j) + v171 (ix3 0 r j) * v173 (ix2 0 j) + v177 (ix3 0 r j) * v179 (ix2 0 j) + v183 (ix3 0 r j) * v185 (ix2 0 j) := by
  pointwise [k0_pay14]

theorem p17 (v158 : Vec Ideal S32x1024 .f32) (v160 : Vec Ideal S32x1024 .f32) (v162 : Vec Ideal S32x1024 .f32) (v165 : Vec Ideal S1x32x1024 .f32) (v167 : Vec Ideal S1x1024 .f32) (v171 : Vec Ideal S1x32x1024 .f32) (v173 : Vec Ideal S1x1024 .f32) (v177 : Vec Ideal S1x32x1024 .f32) (v179 : Vec Ideal S1x1024 .f32) (v183 : Vec Ideal S1x32x1024 .f32) (v185 : Vec Ideal S1x1024 .f32) (r : Fin 32) :
    k0_pay17 (F := Ideal) v158 v160 v162 v165 v167 v171 v173 v177 v179 v183 v185 (ix2 r 0) = Ideal.div (∑ k, k0_pay14 (F := Ideal) v158 v160 v162 v165 v167 v171 v173 v177 v179 v183 v185 (ix2 r k)) (Ideal.ofBits FTy.f32 0x44800000#32) := by
  unfold k0_pay17
  generalize k0_pay14 (F := Ideal) v158 v160 v162 v165 v167 v171 v173 v177 v179 v183 v185 = y
  pointwise []

theorem p15 (v : Vec Ideal S1x1024 .f32) (j : Fin 1024) : k0_pay15 (F := Ideal) v (ix2 0 j) = v (ix2 0 j) := by
  pointwise [k0_pay15]

theorem p16 (v : Vec Ideal S1x1024 .f32) (j : Fin 1024) : k0_pay16 (F := Ideal) v (ix2 0 j) = v (ix2 0 j) := by
  pointwise [k0_pay16]

theorem p1 (y : Vec Ideal S32x1024 .f32) (g b : Vec Ideal S1x1024 .f32) (mu : Vec Ideal S32x1 .f32) (r : Fin 32) (j : Fin 1024)
    (h : mu (ix2 r 0) = Ideal.div (∑ k, y (ix2 r k)) (Ideal.ofBits FTy.f32 0x44800000#32)) :
    k0_pay1 (F := Ideal) y g b mu (ix2 r j) = gate (fun k => y (ix2 r k)) (fun k => g (ix2 0 k)) (fun k => b (ix2 0 k)) j := by
  unfold gate lnorm
  rw [← h]
  pointwise [k0_pay1]

theorem ld_state (x : Vec Ideal S30x32x1024 .f32) (n : ℕ) (h : ∀ a, (![n, 0, 0] : Fin 3 → ℕ) a + (![1, 32, 1024] : Fin 3 → ℕ) a ≤ S30x32x1024.size a) (r : Fin 32) (j : Fin 1024) :
    View.ld x (Rect.unit (s := S30x32x1024) ![n, 0, 0] ![1, 32, 1024] h) (ix3 0 r j) = x (ix3 ⟨n, by have := h 0; simpa using this⟩ r j) := by
  exact View.ld_unit_apply_of x _ _ _ _ _ fun a => by fin_cases a <;> simp [ix3]

theorem ld_w (x : Vec Ideal S31x1024 .f32) (n : ℕ) (h : ∀ a, (![n, 0] : Fin 2 → ℕ) a + (![1, 1024] : Fin 2 → ℕ) a ≤ S31x1024.size a) (j : Fin 1024) :
    View.ld x (Rect.unit (s := S31x1024) ![n, 0] ![1, 1024] h) (ix2 0 j) = x (ix2 ⟨n, by have := h 0; simpa using this⟩ j) := by
  exact View.ld_unit_apply_of x _ _ _ _ _ fun a => by fin_cases a <;> simp [ix2]

variable (x0 : Vec Ideal S30x32x1024 .f32) (x1 : Vec Ideal S32x1024 .f32) (x2 : Vec Ideal S31x1024 .f32) (x3 x4 x5 : Vec Ideal S1x1024 .f32)

/-- The convolution at channel `k` of row `r` of a block. -/
def blkConv (r : Fin 32) (k : Fin 1024) : EReal :=
  conv (fun t => x0 (ix3 t r k)) (x1 (ix2 r k)) (fun t => x2 (ix2 t k)) (x3 (ix2 0 k))

theorem conv_chain (r : Fin 32) (k : Fin 1024) :
    x1 (ix2 r k) * x2 (ix2 ⟨30, by omega⟩ k) + x3 (ix2 0 k)
      + x0 (ix3 ⟨0, by omega⟩ r k) * x2 (ix2 ⟨0, by omega⟩ k)
      + x0 (ix3 ⟨1, by omega⟩ r k) * x2 (ix2 ⟨1, by omega⟩ k)
      + x0 (ix3 ⟨2, by omega⟩ r k) * x2 (ix2 ⟨2, by omega⟩ k)
      + x0 (ix3 ⟨3, by omega⟩ r k) * x2 (ix2 ⟨3, by omega⟩ k)
      + x0 (ix3 ⟨4, by omega⟩ r k) * x2 (ix2 ⟨4, by omega⟩ k)
      + x0 (ix3 ⟨5, by omega⟩ r k) * x2 (ix2 ⟨5, by omega⟩ k)
      + x0 (ix3 ⟨6, by omega⟩ r k) * x2 (ix2 ⟨6, by omega⟩ k)
      + x0 (ix3 ⟨7, by omega⟩ r k) * x2 (ix2 ⟨7, by omega⟩ k)
      + x0 (ix3 ⟨8, by omega⟩ r k) * x2 (ix2 ⟨8, by omega⟩ k)
      + x0 (ix3 ⟨9, by omega⟩ r k) * x2 (ix2 ⟨9, by omega⟩ k)
      + x0 (ix3 ⟨10, by omega⟩ r k) * x2 (ix2 ⟨10, by omega⟩ k)
      + x0 (ix3 ⟨11, by omega⟩ r k) * x2 (ix2 ⟨11, by omega⟩ k)
      + x0 (ix3 ⟨12, by omega⟩ r k) * x2 (ix2 ⟨12, by omega⟩ k)
      + x0 (ix3 ⟨13, by omega⟩ r k) * x2 (ix2 ⟨13, by omega⟩ k)
      + x0 (ix3 ⟨14, by omega⟩ r k) * x2 (ix2 ⟨14, by omega⟩ k)
      + x0 (ix3 ⟨15, by omega⟩ r k) * x2 (ix2 ⟨15, by omega⟩ k)
      + x0 (ix3 ⟨16, by omega⟩ r k) * x2 (ix2 ⟨16, by omega⟩ k)
      + x0 (ix3 ⟨17, by omega⟩ r k) * x2 (ix2 ⟨17, by omega⟩ k)
      + x0 (ix3 ⟨18, by omega⟩ r k) * x2 (ix2 ⟨18, by omega⟩ k)
      + x0 (ix3 ⟨19, by omega⟩ r k) * x2 (ix2 ⟨19, by omega⟩ k)
      + x0 (ix3 ⟨20, by omega⟩ r k) * x2 (ix2 ⟨20, by omega⟩ k)
      + x0 (ix3 ⟨21, by omega⟩ r k) * x2 (ix2 ⟨21, by omega⟩ k)
      + x0 (ix3 ⟨22, by omega⟩ r k) * x2 (ix2 ⟨22, by omega⟩ k)
      + x0 (ix3 ⟨23, by omega⟩ r k) * x2 (ix2 ⟨23, by omega⟩ k)
      + x0 (ix3 ⟨24, by omega⟩ r k) * x2 (ix2 ⟨24, by omega⟩ k)
      + x0 (ix3 ⟨25, by omega⟩ r k) * x2 (ix2 ⟨25, by omega⟩ k)
      + x0 (ix3 ⟨26, by omega⟩ r k) * x2 (ix2 ⟨26, by omega⟩ k)
      + x0 (ix3 ⟨27, by omega⟩ r k) * x2 (ix2 ⟨27, by omega⟩ k)
      + x0 (ix3 ⟨28, by omega⟩ r k) * x2 (ix2 ⟨28, by omega⟩ k)
      + x0 (ix3 ⟨29, by omega⟩ r k) * x2 (ix2 ⟨29, by omega⟩ k) = blkConv x0 x1 x2 x3 r k := by
  refine (chain _ (fun n => if h : n < 30 then x0 (ix3 ⟨n, h⟩ r k) * x2 (ix2 ⟨n, by omega⟩ k) else 0)).trans ?_
  unfold blkConv conv
  rw [Finset.sum_range, add_comm, add_assoc]
  congr 1

/-- The same chain over the reads of the body. -/
theorem ld_chain (r : Fin 32) (k : Fin 1024) :
    x1 (ix2 r k) * View.ld x2 (Rect.unit (s := S31x1024) ![30, 0] ![1, 1024] inb_S31x1024_S1x1024_30_0) (ix2 0 k) + x3 (ix2 0 k)
      + View.ld x0 (Rect.unit (s := S30x32x1024) ![0, 0, 0] ![1, 32, 1024] inb_S30x32x1024_S1x32x1024_0_0_0) (ix3 0 r k) * View.ld x2 (Rect.unit (s := S31x1024) ![0, 0] ![1, 1024] inb_S31x1024_S1x1024_0_0) (ix2 0 k)
      + View.ld x0 (Rect.unit (s := S30x32x1024) ![1, 0, 0] ![1, 32, 1024] inb_S30x32x1024_S1x32x1024_1_0_0) (ix3 0 r k) * View.ld x2 (Rect.unit (s := S31x1024) ![1, 0] ![1, 1024] inb_S31x1024_S1x1024_1_0) (ix2 0 k)
      + View.ld x0 (Rect.unit (s := S30x32x1024) ![2, 0, 0] ![1, 32, 1024] inb_S30x32x1024_S1x32x1024_2_0_0) (ix3 0 r k) * View.ld x2 (Rect.unit (s := S31x1024) ![2, 0] ![1, 1024] inb_S31x1024_S1x1024_2_0) (ix2 0 k)
      + View.ld x0 (Rect.unit (s := S30x32x1024) ![3, 0, 0] ![1, 32, 1024] inb_S30x32x1024_S1x32x1024_3_0_0) (ix3 0 r k) * View.ld x2 (Rect.unit (s := S31x1024) ![3, 0] ![1, 1024] inb_S31x1024_S1x1024_3_0) (ix2 0 k)
      + View.ld x0 (Rect.unit (s := S30x32x1024) ![4, 0, 0] ![1, 32, 1024] inb_S30x32x1024_S1x32x1024_4_0_0) (ix3 0 r k) * View.ld x2 (Rect.unit (s := S31x1024) ![4, 0] ![1, 1024] inb_S31x1024_S1x1024_4_0) (ix2 0 k)
      + View.ld x0 (Rect.unit (s := S30x32x1024) ![5, 0, 0] ![1, 32, 1024] inb_S30x32x1024_S1x32x1024_5_0_0) (ix3 0 r k) * View.ld x2 (Rect.unit (s := S31x1024) ![5, 0] ![1, 1024] inb_S31x1024_S1x1024_5_0) (ix2 0 k)
      + View.ld x0 (Rect.unit (s := S30x32x1024) ![6, 0, 0] ![1, 32, 1024] inb_S30x32x1024_S1x32x1024_6_0_0) (ix3 0 r k) * View.ld x2 (Rect.unit (s := S31x1024) ![6, 0] ![1, 1024] inb_S31x1024_S1x1024_6_0) (ix2 0 k)
      + View.ld x0 (Rect.unit (s := S30x32x1024) ![7, 0, 0] ![1, 32, 1024] inb_S30x32x1024_S1x32x1024_7_0_0) (ix3 0 r k) * View.ld x2 (Rect.unit (s := S31x1024) ![7, 0] ![1, 1024] inb_S31x1024_S1x1024_7_0) (ix2 0 k)
      + View.ld x0 (Rect.unit (s := S30x32x1024) ![8, 0, 0] ![1, 32, 1024] inb_S30x32x1024_S1x32x1024_8_0_0) (ix3 0 r k) * View.ld x2 (Rect.unit (s := S31x1024) ![8, 0] ![1, 1024] inb_S31x1024_S1x1024_8_0) (ix2 0 k)
      + View.ld x0 (Rect.unit (s := S30x32x1024) ![9, 0, 0] ![1, 32, 1024] inb_S30x32x1024_S1x32x1024_9_0_0) (ix3 0 r k) * View.ld x2 (Rect.unit (s := S31x1024) ![9, 0] ![1, 1024] inb_S31x1024_S1x1024_9_0) (ix2 0 k)
      + View.ld x0 (Rect.unit (s := S30x32x1024) ![10, 0, 0] ![1, 32, 1024] inb_S30x32x1024_S1x32x1024_10_0_0) (ix3 0 r k) * View.ld x2 (Rect.unit (s := S31x1024) ![10, 0] ![1, 1024] inb_S31x1024_S1x1024_10_0) (ix2 0 k)
      + View.ld x0 (Rect.unit (s := S30x32x1024) ![11, 0, 0] ![1, 32, 1024] inb_S30x32x1024_S1x32x1024_11_0_0) (ix3 0 r k) * View.ld x2 (Rect.unit (s := S31x1024) ![11, 0] ![1, 1024] inb_S31x1024_S1x1024_11_0) (ix2 0 k)
      + View.ld x0 (Rect.unit (s := S30x32x1024) ![12, 0, 0] ![1, 32, 1024] inb_S30x32x1024_S1x32x1024_12_0_0) (ix3 0 r k) * View.ld x2 (Rect.unit (s := S31x1024) ![12, 0] ![1, 1024] inb_S31x1024_S1x1024_12_0) (ix2 0 k)
      + View.ld x0 (Rect.unit (s := S30x32x1024) ![13, 0, 0] ![1, 32, 1024] inb_S30x32x1024_S1x32x1024_13_0_0) (ix3 0 r k) * View.ld x2 (Rect.unit (s := S31x1024) ![13, 0] ![1, 1024] inb_S31x1024_S1x1024_13_0) (ix2 0 k)
      + View.ld x0 (Rect.unit (s := S30x32x1024) ![14, 0, 0] ![1, 32, 1024] inb_S30x32x1024_S1x32x1024_14_0_0) (ix3 0 r k) * View.ld x2 (Rect.unit (s := S31x1024) ![14, 0] ![1, 1024] inb_S31x1024_S1x1024_14_0) (ix2 0 k)
      + View.ld x0 (Rect.unit (s := S30x32x1024) ![15, 0, 0] ![1, 32, 1024] inb_S30x32x1024_S1x32x1024_15_0_0) (ix3 0 r k) * View.ld x2 (Rect.unit (s := S31x1024) ![15, 0] ![1, 1024] inb_S31x1024_S1x1024_15_0) (ix2 0 k)
      + View.ld x0 (Rect.unit (s := S30x32x1024) ![16, 0, 0] ![1, 32, 1024] inb_S30x32x1024_S1x32x1024_16_0_0) (ix3 0 r k) * View.ld x2 (Rect.unit (s := S31x1024) ![16, 0] ![1, 1024] inb_S31x1024_S1x1024_16_0) (ix2 0 k)
      + View.ld x0 (Rect.unit (s := S30x32x1024) ![17, 0, 0] ![1, 32, 1024] inb_S30x32x1024_S1x32x1024_17_0_0) (ix3 0 r k) * View.ld x2 (Rect.unit (s := S31x1024) ![17, 0] ![1, 1024] inb_S31x1024_S1x1024_17_0) (ix2 0 k)
      + View.ld x0 (Rect.unit (s := S30x32x1024) ![18, 0, 0] ![1, 32, 1024] inb_S30x32x1024_S1x32x1024_18_0_0) (ix3 0 r k) * View.ld x2 (Rect.unit (s := S31x1024) ![18, 0] ![1, 1024] inb_S31x1024_S1x1024_18_0) (ix2 0 k)
      + View.ld x0 (Rect.unit (s := S30x32x1024) ![19, 0, 0] ![1, 32, 1024] inb_S30x32x1024_S1x32x1024_19_0_0) (ix3 0 r k) * View.ld x2 (Rect.unit (s := S31x1024) ![19, 0] ![1, 1024] inb_S31x1024_S1x1024_19_0) (ix2 0 k)
      + View.ld x0 (Rect.unit (s := S30x32x1024) ![20, 0, 0] ![1, 32, 1024] inb_S30x32x1024_S1x32x1024_20_0_0) (ix3 0 r k) * View.ld x2 (Rect.unit (s := S31x1024) ![20, 0] ![1, 1024] inb_S31x1024_S1x1024_20_0) (ix2 0 k)
      + View.ld x0 (Rect.unit (s := S30x32x1024) ![21, 0, 0] ![1, 32, 1024] inb_S30x32x1024_S1x32x1024_21_0_0) (ix3 0 r k) * View.ld x2 (Rect.unit (s := S31x1024) ![21, 0] ![1, 1024] inb_S31x1024_S1x1024_21_0) (ix2 0 k)
      + View.ld x0 (Rect.unit (s := S30x32x1024) ![22, 0, 0] ![1, 32, 1024] inb_S30x32x1024_S1x32x1024_22_0_0) (ix3 0 r k) * View.ld x2 (Rect.unit (s := S31x1024) ![22, 0] ![1, 1024] inb_S31x1024_S1x1024_22_0) (ix2 0 k)
      + View.ld x0 (Rect.unit (s := S30x32x1024) ![23, 0, 0] ![1, 32, 1024] inb_S30x32x1024_S1x32x1024_23_0_0) (ix3 0 r k) * View.ld x2 (Rect.unit (s := S31x1024) ![23, 0] ![1, 1024] inb_S31x1024_S1x1024_23_0) (ix2 0 k)
      + View.ld x0 (Rect.unit (s := S30x32x1024) ![24, 0, 0] ![1, 32, 1024] inb_S30x32x1024_S1x32x1024_24_0_0) (ix3 0 r k) * View.ld x2 (Rect.unit (s := S31x1024) ![24, 0] ![1, 1024] inb_S31x1024_S1x1024_24_0) (ix2 0 k)
      + View.ld x0 (Rect.unit (s := S30x32x1024) ![25, 0, 0] ![1, 32, 1024] inb_S30x32x1024_S1x32x1024_25_0_0) (ix3 0 r k) * View.ld x2 (Rect.unit (s := S31x1024) ![25, 0] ![1, 1024] inb_S31x1024_S1x1024_25_0) (ix2 0 k)
      + View.ld x0 (Rect.unit (s := S30x32x1024) ![26, 0, 0] ![1, 32, 1024] inb_S30x32x1024_S1x32x1024_26_0_0) (ix3 0 r k) * View.ld x2 (Rect.unit (s := S31x1024) ![26, 0] ![1, 1024] inb_S31x1024_S1x1024_26_0) (ix2 0 k)
      + View.ld x0 (Rect.unit (s := S30x32x1024) ![27, 0, 0] ![1, 32, 1024] inb_S30x32x1024_S1x32x1024_27_0_0) (ix3 0 r k) * View.ld x2 (Rect.unit (s := S31x1024) ![27, 0] ![1, 1024] inb_S31x1024_S1x1024_27_0) (ix2 0 k)
      + View.ld x0 (Rect.unit (s := S30x32x1024) ![28, 0, 0] ![1, 32, 1024] inb_S30x32x1024_S1x32x1024_28_0_0) (ix3 0 r k) * View.ld x2 (Rect.unit (s := S31x1024) ![28, 0] ![1, 1024] inb_S31x1024_S1x1024_28_0) (ix2 0 k)
      + View.ld x0 (Rect.unit (s := S30x32x1024) ![29, 0, 0] ![1, 32, 1024] inb_S30x32x1024_S1x32x1024_29_0_0) (ix3 0 r k) * View.ld x2 (Rect.unit (s := S31x1024) ![29, 0] ![1, 1024] inb_S31x1024_S1x1024_29_0) (ix2 0 k) = blkConv x0 x1 x2 x3 r k := by
  rw [ld_w x2 30, ld_state x0 0, ld_w x2 0, ld_state x0 1, ld_w x2 1, ld_state x0 2, ld_w x2 2, ld_state x0 3, ld_w x2 3, ld_state x0 4, ld_w x2 4, ld_state x0 5, ld_w x2 5, ld_state x0 6, ld_w x2 6, ld_state x0 7, ld_w x2 7, ld_state x0 8, ld_w x2 8, ld_state x0 9, ld_w x2 9, ld_state x0 10, ld_w x2 10, ld_state x0 11, ld_w x2 11, ld_state x0 12, ld_w x2 12, ld_state x0 13, ld_w x2 13, ld_state x0 14, ld_w x2 14, ld_state x0 15, ld_w x2 15, ld_state x0 16, ld_w x2 16, ld_state x0 17, ld_w x2 17, ld_state x0 18, ld_w x2 18, ld_state x0 19, ld_w x2 19, ld_state x0 20, ld_w x2 20, ld_state x0 21, ld_w x2 21, ld_state x0 22, ld_w x2 22, ld_state x0 23, ld_w x2 23, ld_state x0 24, ld_w x2 24, ld_state x0 25, ld_w x2 25, ld_state x0 26, ld_w x2 26, ld_state x0 27, ld_w x2 27, ld_state x0 28, ld_w x2 28, ld_state x0 29, ld_w x2 29]
  exact conv_chain x0 x1 x2 x3 r k

theorem canon2 (P1 : Vec Ideal S1x32x1024 .f32) (P0 : Vec Ideal S29x32x1024 .f32) (f : Fin 30 → Fin 32 → Fin 1024 → EReal)
    (h1 : ∀ r l, P1 (ix3 0 r l) = f 29 r l) (h0 : ∀ (s : Fin 29) r l, P0 (ix3 s r l) = f ⟨s.val, by omega⟩ r l) (s : Fin 30) (r : Fin 32) (l : Fin 1024) :
    View.canon (Val := Elt Ideal) (s := S30x32x1024) (e := .f32) [⟨Rect.unit (s := S30x32x1024) ![29, 0, 0] ![1, 32, 1024] inb_S30x32x1024_S1x32x1024_29_0_0, P1⟩,
      ⟨Rect.unit (s := S30x32x1024) ![0, 0, 0] ![29, 32, 1024] inb_S30x32x1024_S29x32x1024_0_0_0, P0⟩] (ix3 s r l) = f s r l := by
  refine (View.canon_apply_of_pieces (Val := Elt Ideal) (S := S30x32x1024) (e := .f32) (fun y => f (y 0) (y 1) (y 2)) _ ?_ _
    (View.cover_of_tiledBy _ ![1, 32, 1024] (by sl_kernel_rfl) _))
  intro pc hpc
  rcases List.mem_cons.mp hpc with rfl | hpc
  · intro (x : S1x32x1024.Idx)
    have hx : x = ix3 0 (x 1) (x 2) := by funext a; fin_cases a <;> simp [ix3] <;> exact Subsingleton.elim (α := Fin 1) _ _
    refine (congrArg P1 hx).trans ((h1 _ _).trans ?_)
    have hx0 : (x 0).val < 1 := (x 0).isLt
    refine congr (congr (congrArg f ?_) ?_) ?_
    · exact Fin.ext (by show 29 = 29 + 1 * (x 0).val; omega)
    · exact Fin.ext (by show (x 1).val = 0 + 1 * (x 1).val; omega)
    · exact Fin.ext (by show (x 2).val = 0 + 1 * (x 2).val; omega)
  rcases List.mem_cons.mp hpc with rfl | hpc
  · intro (x : S29x32x1024.Idx)
    have hx : x = ix3 (x 0) (x 1) (x 2) := by funext a; fin_cases a <;> rfl
    refine (congrArg P0 hx).trans ((h0 _ _ _).trans ?_)
    refine congr (congr (congrArg f ?_) ?_) ?_
    · exact Fin.ext (by show (x 0).val = 0 + 1 * (x 0).val; omega)
    · exact Fin.ext (by show (x 1).val = 0 + 1 * (x 1).val; omega)
    · exact Fin.ext (by show (x 2).val = 0 + 1 * (x 2).val; omega)
  nomatch hpc

theorem ld_shift (x : Vec Ideal S30x32x1024 .f32) (s : Fin 29) (r : Fin 32) (l : Fin 1024) :
    View.ld x (Rect.unit (s := S30x32x1024) ![1, 0, 0] ![29, 32, 1024] inb_S30x32x1024_S29x32x1024_1_0_0) (ix3 s r l) = x (ix3 ⟨s.val + 1, by omega⟩ r l) := by
  exact View.ld_unit_apply_of x _ _ _ _ _ fun a => by fin_cases a <;> simp [ix3] <;> omega

variable (m : (ℓ : Loc nD τ sig) → Buf (Elt Ideal) ℓ) (c : Dev nD)

theorem point6 (t : Fin cfg0.N) (r : Fin 32) (j : Fin 1024) : (dats (F := Ideal) m 0 c).after 6 t (ix2 r j)
    = gate (blkConv (iblk m c 0 t) (iblk m c 1 t) (iblk m c 2 t) (iblk m c 3 t) r) (fun k => (iblk m c 4 t : Vec Ideal S1x1024 .f32) (ix2 0 k))
      (fun k => (iblk m c 5 t : Vec Ideal S1x1024 .f32) (ix2 0 k)) j := by
  rw [after0_6]
  unfold outsAt0
  dsimp only
  frame_out
  generalize (iblk m c 0 t : Vec Ideal S30x32x1024 .f32) = x0
  generalize (iblk m c 1 t : Vec Ideal S32x1024 .f32) = x1
  generalize (iblk m c 2 t : Vec Ideal S31x1024 .f32) = x2
  generalize (iblk m c 3 t : Vec Ideal S1x1024 .f32) = x3
  generalize (iblk m c 4 t : Vec Ideal S1x1024 .f32) = x4
  generalize (iblk m c 5 t : Vec Ideal S1x1024 .f32) = x5
  refine (p1 _ _ _ _ r j (p17 ..)).trans ?_
  refine congrFun (congr (congr (congrArg gate (funext fun k => ?_)) (funext fun k => p15 _ k)) (funext fun k => p16 _ k)) j
  simp only [p14, p13, p12, p11, p10, p9, p8, p7, p6, p5, p4]
  exact ld_chain x0 x1 x2 x3 r k

theorem point7 (t : Fin cfg0.N) (s : Fin 30) (r : Fin 32) (j : Fin 1024) : (dats (F := Ideal) m 0 c).after 7 t (ix3 s r j)
    = if h : s.val < 29 then (iblk m c 0 t : Vec Ideal S30x32x1024 .f32) (ix3 ⟨s.val + 1, by omega⟩ r j)
      else (iblk m c 1 t : Vec Ideal S32x1024 .f32) (ix2 r j) := by
  rw [after0_7]
  unfold outsAt0
  dsimp only
  frame_out
  generalize (iblk m c 0 t : Vec Ideal S30x32x1024 .f32) = x0
  generalize (iblk m c 1 t : Vec Ideal S32x1024 .f32) = x1
  refine canon2 _ _ (fun s r j => if h : s.val < 29 then x0 (ix3 ⟨s.val + 1, by omega⟩ r j) else x1 (ix2 r j)) ?_ ?_ s r j
  · intro r l
    pointwise [k0_pay3, k0_pay4]
  · intro s r l
    rw [dif_pos s.isLt]
    refine Eq.trans ?_ (ld_shift x0 s r l)
    pointwise [k0_pay2]

end Cert.Kernel6Ideal.Value

end
-- ==== Proof.SconvFinal.lean ====
/- The convolution of the samples: the arrays the call leaves, and the results of the program. -/
module

public import proofs.«01_k».proof.Proof.SconvKernel
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen Cert.Rows

variable (m : (ℓ : Loc nD τ sig) → Buf (Elt Ideal) ℓ) (c : Dev nD)

/-- The sample that block `t` holds at row `r`. -/
def row (t : Fin cfg0.N) (r : Fin 32) : Fin 128 :=
  ⟨t * 32 + r, by have h : (t : ℕ) < 4 := t.isLt; omega⟩

/-- The convolution at channel `k` of sample `n`. -/
def cRow (n : Fin 128) (k : Fin 1024) : EReal :=
  conv (fun s => m ((c : Thread nD τ).loc main_arg0) (ix3 n s k)) (m ((c : Thread nD τ).loc main_arg1) (ix3 n 0 k)) (fun s => m ((c : Thread nD τ).loc main_arg2) (ix2 s k)) (m ((c : Thread nD τ).loc main_arg3) (ix1 k))

theorem e_state (s : Fin 30) (n : Fin 128) (k : Fin 1024) : V m c main_v0 (ix3 s n k) = m ((c : Thread nD τ).loc main_arg0) (ix3 n s k) := by
  show StableHlo.after (List.flatten [hostOps0]) _ (Proc.devRef .tc main_v0) _ = _
  simp only [List.flatten_cons, List.flatten_nil, List.append_nil]
  after_results
  pointwise []

theorem e_z (n : Fin 128) (k : Fin 1024) : V m c main_v1 (ix2 n k) = m ((c : Thread nD τ).loc main_arg1) (ix3 n 0 k) := by
  show StableHlo.after (List.flatten [hostOps0]) _ (Proc.devRef .tc main_v1) _ = _
  simp only [List.flatten_cons, List.flatten_nil, List.append_nil]
  after_results
  pointwise []

theorem e_w (s : Fin 31) (k : Fin 1024) : V m c main_arg2 (ix2 s k) = m ((c : Thread nD τ).loc main_arg2) (ix2 s k) := by
  show StableHlo.after (List.flatten [hostOps0]) _ (Proc.devRef .tc main_arg2) _ = _
  simp only [List.flatten_cons, List.flatten_nil, List.append_nil]
  after_results

theorem e_b (k : Fin 1024) : V m c main_v2 (ix2 0 k) = m ((c : Thread nD τ).loc main_arg3) (ix1 k) := by
  show StableHlo.after (List.flatten [hostOps0]) _ (Proc.devRef .tc main_v2) _ = _
  simp only [List.flatten_cons, List.flatten_nil, List.append_nil]
  after_results
  pointwise []

theorem e_g (k : Fin 1024) : V m c main_v3 (ix2 0 k) = m ((c : Thread nD τ).loc main_arg4) (ix1 k) := by
  show StableHlo.after (List.flatten [hostOps0]) _ (Proc.devRef .tc main_v3) _ = _
  simp only [List.flatten_cons, List.flatten_nil, List.append_nil]
  after_results
  pointwise []

theorem e_h (k : Fin 1024) : V m c main_v4 (ix2 0 k) = m ((c : Thread nD τ).loc main_arg5) (ix1 k) := by
  show StableHlo.after (List.flatten [hostOps0]) _ (Proc.devRef .tc main_v4) _ = _
  simp only [List.flatten_cons, List.flatten_nil, List.append_nil]
  after_results
  pointwise []

theorem idx : ∀ t : Fin cfg0.N, win0_0.index t = ![0, (t : ℕ), 0]
    ∧ win0_1.index t = ![(t : ℕ), 0]
    ∧ win0_2.index t = ![0, 0]
    ∧ win0_3.index t = ![0, 0]
    ∧ win0_4.index t = ![0, 0]
    ∧ win0_5.index t = ![0, 0]
    ∧ win0_6.index t = ![(t : ℕ), 0]
    ∧ win0_7.index t = ![0, (t : ℕ), 0] := by decide +kernel

theorem b_state (t : Fin cfg0.N) (s : Fin 30) (r : Fin 32) (k : Fin 1024) : iblk m c 0 t (ix3 s r k) = V m c main_v0 (ix3 s (row t r) k) := by
  unfold iblk
  generalize V m c = W
  blk_point [idx t, row]

theorem b_z (t : Fin cfg0.N) (r : Fin 32) (k : Fin 1024) : iblk m c 1 t (ix2 r k) = V m c main_v1 (ix2 (row t r) k) := by
  unfold iblk
  generalize V m c = W
  blk_point [idx t, row]

theorem b_w (t : Fin cfg0.N) (s : Fin 31) (k : Fin 1024) : iblk m c 2 t (ix2 s k) = V m c main_arg2 (ix2 s k) := by
  unfold iblk
  generalize V m c = W
  blk_point [idx t, row]

theorem b_b (t : Fin cfg0.N) (k : Fin 1024) : iblk m c 3 t (ix2 0 k) = V m c main_v2 (ix2 0 k) := by
  unfold iblk
  generalize V m c = W
  blk_point [idx t, row]

theorem b_g (t : Fin cfg0.N) (k : Fin 1024) : iblk m c 4 t (ix2 0 k) = V m c main_v3 (ix2 0 k) := by
  unfold iblk
  generalize V m c = W
  blk_point [idx t, row]

theorem b_h (t : Fin cfg0.N) (k : Fin 1024) : iblk m c 5 t (ix2 0 k) = V m c main_v4 (ix2 0 k) := by
  unfold iblk
  generalize V m c = W
  blk_point [idx t, row]

theorem blkConv_eq (t : Fin cfg0.N) (r : Fin 32) :
    blkConv (iblk m c 0 t) (iblk m c 1 t) (iblk m c 2 t) (iblk m c 3 t) r = cRow m c (row t r) := by
  funext k
  unfold blkConv cRow
  refine congr (congr (congr (congrArg conv (funext fun s => ?_)) ?_) (funext fun s => ?_)) ?_
  · exact (b_state m c t s r k).trans (e_state m c s (row t r) k)
  · exact (b_z m c t r k).trans (e_z m c (row t r) k)
  · exact (b_w m c t s k).trans (e_w m c s k)
  · exact (b_b m c t k).trans (e_b m c k)

/-- The gated rows. -/
def arr6 : (⟨S128x1024, .f32⟩ : BufTy).Contents (Elt Ideal) := fun i =>
  (fun (n : Fin 128) (j : Fin 1024) => gate (cRow m c n) (fun k => m ((c : Thread nD τ).loc main_arg4) (ix1 k)) (fun k => m ((c : Thread nD τ).loc main_arg5) (ix1 k)) j) (i 0) (i 1)

/-- The kept rows, moved up by one, the new one last. -/
def arr7 : (⟨S30x128x1024, .f32⟩ : BufTy).Contents (Elt Ideal) := fun i =>
  (fun (s : Fin 30) (n : Fin 128) (j : Fin 1024) => if h : s.val < 29 then m ((c : Thread nD τ).loc main_arg0) (ix3 n ⟨s.val + 1, by omega⟩ j)
    else m ((c : Thread nD τ).loc main_arg1) (ix3 n 0 j)) (i 0) (i 1) (i 2)

theorem left_block6 (t : Fin cfg0.N) (r : Fin 32) (j : Fin 1024) : (dats m 0 c).after 6 t (ix2 r j) = arr6 m c (ix2 (row t r) j) := by
  refine (point6 m c t r j).trans ?_
  rw [blkConv_eq]
  exact congrFun (congr (congrArg (gate _) (funext fun k => (b_g m c t k).trans (e_g m c k))) (funext fun k => (b_h m c t k).trans (e_h m c k))) _

theorem left_block7 (t : Fin cfg0.N) (s : Fin 30) (r : Fin 32) (j : Fin 1024) : (dats m 0 c).after 7 t (ix3 s r j) = arr7 m c (ix3 s (row t r) j) := by
  refine (point7 m c t s r j).trans ?_
  refine dite_congr rfl (fun h => ?_) (fun h => ?_)
  · exact (b_state m c t ⟨s.val + 1, Nat.succ_lt_succ (show s.val < 29 from h)⟩ r j).trans (e_state m c _ (row t r) j)
  · exact (b_z m c t r j).trans (e_z m c (row t r) j)

theorem final6 : (dats m 0 c).arrAt 6 cfg0.N = arr6 m c := by
  refine (dats m 0 c).arrAt_eq_of_covers 6 _ (by decide +kernel) fun t _ (y : S32x1024.Idx) => ?_
  blk_simp
  have hy : y = ix2 (y 0) (y 1) := by funext a; fin_cases a <;> rfl
  have hi : ((View.whole main_v5_0).slice (win0_6.rect t)).emb y = ix2 (row t (y 0)) (y 1) := by
    blk_ext [idx t, row]
  rw [hi]
  exact (congrArg _ hy).trans (left_block6 m c t (y 0) (y 1))

theorem final7 : (dats m 0 c).arrAt 7 cfg0.N = arr7 m c := by
  refine (dats m 0 c).arrAt_eq_of_covers 7 _ (by decide +kernel) fun t _ (y : S30x32x1024.Idx) => ?_
  blk_simp
  have hy : y = ix3 (y 0) (y 1) (y 2) := by funext a; fin_cases a <;> rfl
  have hi : ((View.whole main_v5_1).slice (win0_7.rect t)).emb y = ix3 (y 0) (row t (y 1)) (y 2) := by
    blk_ext [idx t, row]
  rw [hi]
  exact (congrArg _ hy).trans (left_block7 m c t (y 0) (y 1) (y 2))

/-- The arrays as the call leaves them. -/
def left : Valuation τ sig (Elt Ideal) :=
  Pipeline.withArrays (cfgs 0).spec c (V0 m c) fun w => (dats m 0 c).arrAt w (cfgs 0).N

theorem spec_inj : Function.Injective (Pipeline.arrRef (cfgs 0).spec) := by
  show Function.Injective (Pipeline.arrRef spec0)
  decide

theorem left7 : left m c (Proc.devRef .tc main_v5_1) = arr7 m c :=
  (Pipeline.withArrays_arr (cfgs 0).spec spec_inj c (V0 m c) (fun w => (dats m 0 c).arrAt w (cfgs 0).N) 7).trans (final7 m c)

theorem tail6 (n : Fin 128) (s : Fin 30) (j : Fin 1024) :
    Pipeline.afterTail₀ cfgs (dats m) 0 (V0 m) [hostOps1] c main_v6 (ix3 n s j) = arr7 m c (ix3 s n j) := by
  show StableHlo.after (List.flatten [hostOps1]) (left m c) (Proc.devRef .tc main_v6) (ix3 n s j) = _
  have h := left7 m c
  generalize left m c = W at h ⊢
  simp only [List.flatten_cons, List.flatten_nil, List.append_nil]
  after_reads_simp
  clean_types
  rw [h]
  generalize arr7 m c = y
  pointwise []

end Cert.Kernel6Ideal.Value

end

end
-- ==== Proof.SconvRef.lean ====
/- The reference of the convolution of the samples, row by row. -/
module

public import proofs.«01_k».proof.Proof.SconvRows
public import proofs.«01_k».proof.Proof.Gen.Reference6Ideal.Run
public import proofs.«01_k».proof.Proof.Gen.Reference6Ideal.Read

@[expose] public section

set_option maxRecDepth 16384

noncomputable section

open Idealize.ShloMosaic Idealize.ShloMosaic.TcCoe Idealize.SL.Sem

namespace Cert.Reference6Ideal.Value

open Cert.Reference6Ideal Cert.Reference6Ideal.Gen Cert.Rows Cert.Reference6Ideal.Read

variable (x0 : FVec Ideal S128x30x1024 .f32) (x1 : FVec Ideal S128x1x1024 .f32) (x2 : FVec Ideal S31x1024 .f32) (x3 x4 x5 : FVec Ideal S1024 .f32)

theorem row_old (n : Fin 128) (s : Fin 31) (k : Fin 1024) (h : s.val < 30) : val_main_v0 (F := Ideal) x0 x1 (ix3 n s k) = x0 (ix3 n ⟨s.val, h⟩ k) := by
  pointwise [val_main_v0]
  exact dif_pos h

theorem row_new (n : Fin 128) (s : Fin 31) (k : Fin 1024) (h : ¬ s.val < 30) : val_main_v0 (F := Ideal) x0 x1 (ix3 n s k) = x1 (ix3 n 0 k) := by
  pointwise [val_main_v0]
  exact (dif_neg h).trans (congrArg x1 (congrArg (fun u => ix3 n u k) (Subsingleton.elim (α := Fin 1) _ _)))

/-- The convolution at channel `k` of sample `n`. -/
def cRow (n : Fin 128) (k : Fin 1024) : EReal :=
  conv (fun s => x0 (ix3 n s k)) (x1 (ix3 n 0 k)) (fun s => x2 (ix2 s k)) (x3 (ix1 k))

theorem conv_apply (n : Fin 128) (k : Fin 1024) : val_main_v7 (F := Ideal) x0 x1 x2 x3 (ix2 n k) = cRow x0 x1 x2 x3 n k := by
  have h : ∀ s : Fin 31, val_main_v3 (F := Ideal) x0 x1 x2 (ix3 n s k) = val_main_v0 (F := Ideal) x0 x1 (ix3 n s k) * x2 (ix2 s k) := by
    intro s
    generalize hy : val_main_v0 (F := Ideal) x0 x1 = y
    pointwise [val_main_v3, val_main_v2, val_main_v1, hy]
  have h4 : val_main_v7 (F := Ideal) x0 x1 x2 x3 (ix2 n k) = (∑ s : Fin 31, val_main_v3 (F := Ideal) x0 x1 x2 (ix3 n s k)) + x3 (ix1 k) := by
    unfold val_main_v7 val_main_v4
    generalize val_main_v3 (F := Ideal) x0 x1 x2 = y
    pointwise [val_main_v5, val_main_v6, val_main_cst]
  rw [h4, Fin.sum_univ_castSucc]
  unfold cRow conv
  congr 1
  congr 1
  · refine Finset.sum_congr rfl fun s _ => ?_
    rw [h, row_old x0 x1 n _ k (by show s.val < 30; omega)]
    rfl
  · rw [h, row_new x0 x1 n _ k (by show ¬ 30 < 30; omega)]
    rfl

theorem gate_apply (n : Fin 128) (j : Fin 1024) : val_main_v30 (F := Ideal) x0 x1 x2 x3 x4 x5 (ix2 n j)
    = gate (cRow x0 x1 x2 x3 n) (fun k => x4 (ix1 k)) (fun k => x5 (ix1 k)) j := by
  have h : cRow x0 x1 x2 x3 n = fun k => val_main_v7 (F := Ideal) x0 x1 x2 x3 (ix2 n k) := funext fun k => (conv_apply x0 x1 x2 x3 n k).symm
  rw [h]
  unfold gate lnorm Ideal.logistic
  pointwise [val_main_cst_0, val_main_v8, val_main_v9, val_main_cst_1, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_call0_v0, val_main_call0_v1, val_main_call0_cst, val_main_call0_v2, val_main_call0_v3, val_main_call0_cst_0, val_main_call0_v4, val_main_call0_v5, val_main_v30]

theorem shift_apply (n : Fin 128) (s : Fin 30) (j : Fin 1024) : val_main_v31 (F := Ideal) x0 x1 (ix3 n s j)
    = if h : s.val < 29 then x0 (ix3 n ⟨s.val + 1, by omega⟩ j) else x1 (ix3 n 0 j) := by
  have h : val_main_v31 (F := Ideal) x0 x1 (ix3 n s j) = val_main_v0 (F := Ideal) x0 x1 (ix3 n ⟨s.val + 1, by omega⟩ j) := by
    unfold val_main_v31
    generalize val_main_v0 (F := Ideal) x0 x1 = y
    pointwise []
    exact congrArg y (congrArg (fun u => ix3 n u j) (Fin.ext (Nat.add_comm _ _)))
  rw [h]
  split
  · rw [row_old x0 x1 n _ j (by show s.val + 1 < 30; omega)]
  · rw [row_new x0 x1 n _ j (by show ¬ s.val + 1 < 30; omega)]

/-- The gated rows of every sample. -/
def gateWhole : FVec Ideal S128x1024 .f32 := fun i =>
  (fun (n : Fin 128) (j : Fin 1024) => gate (cRow x0 x1 x2 x3 n) (fun k => x4 (ix1 k)) (fun k => x5 (ix1 k)) j) (i 0) (i 1)

/-- The kept rows of every sample, moved up by one, the new one last. -/
def shiftWhole : FVec Ideal S128x30x1024 .f32 := fun i =>
  (fun (n : Fin 128) (s : Fin 30) (j : Fin 1024) => if h : s.val < 29 then x0 (ix3 n ⟨s.val + 1, by omega⟩ j) else x1 (ix3 n 0 j)) (i 0) (i 1) (i 2)

theorem gate_whole (y0 : FVec Ideal S128x30x1024 .f32) (y1 : FVec Ideal S128x1x1024 .f32) (y2 : FVec Ideal S31x1024 .f32) (y3 y4 y5 : FVec Ideal S1024 .f32)
    (h0 : x0 = y0) (h1 : x1 = y1) (h2 : x2 = y2) (h3 : x3 = y3) (h4 : x4 = y4) (h5 : x5 = y5) :
    val_main_v30 (F := Ideal) x0 x1 x2 x3 x4 x5 = gateWhole y0 y1 y2 y3 y4 y5 := by
  subst h0 h1 h2 h3 h4 h5
  funext i
  obtain ⟨n, j, rfl⟩ : ∃ (n : Fin 128) (j : Fin 1024), i = ix2 n j := ⟨i 0, i 1, by funext a; fin_cases a <;> rfl⟩
  exact gate_apply x0 x1 x2 x3 x4 x5 n j

theorem shift_whole (y0 : FVec Ideal S128x30x1024 .f32) (y1 : FVec Ideal S128x1x1024 .f32) (h0 : x0 = y0) (h1 : x1 = y1) :
    val_main_v31 (F := Ideal) x0 x1 = shiftWhole y0 y1 := by
  subst h0 h1
  funext i
  obtain ⟨n, s, j, rfl⟩ : ∃ (n : Fin 128) (s : Fin 30) (j : Fin 1024), i = ix3 n s j := ⟨i 0, i 1, i 2, by funext a; fin_cases a <;> rfl⟩
  exact shift_apply x0 x1 n s j

end Cert.Reference6Ideal.Value

end

end
-- ==== Proof.SconvBoth.lean ====
/- The convolution of the samples and its reference, entry against entry. -/
module

public import proofs.«01_k».proof.Defs
public import proofs.«01_k».proof.Proof.SconvFinal
public import proofs.«01_k».proof.Proof.SconvRef
public import proofs.«01_k».proof.Proof.Gen.Reference6Ideal.Run
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen Cert.Rows

section

variable (m : (ℓ : Loc nD τ sig) → Buf (Elt Ideal) ℓ) (c : Dev nD)

theorem shiftLeft : Pipeline.afterTail₀ cfgs (dats m) 0 (V0 m) [hostOps1] c main_v6
    = Cert.Reference6Ideal.Value.shiftWhole (m ((c : Thread nD τ).loc main_arg0)) (m ((c : Thread nD τ).loc main_arg1)) := by
  funext i
  obtain ⟨n, s, j, rfl⟩ : ∃ (n : Fin 128) (s : Fin 30) (j : Fin 1024), i = ix3 n s j := ⟨i 0, i 1, i 2, by funext a; fin_cases a <;> rfl⟩
  exact tail6 m c n s j

theorem gateLeft : (dats m 0 c).arrAt 6 cfg0.N
    = Cert.Reference6Ideal.Value.gateWhole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (final6 m c).trans rfl

end

attribute [local instance] Cert.Kernel6Ideal.Gen.facts Cert.Reference6Ideal.Gen.facts

/-- Both programs end with the same gated rows and the same kept rows. -/
theorem algebraic : Cert.algebraic_Kernel6Ideal_Reference6Ideal := by
  intro m g m' g' hpre hagree
  refine ⟨fun c => Cert.Reference6Ideal.Value.gateWhole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => Cert.Reference6Ideal.Value.shiftWhole (m ((c : Thread nD τ).loc main_arg0)) (m ((c : Thread nD τ).loc main_arg1)), ?_, ?_⟩
  · refine (θ_run _ _ _).mono (fun r h c => ?_) (θ_run_and (Cert.Kernel6Ideal.Gen.run_main m g) (Cert.Kernel6Ideal.Gen.unchanged m g))
    obtain ⟨h, u⟩ := h
    have rest := fun (b : Ref sig .tc) hu hs => (h c).2 b (Pipeline.mem_restRefs_of b hu hs)
    exact ⟨((h c).1 6).trans (gateLeft m c), (rest main_v6 (by decide) (by decide)).trans (shiftLeft m c), u c⟩
  · refine (θ_run _ _ _).mono (fun r h c => ?_) (Cert.Reference6Ideal.Value.run m' g')
    obtain ⟨h0, h1, h2, h3, h4, h5⟩ := hagree c
    obtain ⟨r0, r1, ra⟩ := h c
    exact ⟨r0.trans ((Cert.Reference6Ideal.Read.val_main_v30_eq _ _).trans (Cert.Reference6Ideal.Value.gate_whole _ _ _ _ _ _ _ _ _ _ _ _ h0 h1 h2 h3 h4 h5)),
      r1.trans ((Cert.Reference6Ideal.Read.val_main_v31_eq _ _).trans (Cert.Reference6Ideal.Value.shift_whole _ _ _ _ h0 h1)), ra⟩

end Cert.Kernel6Ideal.Value

end

end
-- ==== Proof.lean ====
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_some_denominator
public import proofs.«01_k».proof.Proof.PostBoth
public import proofs.«01_k».proof.Proof.InprojBoth
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_some_denominator_sample
public import proofs.«01_k».proof.Proof.SampleBoth
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.CacheBoth
public import proofs.«01_k».proof.Proof.SconvBoth
public import Idealize.ShloMosaic.Adequacy
public import Idealize.ShloMosaic.Init

@[expose] public section

noncomputable section

namespace Cert.Proof

open Idealize.ShloMosaic Idealize.SL.Sem

attribute [local instance] Cert.Kernel2Ideal.Gen.facts Cert.Reference2Ideal.Gen.facts Cert.Reference3Ideal.Gen.facts Cert.Kernel4Ideal.Gen.facts Cert.Reference4Ideal.Gen.facts Cert.Kernel5Ideal.Gen.facts Cert.Reference5Ideal.Gen.facts Cert.Kernel6Ideal.Gen.facts Cert.Reference6Ideal.Gen.facts

/-- The reference of the closing call runs and leaves its arguments as they were. -/
theorem frame_reference2 : Cert.quiescent_Reference2Ideal := by
  intro m g _
  exact (θ_run _ _ _).mono (fun r h => ⟨fun c => (h c).2, sem_eq_zero_of_no_sems (by decide) r.2⟩) (Cert.Reference2Ideal.Value.run m g)

/-- The reference of the opening call runs and leaves its arguments as they were. -/
theorem frame_reference3 : Cert.quiescent_Reference3Ideal := by
  intro m g _
  exact (θ_run _ _ _).mono (fun r h => ⟨fun c => (h c).2.2.2.2.2.2.2.2.2, sem_eq_zero_of_no_sems (by decide) r.2⟩) (Cert.Reference3Ideal.Value.run m g)

/-- The reference of the closing call on the samples runs and leaves its arguments as they were. -/
theorem frame_reference4 : Cert.quiescent_Reference4Ideal := by
  intro m g _
  exact (θ_run _ _ _).mono (fun r h => ⟨fun c => (h c).2, sem_eq_zero_of_no_sems (by decide) r.2⟩) (Cert.Reference4Ideal.Value.run m g)

/-- The reference of the kept keys and values runs and leaves its arguments as they were. -/
theorem frame_reference5 : Cert.quiescent_Reference5Ideal := by
  intro m g _
  exact (θ_run _ _ _).mono (fun r h => ⟨fun c => (h c).2.2.2, sem_eq_zero_of_no_sems (by decide) r.2⟩) (Cert.Reference5Ideal.Value.run m g)

/-- The reference of the samples' convolution runs and leaves its arguments as they were. -/
theorem frame_reference6 : Cert.quiescent_Reference6Ideal := by
  intro m g _
  exact (θ_run _ _ _).mono (fun r h => ⟨fun c => (h c).2.2, sem_eq_zero_of_no_sems (by decide) r.2⟩) (Cert.Reference6Ideal.Value.run m g)

theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_some_denominator.Gen.facts, Cert.Pre_some_denominator_sample.Gen.facts,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  fun m ρ _ => Cert.Kernel4Ideal.Gen.frame m ρ,
  frame_reference4,
  fun m ρ _ => frame_reference4 m ρ trivial,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  trivial,
  Cert.Post.algebraic (hpre_ := Cert.Pre_some_denominator.Gen.facts),
  trivial,
  Cert.Kernel3Ideal.Value.algebraic,
  trivial,
  Cert.PostSample.algebraic (hpre_ := Cert.Pre_some_denominator_sample.Gen.facts),
  trivial,
  Cert.Kernel5Ideal.Value.algebraic,
  trivial,
  Cert.Kernel6Ideal.Value.algebraic⟩

end Cert.Proof

end
